-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_rotations [hPre_proper_rotations : Cert.Pre_proper_rotations.Facts] (m : (ℓ : Loc Cert.KernelIdeal.nD Cert.KernelIdeal.τ Cert.KernelIdeal.sig) → Buf (Elt Ideal) ℓ) : Prop :=
  ∀ c : Dev Cert.KernelIdeal.nD,
    (Cert.Pre_proper_rotations.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_proper_rotations.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_rotations [hPre_proper_rotations : Cert.Pre_proper_rotations.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_rotations.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_proper_rotations.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_proper_rotations [hKernelIdeal : Cert.KernelIdeal.Facts] [hPre_proper_rotations : Cert.Pre_proper_rotations.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_rotations m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_proper_rotations [hReferenceIdeal : Cert.ReferenceIdeal.Facts] [hPre_proper_rotations : Cert.Pre_proper_rotations.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_rotations m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_proper_rotations [hKernelIdeal : Cert.KernelIdeal.Facts] [hReferenceIdeal : Cert.ReferenceIdeal.Facts] [hPre_proper_rotations : Cert.Pre_proper_rotations.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_rotations m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v349) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_proper_rotations : Cert.Pre_proper_rotations.Facts),
    quiescent_Kernel (hKernel := hKernel)
    ∧ quiescent_KernelIdeal (hKernelIdeal := hKernelIdeal)
    ∧ quiescent_KernelIdeal_pre_proper_rotations (hKernelIdeal := hKernelIdeal) (hPre_proper_rotations := hPre_proper_rotations)
    ∧ quiescent_ReferenceIdeal (hReferenceIdeal := hReferenceIdeal)
    ∧ quiescent_ReferenceIdeal_pre_proper_rotations (hReferenceIdeal := hReferenceIdeal) (hPre_proper_rotations := hPre_proper_rotations)
    ∧ preserves_Kernel_KernelIdeal
    ∧ algebraic_KernelIdeal_ReferenceIdeal_pre_proper_rotations (hKernelIdeal := hKernelIdeal) (hReferenceIdeal := hReferenceIdeal) (hPre_proper_rotations := hPre_proper_rotations)
-- ==== Pre_proper_rotations.lean ====
abbrev S4096x3 : Shape := ⟨2, ![4096, 3]⟩
abbrev S4096 : Shape := ⟨1, ![4096]⟩
abbrev S4096x4 : Shape := ⟨2, ![4096, 4]⟩
abbrev S4 : Shape := ⟨1, ![4]⟩
abbrev S3 : Shape := ⟨1, ![3]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel
  bcast_S_S4096x4 : S_.BroadcastsInDim S4096x4 (![] : Fin 0 → Fin S4096x4.rank)
  reducesTo_S4096x4_S4096_d1 : S4096x4.ReducesTo [1] S4096

variable [Facts]

def fn {F : FTy → Type} [FloatOps F] (main_arg0 : FVec F S4096x3 .f32) (main_arg1 : FVec F S4096x3 .f32) (main_arg2 : FVec F S4096 .f32) (main_arg3 : FVec F S4096x4 .f32) (main_arg4 : FVec F S4096x3 .f32) (main_arg5 : FVec F S4 .f32) (main_arg6 : FVec F S3 .f32) : IVec S_ 1 × IVec S4096 1 :=
  let main_cst : FVec F S_ .f32 := constant S_ .f32 0x00000000#32
  let main_v0 : FVec F S4 .f32 := broadcastInDim S4 ![] bcast_S_S4 main_cst
  let main_v1 : IVec S4 1 := cmpf .une main_arg5 main_v0
  let main_c : IVec S_ 1 := constantI S_ 1 0#1
  let main_v2 : IVec S_ 1 := (fun x v => Host.reduce IntOp.ori x v reducesTo_S4_S_d0 h_S_) main_v1 main_c
  let main_cst_0 : FVec F S_ .f32 := constant S_ .f32 0x00000000#32
  let main_v3 : FVec F S4096x4 .f32 := broadcastInDim S4096x4 ![] bcast_S_S4096x4 main_cst_0
  let main_v4 : IVec S4096x4 1 := cmpf .une main_arg3 main_v3
  let main_c_1 : IVec S_ 1 := constantI S_ 1 0#1
  let main_v5 : IVec S4096 1 := (fun x v => Host.reduce IntOp.ori x v reducesTo_S4096x4_S4096_d1 h_S_) main_v4 main_c_1
  (main_v2, main_v5)
-- ==== Kernel.lean ====
abbrev S4096x3 : Shape := ⟨2, ![4096, 3]⟩
abbrev S4096 : Shape := ⟨1, ![4096]⟩
abbrev S4096x4 : Shape := ⟨2, ![4096, 4]⟩
abbrev S4 : Shape := ⟨1, ![4]⟩
abbrev S3 : Shape := ⟨1, ![3]⟩
abbrev S_ : Shape := ⟨0, ![]⟩
abbrev S1 : Shape := ⟨1, ![1]⟩
abbrev S9 : Shape := ⟨1, ![9]⟩
abbrev S3x3 : Shape := ⟨2, ![3, 3]⟩
abbrev S1x3 : Shape := ⟨2, ![1, 3]⟩
abbrev S4096x1 : Shape := ⟨2, ![4096, 1]⟩
abbrev S16x4096 : Shape := ⟨2, ![16, 4096]⟩
abbrev S3x4096 : Shape := ⟨2, ![3, 4096]⟩
abbrev S4x4096 : Shape := ⟨2, ![4, 4096]⟩
abbrev S4096x8 : Shape := ⟨2, ![4096, 8]⟩
abbrev S8x512 : Shape := ⟨2, ![8, 512]⟩
abbrev S1x9 : Shape := ⟨2, ![1, 9]⟩
abbrev S8x4096 : Shape := ⟨2, ![8, 4096]⟩
abbrev S512x8 : Shape := ⟨2, ![512, 8]⟩
abbrev S1x4096 : Shape := ⟨2, ![1, 4096]⟩
abbrev S1x1 : Shape := ⟨2, ![1, 1]⟩
abbrev S1x512 : Shape := ⟨2, ![1, 512]⟩
abbrev S4096x512 : Shape := ⟨2, ![4096, 512]⟩
abbrev S1024x8 : Shape := ⟨2, ![1024, 8]⟩
abbrev S1024x1 : Shape := ⟨2, ![1024, 1]⟩
abbrev S1024x512 : Shape := ⟨2, ![1024, 512]⟩
abbrev S1024x511 : Shape := ⟨2, ![1024, 511]⟩
abbrev S1024x2 : Shape := ⟨2, ![1024, 2]⟩
abbrev S1024x510 : Shape := ⟨2, ![1024, 510]⟩
abbrev S1024x4 : Shape := ⟨2, ![1024, 4]⟩
abbrev S1024x508 : Shape := ⟨2, ![1024, 508]⟩
abbrev S1024x504 : Shape := ⟨2, ![1024, 504]⟩
abbrev S1024x16 : Shape := ⟨2, ![1024, 16]⟩
abbrev S1024x496 : Shape := ⟨2, ![1024, 496]⟩
abbrev S1024x32 : Shape := ⟨2, ![1024, 32]⟩
abbrev S1024x480 : Shape := ⟨2, ![1024, 480]⟩
abbrev S1024x64 : Shape := ⟨2, ![1024, 64]⟩
abbrev S1024x448 : Shape := ⟨2, ![1024, 448]⟩
abbrev S1024x128 : Shape := ⟨2, ![1024, 128]⟩
abbrev S1024x384 : Shape := ⟨2, ![1024, 384]⟩
abbrev S1024x256 : Shape := ⟨2, ![1024, 256]⟩
abbrev S64x64x3 : Shape := ⟨3, ![64, 64, 3]⟩

abbrev nBuf : Space → Nat
  | .hbm => 122
  | .vmem => 15
  | .smem => 1
  | _ => 0

abbrev bufTy : (tb : Table) → Fin (tcTables nBuf tb) → BufTy
  | .hbm, ⟨0, _⟩ => ⟨S4096x3, .f32⟩
  | .hbm, ⟨1, _⟩ => ⟨S4096x3, .f32⟩
  | .hbm, ⟨2, _⟩ => ⟨S4096, .f32⟩
  | .hbm, ⟨3, _⟩ => ⟨S4096x4, .f32⟩
  | .hbm, ⟨4, _⟩ => ⟨S4096x3, .f32⟩
  | .hbm, ⟨5, _⟩ => ⟨S4, .f32⟩
  | .hbm, ⟨6, _⟩ => ⟨S3, .f32⟩
  | .hbm, ⟨7, _⟩ => ⟨S4, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S1, .f32⟩
  | .hbm, ⟨73, _⟩ => ⟨S1, .f32⟩
  | .hbm, ⟨74, _⟩ => ⟨S1, .f32⟩
  | .hbm, ⟨75, _⟩ => ⟨S1, .f32⟩
  | .hbm, ⟨76, _⟩ => ⟨S1, .f32⟩
  | .hbm, ⟨77, _⟩ => ⟨S1, .f32⟩
  | .hbm, ⟨78, _⟩ => ⟨S1, .f32⟩
  | .hbm, ⟨79, _⟩ => ⟨S1, .f32⟩
  | .hbm, ⟨80, _⟩ => ⟨S1, .f32⟩
  | .hbm, ⟨81, _⟩ => ⟨S9, .f32⟩
  | .hbm, ⟨82, _⟩ => ⟨S3x3, .f32⟩
  | .hbm, ⟨83, _⟩ => ⟨S3x3, .f32⟩
  | .hbm, ⟨84, _⟩ => ⟨S4096x3, .f32⟩
  | .hbm, ⟨85, _⟩ => ⟨S1x3, .f32⟩
  | .hbm, ⟨86, _⟩ => ⟨S4096x3, .f32⟩
  | .hbm, ⟨87, _⟩ => ⟨S4096x3, .f32⟩
  | .hbm, ⟨88, _⟩ => ⟨S4096x1, .f32⟩
  | .hbm, ⟨89, _⟩ => ⟨S4096, .f32⟩
  | .hbm, ⟨90, _⟩ => ⟨S4096, .i32⟩
  | .hbm, ⟨91, _⟩ => ⟨S4096, .f32⟩
  | .hbm, ⟨92, _⟩ => ⟨S4096, .i32⟩
  | .hbm, ⟨93, _⟩ => ⟨S_, .f32⟩
  | .hbm, ⟨94, _⟩ => ⟨S16x4096, .f32⟩
  | .hbm, ⟨95, _⟩ => ⟨S3x4096, .f32⟩
  | .hbm, ⟨96, _⟩ => ⟨S_, .i32⟩
  | .hbm, ⟨97, _⟩ => ⟨S1, .i32⟩
  | .hbm, ⟨98, _⟩ => ⟨S16x4096, .f32⟩
  | .hbm, ⟨99, _⟩ => ⟨S4x4096, .f32⟩
  | .hbm, ⟨100, _⟩ => ⟨S_, .i32⟩
  | .hbm, ⟨101, _⟩ => ⟨S1, .i32⟩
  | .hbm, ⟨102, _⟩ => ⟨S16x4096, .f32⟩
  | .hbm, ⟨103, _⟩ => ⟨S3x4096, .f32⟩
  | .hbm, ⟨104, _⟩ => ⟨S_, .i32⟩
  | .hbm, ⟨105, _⟩ => ⟨S1, .i32⟩
  | .hbm, ⟨106, _⟩ => ⟨S16x4096, .f32⟩
  | .hbm, ⟨107, _⟩ => ⟨S_, .i32⟩
  | .hbm, ⟨108, _⟩ => ⟨S1, .i32⟩
  | .hbm, ⟨109, _⟩ => ⟨S16x4096, .f32⟩
  | .hbm, ⟨110, _⟩ => ⟨S_, .f32⟩
  | .hbm, ⟨111, _⟩ => ⟨S4096x8, .f32⟩
  | .hbm, ⟨112, _⟩ => ⟨S_, .i32⟩
  | .hbm, ⟨113, _⟩ => ⟨S1, .i32⟩
  | .hbm, ⟨114, _⟩ => ⟨S4096x8, .f32⟩
  | .hbm, ⟨115, _⟩ => ⟨S8x512, .i32⟩
  | .hbm, ⟨116, _⟩ => ⟨S1x9, .f32⟩
  | .hbm, ⟨117, _⟩ => ⟨S8x4096, .f32⟩
  | .hbm, ⟨118, _⟩ => ⟨S4096x8, .f32⟩
  | .hbm, ⟨119, _⟩ => ⟨S4096x8, .f32⟩
  | .hbm, ⟨120, _⟩ => ⟨S4096x3, .f32⟩
  | .hbm, ⟨121, _⟩ => ⟨S64x64x3, .f32⟩
  | .local _ .vmem, ⟨0, _⟩ => ⟨S16x4096, .f32⟩
  | .local _ .vmem, ⟨1, _⟩ => ⟨S8x512, .i32⟩
  | .local _ .vmem, ⟨2, _⟩ => ⟨S4096x8, .f32⟩
  | .local _ .vmem, ⟨3, _⟩ => ⟨S8x512, .f32⟩
  | .local _ .vmem, ⟨4, _⟩ => ⟨S8x512, .f32⟩
  | .local _ .vmem, ⟨5, _⟩ => ⟨S512x8, .f32⟩
  | .local _ .vmem, ⟨6, _⟩ => ⟨S512x8, .f32⟩
  | .local _ .vmem, ⟨7, _⟩ => ⟨S8x4096, .f32⟩
  | .local _ .vmem, ⟨8, _⟩ => ⟨S8x512, .f32⟩
  | .local _ .vmem, ⟨9, _⟩ => ⟨S8x512, .f32⟩
  | .local _ .vmem, ⟨10, _⟩ => ⟨S512x8, .f32⟩
  | .local _ .vmem, ⟨11, _⟩ => ⟨S512x8, .f32⟩
  | .local _ .vmem, ⟨12, _⟩ => ⟨S1024x8, .f32⟩
  | .local _ .vmem, ⟨13, _⟩ => ⟨S1024x8, .f32⟩
  | .local _ .vmem, ⟨14, _⟩ => ⟨S1024x1, .f32⟩
  | .local _ .smem, ⟨0, _⟩ => ⟨S1x9, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call1_v0 : Ref sig .tc := ⟨.hbm, 90, rfl⟩
abbrev main_call1_v1_0 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_c : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_13 : Ref sig .tc := ⟨.hbm, 104, rfl⟩
abbrev main_v77 : Ref sig .tc := ⟨.hbm, 105, rfl⟩
abbrev main_v78 : Ref sig .tc := ⟨.hbm, 106, rfl⟩
abbrev main_c_14 : Ref sig .tc := ⟨.hbm, 107, rfl⟩
abbrev main_v79 : Ref sig .tc := ⟨.hbm, 108, rfl⟩
abbrev main_v80 : Ref sig .tc := ⟨.hbm, 109, rfl⟩
abbrev main_cst_15 : Ref sig .tc := ⟨.hbm, 110, rfl⟩
abbrev main_v81 : Ref sig .tc := ⟨.hbm, 111, rfl⟩
abbrev main_c_16 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86_0 : Ref sig .tc := ⟨.hbm, 117, rfl⟩
abbrev main_v86_1 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v3 : Index := Scalar.indexCast arg0
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x9 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]
-- ==== ReferenceIdeal.lean ====
abbrev S4096x3 : Shape := ⟨2, ![4096, 3]⟩
abbrev S4096 : Shape := ⟨1, ![4096]⟩
abbrev S4096x4 : Shape := ⟨2, ![4096, 4]⟩
abbrev S4 : Shape := ⟨1, ![4]⟩
abbrev S3 : Shape := ⟨1, ![3]⟩
abbrev S_ : Shape := ⟨0, ![]⟩
abbrev S1 : Shape := ⟨1, ![1]⟩
abbrev S9 : Shape := ⟨1, ![9]⟩
abbrev S3x3 : Shape := ⟨2, ![3, 3]⟩
abbrev S1x3 : Shape := ⟨2, ![1, 3]⟩
abbrev S4096x1 : Shape := ⟨2, ![4096, 1]⟩
abbrev S4096x9 : Shape := ⟨2, ![4096, 9]⟩
abbrev S4096x3x3 : Shape := ⟨3, ![4096, 3, 3]⟩
abbrev S4096x1x3 : Shape := ⟨3, ![4096, 1, 3]⟩
abbrev S4096x2x3 : Shape := ⟨3, ![4096, 2, 3]⟩
abbrev S4096x3x2 : Shape := ⟨3, ![4096, 3, 2]⟩
abbrev S4096x2x2 : Shape := ⟨3, ![4096, 2, 2]⟩
abbrev S2x2 : Shape := ⟨2, ![2, 2]⟩
abbrev S1x2x2 : Shape := ⟨3, ![1, 2, 2]⟩
abbrev S4096x2 : Shape := ⟨2, ![4096, 2]⟩
abbrev S4096x1x1 : Shape := ⟨3, ![4096, 1, 1]⟩
abbrev S64 : Shape := ⟨1, ![64]⟩
abbrev S64x64 : Shape := ⟨2, ![64, 64]⟩
abbrev S1x4096 : Shape := ⟨2, ![1, 4096]⟩
abbrev S4096x4096 : Shape := ⟨2, ![4096, 4096]⟩
abbrev S4096x4095 : Shape := ⟨2, ![4096, 4095]⟩
abbrev S64x64x3 : Shape := ⟨3, ![64, 64, 3]⟩

abbrev nBuf : Space → Nat
  | .hbm => 436
  | .vmem => 0
  | .smem => 0
  | _ => 0

abbrev hbmTy0_0 (i : Nat) : BufTy := match i % 128 with
  | 0 => ⟨S4096x3, .f32⟩
  | 1 => ⟨S4096x3, .f32⟩
  | 2 => ⟨S4096, .f32⟩
  | 3 => ⟨S4096x4, .f32⟩
  | 4 => ⟨S4096x3, .f32⟩
  | 5 => ⟨S4, .f32⟩
  | 6 => ⟨S3, .f32⟩
  | 7 => ⟨S4, .f32⟩
  | 8 => ⟨S_, .f32⟩
  | 9 => ⟨S_, .f32⟩
  | 10 => ⟨S_, .f32⟩
  | 11 => ⟨S4, .f32⟩
  | 12 => ⟨S4, .f32⟩
  | 13 => ⟨S1, .f32⟩
  | 14 => ⟨S_, .f32⟩
  | 15 => ⟨S1, .f32⟩
  | 16 => ⟨S_, .f32⟩
  | 17 => ⟨S1, .f32⟩
  | 18 => ⟨S_, .f32⟩
  | 19 => ⟨S1, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S1, .f32⟩
  | 73 => ⟨S1, .f32⟩
  | 74 => ⟨S1, .f32⟩
  | 75 => ⟨S1, .f32⟩
  | 76 => ⟨S1, .f32⟩
  | 77 => ⟨S1, .f32⟩
  | 78 => ⟨S1, .f32⟩
  | 79 => ⟨S1, .f32⟩
  | 80 => ⟨S1, .f32⟩
  | 81 => ⟨S9, .f32⟩
  | 82 => ⟨S3x3, .f32⟩
  | 83 => ⟨S3x3, .f32⟩
  | 84 => ⟨S4096x3, .f32⟩
  | 85 => ⟨S1x3, .f32⟩
  | 86 => ⟨S4096x3, .f32⟩
  | 87 => ⟨S4096x3, .f32⟩
  | 88 => ⟨S4096x1, .f32⟩
  | 89 => ⟨S4096, .f32⟩
  | 90 => ⟨S4096x1, .f32⟩
  | 91 => ⟨S4096, .f32⟩
  | 92 => ⟨S4096x1, .f32⟩
  | 93 => ⟨S4096, .f32⟩
  | 94 => ⟨S_, .f32⟩
  | 95 => ⟨S4096, .f32⟩
  | 96 => ⟨S4096, .f32⟩
  | 97 => ⟨S_, .f32⟩
  | 98 => ⟨S4096, .f32⟩
  | 99 => ⟨S4096, .i1⟩
  | 100 => ⟨S4096, .f32⟩
  | 101 => ⟨S4096, .f32⟩
  | 102 => ⟨S_, .f32⟩
  | 103 => ⟨S4096, .f32⟩
  | 104 => ⟨S4096, .i1⟩
  | 105 => ⟨S4096, .i1⟩
  | 106 => ⟨S4096, .f32⟩
  | 107 => ⟨S4096, .f32⟩
  | 108 => ⟨S_, .f32⟩
  | 109 => ⟨S4096, .f32⟩
  | 110 => ⟨S4096, .i1⟩
  | 111 => ⟨S4096, .i1⟩
  | 112 => ⟨S4096x4, .f32⟩
  | 113 => ⟨S_, .f32⟩
  | 114 => ⟨S4096, .f32⟩
  | 115 => ⟨S4096x1, .f32⟩
  | 116 => ⟨S4096x1, .f32⟩
  | 117 => ⟨S4096x4, .f32⟩
  | 118 => ⟨S4096x4, .f32⟩
  | 119 => ⟨S4096x1, .f32⟩
  | 120 => ⟨S4096, .f32⟩
  | 121 => ⟨S4096x1, .f32⟩
  | 122 => ⟨S4096, .f32⟩
  | 123 => ⟨S4096x1, .f32⟩
  | 124 => ⟨S4096, .f32⟩
  | 125 => ⟨S4096x1, .f32⟩
  | 126 => ⟨S4096, .f32⟩
  | 127 => ⟨S4096, .f32⟩
  | _ => ⟨S4096x3, .f32⟩

abbrev hbmTy0_1 (i : Nat) : BufTy := match i % 128 with
  | 0 => ⟨S4096, .f32⟩
  | 1 => ⟨S4096, .f32⟩
  | 2 => ⟨S_, .f32⟩
  | 3 => ⟨S4096, .f32⟩
  | 4 => ⟨S4096, .f32⟩
  | 5 => ⟨S_, .f32⟩
  | 6 => ⟨S4096, .f32⟩
  | 7 => ⟨S4096, .f32⟩
  | 8 => ⟨S4096, .f32⟩
  | 9 => ⟨S4096, .f32⟩
  | 10 => ⟨S4096, .f32⟩
  | 11 => ⟨S_, .f32⟩
  | 12 => ⟨S4096, .f32⟩
  | 13 => ⟨S4096, .f32⟩
  | 14 => ⟨S4096, .f32⟩
  | 15 => ⟨S4096, .f32⟩
  | 16 => ⟨S4096, .f32⟩
  | 17 => ⟨S_, .f32⟩
  | 18 => ⟨S4096, .f32⟩
  | 19 => ⟨S4096, .f32⟩
  | 20 => ⟨S4096, .f32⟩
  | 21 => ⟨S4096, .f32⟩
  | 22 => ⟨S4096, .f32⟩
  | 23 => ⟨S_, .f32⟩
  | 24 => ⟨S4096, .f32⟩
  | 25 => ⟨S4096, .f32⟩
  | 26 => ⟨S4096, .f32⟩
  | 27 => ⟨S4096, .f32⟩
  | 28 => ⟨S4096, .f32⟩
  | 29 => ⟨S_, .f32⟩
  | 30 => ⟨S4096, .f32⟩
  | 31 => ⟨S4096, .f32⟩
  | 32 => ⟨S_, .f32⟩
  | 33 => ⟨S4096, .f32⟩
  | 34 => ⟨S4096, .f32⟩
  | 35 => ⟨S4096, .f32⟩
  | 36 => ⟨S4096, .f32⟩
  | 37 => ⟨S4096, .f32⟩
  | 38 => ⟨S_, .f32⟩
  | 39 => ⟨S4096, .f32⟩
  | 40 => ⟨S4096, .f32⟩
  | 41 => ⟨S4096, .f32⟩
  | 42 => ⟨S4096, .f32⟩
  | 43 => ⟨S4096, .f32⟩
  | 44 => ⟨S_, .f32⟩
  | 45 => ⟨S4096, .f32⟩
  | 46 => ⟨S4096, .f32⟩
  | 47 => ⟨S4096, .f32⟩
  | 48 => ⟨S4096, .f32⟩
  | 49 => ⟨S4096, .f32⟩
  | 50 => ⟨S_, .f32⟩
  | 51 => ⟨S4096, .f32⟩
  | 52 => ⟨S4096, .f32⟩
  | 53 => ⟨S4096, .f32⟩
  | 54 => ⟨S4096, .f32⟩
  | 55 => ⟨S4096, .f32⟩
  | 56 => ⟨S_, .f32⟩
  | 57 => ⟨S4096, .f32⟩
  | 58 => ⟨S4096, .f32⟩
  | 59 => ⟨S_, .f32⟩
  | 60 => ⟨S4096, .f32⟩
  | 61 => ⟨S4096, .f32⟩
  | 62 => ⟨S4096x1, .f32⟩
  | 63 => ⟨S4096x1, .f32⟩
  | 64 => ⟨S4096x1, .f32⟩
  | 65 => ⟨S4096x1, .f32⟩
  | 66 => ⟨S4096x1, .f32⟩
  | 67 => ⟨S4096x1, .f32⟩
  | 68 => ⟨S4096x1, .f32⟩
  | 69 => ⟨S4096x1, .f32⟩
  | 70 => ⟨S4096x1, .f32⟩
  | 71 => ⟨S4096x9, .f32⟩
  | 72 => ⟨S4096x3x3, .f32⟩
  | 73 => ⟨S4096x3, .f32⟩
  | 74 => ⟨S4096x3, .f32⟩
  | 75 => ⟨S_, .f32⟩
  | 76 => ⟨S4096x3, .f32⟩
  | 77 => ⟨S4096x3, .f32⟩
  | 78 => ⟨S_, .f32⟩
  | 79 => ⟨S4096x3, .f32⟩
  | 80 => ⟨S4096x3, .f32⟩
  | 81 => ⟨S4096x1x3, .f32⟩
  | 82 => ⟨S4096x3x3, .f32⟩
  | 83 => ⟨S4096x3x3, .f32⟩
  | 84 => ⟨S4096x3x3, .f32⟩
  | 85 => ⟨S4096x3x3, .f32⟩
  | 86 => ⟨S4096x3x3, .f32⟩
  | 87 => ⟨S4096x3x3, .f32⟩
  | 88 => ⟨S_, .f32⟩
  | 89 => ⟨S4096, .f32⟩
  | 90 => ⟨S_, .f32⟩
  | 91 => ⟨S4096, .f32⟩
  | 92 => ⟨S4096, .f32⟩
  | 93 => ⟨S_, .f32⟩
  | 94 => ⟨S4096, .f32⟩
  | 95 => ⟨S4096, .f32⟩
  | 96 => ⟨S4096, .f32⟩
  | 97 => ⟨S4096, .f32⟩
  | 98 => ⟨S4096x1, .f32⟩
  | 99 => ⟨S4096x1, .f32⟩
  | 100 => ⟨S4096x1, .f32⟩
  | 101 => ⟨S4096x3, .f32⟩
  | 102 => ⟨S_, .f32⟩
  | 103 => ⟨S4096, .f32⟩
  | 104 => ⟨S4096, .f32⟩
  | 105 => ⟨S_, .f32⟩
  | 106 => ⟨S4096, .f32⟩
  | 107 => ⟨S4096, .f32⟩
  | 108 => ⟨S4096, .f32⟩
  | 109 => ⟨S4096, .f32⟩
  | 110 => ⟨S4096x1, .f32⟩
  | 111 => ⟨S4096x1, .f32⟩
  | 112 => ⟨S4096x1, .f32⟩
  | 113 => ⟨S4096x3, .f32⟩
  | 114 => ⟨S4096x1x3, .f32⟩
  | 115 => ⟨S4096x1x3, .f32⟩
  | 116 => ⟨S4096x2x3, .f32⟩
  | 117 => ⟨S4096x3x2, .f32⟩
  | 118 => ⟨S4096x2x2, .f32⟩
  | 119 => ⟨S2x2, .i32⟩
  | 120 => ⟨S2x2, .i32⟩
  | 121 => ⟨S_, .i32⟩
  | 122 => ⟨S2x2, .i32⟩
  | 123 => ⟨S2x2, .i32⟩
  | 124 => ⟨S2x2, .i1⟩
  | 125 => ⟨S2x2, .f32⟩
  | 126 => ⟨S_, .f32⟩
  | 127 => ⟨S2x2, .f32⟩
  | _ => ⟨S4096x3, .f32⟩

abbrev hbmTy0_2 (i : Nat) : BufTy := match i % 128 with
  | 0 => ⟨S2x2, .f32⟩
  | 1 => ⟨S1x2x2, .f32⟩
  | 2 => ⟨S4096x2x2, .f32⟩
  | 3 => ⟨S4096x2x2, .f32⟩
  | 4 => ⟨S_, .f32⟩
  | 5 => ⟨S4096, .f32⟩
  | 6 => ⟨S4096, .f32⟩
  | 7 => ⟨S4096, .f32⟩
  | 8 => ⟨S_, .f32⟩
  | 9 => ⟨S4096, .f32⟩
  | 10 => ⟨S4096, .f32⟩
  | 11 => ⟨S_, .f32⟩
  | 12 => ⟨S4096, .f32⟩
  | 13 => ⟨S4096, .f32⟩
  | 14 => ⟨S4096, .f32⟩
  | 15 => ⟨S_, .f32⟩
  | 16 => ⟨S4096, .f32⟩
  | 17 => ⟨S4096, .f32⟩
  | 18 => ⟨S4096x1, .f32⟩
  | 19 => ⟨S4096x1, .f32⟩
  | 20 => ⟨S4096x2, .f32⟩
  | 21 => ⟨S4096, .i32⟩
  | 22 => ⟨S4096, .f32⟩
  | 23 => ⟨S4096, .i32⟩
  | 24 => ⟨S_, .i32⟩
  | 25 => ⟨S4096, .i32⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S4096x2, .f32⟩
  | 33 => ⟨S_, .i32⟩
  | 34 => ⟨S4096, .i32⟩
  | 35 => ⟨S4096, .i1⟩
  | 36 => ⟨S_, .i32⟩
  | 37 => ⟨S4096, .i32⟩
  | 38 => ⟨S4096, .i32⟩
  | 39 => ⟨S4096, .i32⟩
  | 40 => ⟨S4096x1, .i32⟩
  | 41 => ⟨S4096x2x2, .f32⟩
  | 42 => ⟨S_, .i32⟩
  | 43 => ⟨S4096, .i32⟩
  | 44 => ⟨S4096, .i1⟩
  | 45 => ⟨S_, .i32⟩
  | 46 => ⟨S4096, .i32⟩
  | 47 => ⟨S4096, .i32⟩
  | 48 => ⟨S4096, .i32⟩
  | 49 => ⟨S4096x1, .i32⟩
  | 50 => ⟨S4096x3, .f32⟩
  | 51 => ⟨S4096, .f32⟩
  | 52 => ⟨S4096, .f32⟩
  | 53 => ⟨S_, .f32⟩
  | 54 => ⟨S4096, .f32⟩
  | 55 => ⟨S4096, .f32⟩
  | 56 => ⟨S_, .f32⟩
  | 57 => ⟨S4096, .f32⟩
  | 58 => ⟨S4096, .f32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S4096x1, .i32⟩
  | 67 => ⟨S4096, .f32⟩
  | 68 => ⟨S_, .i32⟩
  | 69 => ⟨S4096, .i32⟩
  | 70 => ⟨S4096, .i1⟩
  | 71 => ⟨S_, .i32⟩
  | 72 => ⟨S4096, .i32⟩
  | 73 => ⟨S4096, .i32⟩
  | 74 => ⟨S4096, .i32⟩
  | 75 => ⟨S4096x1, .i32⟩
  | 76 => ⟨S4096, .i1⟩
  | 77 => ⟨S4096, .f32⟩
  | 78 => ⟨S4096x1x1, .f32⟩
  | 79 => ⟨S4096, .f32⟩
  | 80 => ⟨S4096x1x1, .f32⟩
  | 81 => ⟨S4096, .f32⟩
  | 82 => ⟨S4096x1x1, .f32⟩
  | 83 => ⟨S4096, .f32⟩
  | 84 => ⟨S4096, .f32⟩
  | 85 => ⟨S4096, .f32⟩
  | 86 => ⟨S4096, .f32⟩
  | 87 => ⟨S_, .f32⟩
  | 88 => ⟨S4096, .f32⟩
  | 89 => ⟨S4096, .f32⟩
  | 90 => ⟨S4096, .f32⟩
  | 91 => ⟨S4096, .f32⟩
  | 92 => ⟨S4096, .f32⟩
  | 93 => ⟨S4096, .f32⟩
  | 94 => ⟨S64, .f32⟩
  | 95 => ⟨S_, .f32⟩
  | 96 => ⟨S64, .f32⟩
  | 97 => ⟨S64, .f32⟩
  | 98 => ⟨S64, .f32⟩
  | 99 => ⟨S_, .f32⟩
  | 100 => ⟨S64, .f32⟩
  | 101 => ⟨S64, .f32⟩
  | 102 => ⟨S64x64, .f32⟩
  | 103 => ⟨S64x64, .f32⟩
  | 104 => ⟨S4096, .f32⟩
  | 105 => ⟨S4096, .f32⟩
  | 106 => ⟨S4096x1, .f32⟩
  | 107 => ⟨S4096x1, .f32⟩
  | 108 => ⟨S4096x2, .f32⟩
  | 109 => ⟨S4096x1, .f32⟩
  | 110 => ⟨S4096, .f32⟩
  | 111 => ⟨S4096x1, .f32⟩
  | 112 => ⟨S4096x1, .f32⟩
  | 113 => ⟨S4096, .f32⟩
  | 114 => ⟨S1x4096, .f32⟩
  | 115 => ⟨S4096x4096, .f32⟩
  | 116 => ⟨S4096x4096, .f32⟩
  | 117 => ⟨S4096x4096, .f32⟩
  | 118 => ⟨S4096x1, .f32⟩
  | 119 => ⟨S4096, .f32⟩
  | 120 => ⟨S4096x1, .f32⟩
  | 121 => ⟨S4096x1, .f32⟩
  | 122 => ⟨S4096, .f32⟩
  | 123 => ⟨S1x4096, .f32⟩
  | 124 => ⟨S4096x4096, .f32⟩
  | 125 => ⟨S4096x4096, .f32⟩
  | 126 => ⟨S4096x4096, .f32⟩
  | 127 => ⟨S1x4096, .f32⟩
  | _ => ⟨S4096x3, .f32⟩

abbrev hbmTy0_3 (i : Nat) : BufTy := match i % 128 with
  | 0 => ⟨S4096x4096, .f32⟩
  | 1 => ⟨S4096x4096, .f32⟩
  | 2 => ⟨S4096x4096, .f32⟩
  | 3 => ⟨S1x4096, .f32⟩
  | 4 => ⟨S_, .f32⟩
  | 5 => ⟨S1x4096, .f32⟩
  | 6 => ⟨S1x4096, .f32⟩
  | 7 => ⟨S4096x4096, .f32⟩
  | 8 => ⟨S4096x4096, .f32⟩
  | 9 => ⟨S4096x4096, .f32⟩
  | 10 => ⟨S4096x4096, .f32⟩
  | 11 => ⟨S1x4096, .f32⟩
  | 12 => ⟨S4096x4096, .f32⟩
  | 13 => ⟨S4096x4096, .f32⟩
  | 14 => ⟨S4096x4096, .f32⟩
  | 15 => ⟨S4096x4096, .f32⟩
  | 16 => ⟨S_, .f32⟩
  | 17 => ⟨S4096x4096, .f32⟩
  | 18 => ⟨S4096x4096, .f32⟩
  | 19 => ⟨S1x4096, .f32⟩
  | 20 => ⟨S4096x4096, .f32⟩
  | 21 => ⟨S4096x4096, .f32⟩
  | 22 => ⟨S4096x4096, .f32⟩
  | 23 => ⟨S1x4096, .f32⟩
  | 24 => ⟨S4096x4096, .f32⟩
  | 25 => ⟨S4096x4096, .f32⟩
  | 26 => ⟨S_, .f32⟩
  | 27 => ⟨S_, .f32⟩
  | 28 => ⟨S_, .f32⟩
  | 29 => ⟨S4096x4096, .f32⟩
  | 30 => ⟨S4096x4096, .f32⟩
  | 31 => ⟨S_, .f32⟩
  | 32 => ⟨S4096x4096, .f32⟩
  | 33 => ⟨S4096x4096, .f32⟩
  | 34 => ⟨S_, .f32⟩
  | 35 => ⟨S4096x4096, .f32⟩
  | 36 => ⟨S4096x4096, .f32⟩
  | 37 => ⟨S_, .f32⟩
  | 38 => ⟨S4096x4096, .f32⟩
  | 39 => ⟨S4096x4096, .f32⟩
  | 40 => ⟨S4096x4096, .f32⟩
  | 41 => ⟨S_, .f32⟩
  | 42 => ⟨S_, .f32⟩
  | 43 => ⟨S4096x4096, .f32⟩
  | 44 => ⟨S4096x4096, .f32⟩
  | 45 => ⟨S_, .f32⟩
  | 46 => ⟨S4096x1, .f32⟩
  | 47 => ⟨S4096x4095, .f32⟩
  | 48 => ⟨S4096x4096, .f32⟩
  | 49 => ⟨S4096x4096, .f32⟩
  | 50 => ⟨S4096x3, .f32⟩
  | 51 => ⟨S64x64x3, .f32⟩
  | _ => ⟨S4096x3, .f32⟩

abbrev hbmTy (i : Nat) : BufTy := match i / 128 with
  | 0 => hbmTy0_0 i
  | 1 => hbmTy0_1 i
  | 2 => hbmTy0_2 i
  | 3 => hbmTy0_3 i
  | _ => ⟨S4096x3, .f32⟩

abbrev bufTy : (tb : Table) → Fin (tcTables nBuf tb) → BufTy
  | .hbm, ⟨i, _⟩ => hbmTy i
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_cst_12 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_14 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_call1_v0 : Ref sig .tc := ⟨.hbm, 112, rfl⟩
abbrev main_call1_cst : Ref sig .tc := ⟨.hbm, 113, rfl⟩
abbrev main_call1_v1 : Ref sig .tc := ⟨.hbm, 114, rfl⟩
abbrev main_call1_v2 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_15 : Ref sig .tc := ⟨.hbm, 130, rfl⟩
abbrev main_v100 : Ref sig .tc := ⟨.hbm, 131, rfl⟩
abbrev main_v101 : Ref sig .tc := ⟨.hbm, 132, rfl⟩
abbrev main_cst_16 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_17 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_18 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_19 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_20 : Ref sig .tc := ⟨.hbm, 157, rfl⟩
abbrev main_v122 : Ref sig .tc := ⟨.hbm, 158, rfl⟩
abbrev main_v123 : Ref sig .tc := ⟨.hbm, 159, rfl⟩
abbrev main_cst_21 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_cst_22 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_cst_23 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_24 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst_25 : Ref sig .tc := ⟨.hbm, 184, rfl⟩
abbrev main_v144 : Ref sig .tc := ⟨.hbm, 185, rfl⟩
abbrev main_v145 : Ref sig .tc := ⟨.hbm, 186, rfl⟩
abbrev main_cst_26 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_cst_27 : Ref sig .tc := ⟨.hbm, 203, rfl⟩
abbrev main_v161 : Ref sig .tc := ⟨.hbm, 204, rfl⟩
abbrev main_v162 : Ref sig .tc := ⟨.hbm, 205, rfl⟩
abbrev main_cst_28 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_cst_29 : Ref sig .tc := ⟨.hbm, 216, rfl⟩
abbrev main_v172 : Ref sig .tc := ⟨.hbm, 217, rfl⟩
abbrev main_cst_30 : Ref sig .tc := ⟨.hbm, 218, rfl⟩
abbrev main_v173 : Ref sig .tc := ⟨.hbm, 219, rfl⟩
abbrev main_v174 : Ref sig .tc := ⟨.hbm, 220, rfl⟩
abbrev main_cst_31 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_cst_32 : Ref sig .tc := ⟨.hbm, 230, rfl⟩
abbrev main_v183 : Ref sig .tc := ⟨.hbm, 231, rfl⟩
abbrev main_v184 : Ref sig .tc := ⟨.hbm, 232, rfl⟩
abbrev main_cst_33 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_c : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_cst_34 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_cst_35 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_cst_36 : Ref sig .tc := ⟨.hbm, 264, rfl⟩
abbrev main_v212 : Ref sig .tc := ⟨.hbm, 265, rfl⟩
abbrev main_v213 : Ref sig .tc := ⟨.hbm, 266, rfl⟩
abbrev main_cst_37 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_cst_38 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_call2_v0 : Ref sig .tc := ⟨.hbm, 277, rfl⟩
abbrev main_call2_v1_0 : Ref sig .tc := ⟨.hbm, 278, rfl⟩
abbrev main_v222 : Ref sig .tc := ⟨.hbm, 279, rfl⟩
abbrev main_c_39 : Ref sig .tc := ⟨.hbm, 280, rfl⟩
abbrev main_v223 : Ref sig .tc := ⟨.hbm, 281, rfl⟩
abbrev main_v224 : Ref sig .tc := ⟨.hbm, 282, rfl⟩
abbrev main_c_40 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_c_41 : Ref sig .tc := ⟨.hbm, 289, rfl⟩
abbrev main_v230 : Ref sig .tc := ⟨.hbm, 290, rfl⟩
abbrev main_v231 : Ref sig .tc := ⟨.hbm, 291, rfl⟩
abbrev main_c_42 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_c_43 : Ref sig .tc := ⟨.hbm, 298, rfl⟩
abbrev main_v237 : Ref sig .tc := ⟨.hbm, 299, rfl⟩
abbrev main_v238 : Ref sig .tc := ⟨.hbm, 300, rfl⟩
abbrev main_c_44 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_cst_45 : Ref sig .tc := ⟨.hbm, 309, rfl⟩
abbrev main_v246 : Ref sig .tc := ⟨.hbm, 310, rfl⟩
abbrev main_v247 : Ref sig .tc := ⟨.hbm, 311, rfl⟩
abbrev main_cst_46 : Ref sig .tc := ⟨.hbm, 312, rfl⟩
abbrev main_v248 : Ref sig .tc := ⟨.hbm, 313, rfl⟩
abbrev main_v249 : Ref sig .tc := ⟨.hbm, 314, rfl⟩
abbrev main_c_47 : Ref sig .tc := ⟨.hbm, 315, rfl⟩
abbrev main_v250 : Ref sig .tc := ⟨.hbm, 316, rfl⟩
abbrev main_v251 : Ref sig .tc := ⟨.hbm, 317, rfl⟩
abbrev main_c_48 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_c_49 : Ref sig .tc := ⟨.hbm, 324, rfl⟩
abbrev main_v257 : Ref sig .tc := ⟨.hbm, 325, rfl⟩
abbrev main_v258 : Ref sig .tc := ⟨.hbm, 326, rfl⟩
abbrev main_c_50 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_v268 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_cst_51 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_v277 : Ref sig .tc := ⟨.hbm, 347, rfl⟩
abbrev main_v278 : Ref sig .tc := ⟨.hbm, 348, rfl⟩
abbrev main_v279 : Ref sig .tc := ⟨.hbm, 349, rfl⟩
abbrev main_v280 : Ref sig .tc := ⟨.hbm, 350, rfl⟩
abbrev main_cst_52 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_cst_53 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_v288 : Ref sig .tc := ⟨.hbm, 360, rfl⟩
abbrev main_v289 : Ref sig .tc := ⟨.hbm, 361, rfl⟩
abbrev main_v290 : Ref sig .tc := ⟨.hbm, 362, rfl⟩
abbrev main_v291 : Ref sig .tc := ⟨.hbm, 363, rfl⟩
abbrev main_v292 : Ref sig .tc := ⟨.hbm, 364, rfl⟩
abbrev main_v293 : Ref sig .tc := ⟨.hbm, 365, rfl⟩
abbrev main_v294 : Ref sig .tc := ⟨.hbm, 366, rfl⟩
abbrev main_v295 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_v301 : Ref sig .tc := ⟨.hbm, 373, rfl⟩
abbrev main_v302 : Ref sig .tc := ⟨.hbm, 374, rfl⟩
abbrev main_v303 : Ref sig .tc := ⟨.hbm, 375, rfl⟩
abbrev main_v304 : Ref sig .tc := ⟨.hbm, 376, rfl⟩
abbrev main_v305 : Ref sig .tc := ⟨.hbm, 377, rfl⟩
abbrev main_v306 : Ref sig .tc := ⟨.hbm, 378, rfl⟩
abbrev main_v307 : Ref sig .tc := ⟨.hbm, 379, rfl⟩
abbrev main_v308 : Ref sig .tc := ⟨.hbm, 380, rfl⟩
abbrev main_v309 : Ref sig .tc := ⟨.hbm, 381, rfl⟩
abbrev main_v310 : Ref sig .tc := ⟨.hbm, 382, rfl⟩
abbrev main_v311 : Ref sig .tc := ⟨.hbm, 383, rfl⟩
abbrev main_v312 : Ref sig .tc := ⟨.hbm, 384, rfl⟩
abbrev main_v313 : Ref sig .tc := ⟨.hbm, 385, rfl⟩
abbrev main_v314 : Ref sig .tc := ⟨.hbm, 386, rfl⟩
abbrev main_v315 : Ref sig .tc := ⟨.hbm, 387, rfl⟩
abbrev main_cst_54 : Ref sig .tc := ⟨.hbm, 388, rfl⟩
abbrev main_v316 : Ref sig .tc := ⟨.hbm, 389, rfl⟩
abbrev main_v317 : Ref sig .tc := ⟨.hbm, 390, rfl⟩
abbrev main_v318 : Ref sig .tc := ⟨.hbm, 391, rfl⟩
abbrev main_v319 : Ref sig .tc := ⟨.hbm, 392, rfl⟩
abbrev main_v320 : Ref sig .tc := ⟨.hbm, 393, rfl⟩
abbrev main_v321 : Ref sig .tc := ⟨.hbm, 394, rfl⟩
abbrev main_v322 : Ref sig .tc := ⟨.hbm, 395, rfl⟩
abbrev main_v323 : Ref sig .tc := ⟨.hbm, 396, rfl⟩
abbrev main_v324 : Ref sig .tc := ⟨.hbm, 397, rfl⟩
abbrev main_v325 : Ref sig .tc := ⟨.hbm, 398, rfl⟩
abbrev main_v326 : Ref sig .tc := ⟨.hbm, 399, rfl⟩
abbrev main_cst_55 : Ref sig .tc := ⟨.hbm, 400, rfl⟩
abbrev main_v327 : Ref sig .tc := ⟨.hbm, 401, rfl⟩
abbrev main_v328 : Ref sig .tc := ⟨.hbm, 402, rfl⟩
abbrev main_v329 : Ref sig .tc := ⟨.hbm, 403, rfl⟩
abbrev main_v330 : Ref sig .tc := ⟨.hbm, 404, rfl⟩
abbrev main_v331 : Ref sig .tc := ⟨.hbm, 405, rfl⟩
abbrev main_v332 : Ref sig .tc := ⟨.hbm, 406, rfl⟩
abbrev main_v333 : Ref sig .tc := ⟨.hbm, 407, rfl⟩
abbrev main_v334 : Ref sig .tc := ⟨.hbm, 408, rfl⟩
abbrev main_v335 : Ref sig .tc := ⟨.hbm, 409, rfl⟩
abbrev main_cst_56 : Ref sig .tc := ⟨.hbm, 410, rfl⟩
abbrev main_cst_57 : Ref sig .tc := ⟨.hbm, 411, rfl⟩
abbrev main_call3_v0 : Ref sig .tc := ⟨.hbm, 412, rfl⟩
abbrev main_call3_v1 : Ref sig .tc := ⟨.hbm, 413, rfl⟩
abbrev main_call3_v2 : Ref sig .tc := ⟨.hbm, 414, rfl⟩
abbrev main_call3_v3 : Ref sig .tc := ⟨.hbm, 415, rfl⟩
abbrev main_call3_v4 : Ref sig .tc := ⟨.hbm, 416, rfl⟩
abbrev main_v336 : Ref sig .tc := ⟨.hbm, 417, rfl⟩
abbrev main_cst_58 : Ref sig .tc := ⟨.hbm, 418, rfl⟩
abbrev main_v337 : Ref sig .tc := ⟨.hbm, 419, rfl⟩
abbrev main_v338 : Ref sig .tc := ⟨.hbm, 420, rfl⟩
abbrev main_cst_59 : Ref sig .tc := ⟨.hbm, 421, rfl⟩
abbrev main_v339 : Ref sig .tc := ⟨.hbm, 422, rfl⟩
abbrev main_v340 : Ref sig .tc := ⟨.hbm, 423, rfl⟩
abbrev main_v341 : Ref sig .tc := ⟨.hbm, 424, rfl⟩
abbrev main_call4_call0_cst : Ref sig .tc := ⟨.hbm, 425, rfl⟩
abbrev main_call4_call0_v0 : Ref sig .tc := ⟨.hbm, 426, rfl⟩
abbrev main_v342 : Ref sig .tc := ⟨.hbm, 427, rfl⟩
abbrev main_v343 : Ref sig .tc := ⟨.hbm, 428, rfl⟩
abbrev main_cst_60 : Ref sig .tc := ⟨.hbm, 429, rfl⟩
abbrev main_v344 : Ref sig .tc := ⟨.hbm, 430, rfl⟩
abbrev main_v345 : Ref sig .tc := ⟨.hbm, 431, rfl⟩
abbrev main_v346 : Ref sig .tc := ⟨.hbm, 432, rfl⟩
abbrev main_v347 : Ref sig .tc := ⟨.hbm, 433, rfl⟩
abbrev main_v348 : Ref sig .tc := ⟨.hbm, 434, rfl⟩
abbrev main_v349 : Ref sig .tc := ⟨.hbm, 435, rfl⟩

abbrev nD : Nat := 1
abbrev τ : Topo := Topo.v7x

variable {F : FTy → Type} [FloatOps F]
-- ==== Proof.KIR0Runs.lean ====
/- The prologue call of `KernelIdeal`, its body run at a point: the first point of a sweep (A) and the others (B). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R0

open Cert.KernelIdeal.Gen Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

abbrev VO0_4 : View sig .tc .vmem S8x512 .f32 := (Memref.whole cc0_stg4_0 : Memref sig .tc .vmem S8x512 .f32).view
abbrev VO0_5 : View sig .tc .vmem S512x8 .f32 := (Memref.whole cc0_stg5_0 : Memref sig .tc .vmem S512x8 .f32).view
abbrev ms0_0 (t : Fin cfg0.N) : Memref sig .tc .smem S1x9 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x8 .f32 := win0_5.stage (cfg0.slots t 5)
abbrev hs0_5 (t : Fin cfg0.N) : (ms0_5 t).IsWhole := hstage0_5 ((cfg0.slots t 5).cast nbuf0_5)
abbrev scM0_0 : Memref sig .tc .vmem S8x4096 .f32 := Memref.whole cc0_scratch0
abbrev VS0_0 : View sig .tc .vmem S8x4096 .f32 := scM0_0.view

/-- The scoped buffers of the other call, each at some contents, and the generator register at some state. -/
def Rest (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f)) ∗ (∃ r, prngReg c r))

/-- What the invariant says before the first point: the scratch at anything, and the rest. -/
def PhiA (c : Dev nD) : sProp 𝕄 :=
  iprop(iprop((∃ d, owns (c : Thread nD τ) scM0_0 fullShare d)) ∗ Rest c)

theorem PhiA0_eq (c : Dev nD) :
    (PhiA c : sProp 𝕄) = iprop(iprop((∃ d, owns (c : Thread nD τ) scM0_0 fullShare d)) ∗ Rest c) := rfl

/-- The scoped buffers that this call does not stage, its scratch taken first. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f)) := by
  simp only [scM0_0, owns_whole]
  exact Pipeline.scopedRest_eq_of_list spec0 c [cc0_scratch0, cc1_stg0_0, cc1_stg0_1, cc1_stg1_0, cc1_stg1_1, cc1_stg2_0, cc1_stg2_1, cc1_scratch0] (by decide) (by decide)

set_option maxHeartbeats 1000000 in
noncomputable def kernelRun0_A (c : Dev nD) (i : grid0.Coords) (arg1 : Memref sig .tc .smem S1x9 .f32) (harg1 : arg1.IsWhole) (arg2 : Memref sig .tc .vmem S16x4096 .f32) (harg2 : arg2.IsWhole) (arg3 : Memref sig .tc .vmem S8x512 .i32) (harg3 : arg3.IsWhole) (arg4 : Memref sig .tc .vmem S4096x8 .f32) (harg4 : arg4.IsWhole) (arg5 : Memref sig .tc .vmem S8x512 .f32) (harg5 : arg5.IsWhole) (arg6 : Memref sig .tc .vmem S512x8 .f32) (harg6 : arg6.IsWhole) (arg7 : Memref sig .tc .vmem S8x4096 .f32) (harg7 : arg7.IsWhole) (hc0 : cond0_0 i)
    (x0 : Vec F S1x9 .f32) (x1 : Vec F S16x4096 .f32) (x2 : Vec F S8x512 .i32) (x3 : Vec F S4096x8 .f32) :
    Σ' (L4 : List (View.Piece (Elt F) S8x512 .f32)), Σ' (L5 : List (View.Piece (Elt F) S512x8 .f32)), { LS0 : List (View.Piece (Elt F) S8x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__prologue_body i arg1 harg1 arg2 harg2 arg3 harg3 arg4 harg4 arg5 harg5 arg6 harg6 arg7 harg7) K } := by
  refine ⟨?_, ?_, ?_, fun E K => ?run⟩
  case run =>
    simp only [cc0__prologue_body_eq_skeleton]; unfold cc0__prologue_body_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.KernelIdeal.R0

end
-- ==== Proof.KIR0RunB.lean ====
/- The prologue call of `KernelIdeal`, its body run at a point that is not the first of a sweep. -/
module

public import proofs.«01_k».proof.Proof.KIR0Runs

@[expose] public section

set_option maxRecDepth 16384

noncomputable section

namespace Cert.KernelIdeal.R0

open Cert.KernelIdeal.Gen Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
noncomputable def kernelRun0_B (c : Dev nD) (i : grid0.Coords) (arg1 : Memref sig .tc .smem S1x9 .f32) (harg1 : arg1.IsWhole) (arg2 : Memref sig .tc .vmem S16x4096 .f32) (harg2 : arg2.IsWhole) (arg3 : Memref sig .tc .vmem S8x512 .i32) (harg3 : arg3.IsWhole) (arg4 : Memref sig .tc .vmem S4096x8 .f32) (harg4 : arg4.IsWhole) (arg5 : Memref sig .tc .vmem S8x512 .f32) (harg5 : arg5.IsWhole) (arg6 : Memref sig .tc .vmem S512x8 .f32) (harg6 : arg6.IsWhole) (arg7 : Memref sig .tc .vmem S8x4096 .f32) (harg7 : arg7.IsWhole) (hc0 : ¬cond0_0 i)
    (x0 : Vec F S1x9 .f32) (x1 : Vec F S16x4096 .f32) (x2 : Vec F S8x512 .i32) (x3 : Vec F S4096x8 .f32) (xs0 : Vec F S8x4096 .f32) :
    Σ' (L4 : List (View.Piece (Elt F) S8x512 .f32)), Σ' (L5 : List (View.Piece (Elt F) S512x8 .f32)), { LS0 : List (View.Piece (Elt F) S8x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xs0) -∗ K ⟨⟩))
          ⊢ wp frame (wpE (defs₀ (F := F)) Variants.none c none) E (cc0__prologue_body i arg1 harg1 arg2 harg2 arg3 harg3 arg4 harg4 arg5 harg5 arg6 harg6 arg7 harg7) K } := by
  refine ⟨?_, ?_, [], fun E K => ?run⟩
  case run =>
    simp only [cc0__prologue_body_eq_skeleton]; unfold cc0__prologue_body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; isplitr; · ipureintro; exact harg7.read_unread _
    iexact HS0

end Cert.KernelIdeal.R0

end
-- ==== Proof.KIR0Frame.lean ====
/- The prologue call of `KernelIdeal`: what its buffers hold point by point, from any contents `V` at entry, and the body obligation. -/
module

public import proofs.«01_k».proof.Proof.KIR0RunB
public import Idealize.ShloMosaic.Lib.Claim

@[expose] public section

set_option maxRecDepth 16384

noncomputable section

namespace Cert.KernelIdeal.R0

open Cert.KernelIdeal.Gen Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

theorem cover0_A_4 (c : Dev nD) (i : grid0.Coords) (arg1 : Memref sig .tc .smem S1x9 .f32) (harg1 : arg1.IsWhole) (arg2 : Memref sig .tc .vmem S16x4096 .f32) (harg2 : arg2.IsWhole) (arg3 : Memref sig .tc .vmem S8x512 .i32) (harg3 : arg3.IsWhole) (arg4 : Memref sig .tc .vmem S4096x8 .f32) (harg4 : arg4.IsWhole) (arg5 : Memref sig .tc .vmem S8x512 .f32) (harg5 : arg5.IsWhole) (arg6 : Memref sig .tc .vmem S512x8 .f32) (harg6 : arg6.IsWhole) (arg7 : Memref sig .tc .vmem S8x4096 .f32) (harg7 : arg7.IsWhole) (hc0 : cond0_0 i)
    (x0 : Vec F S1x9 .f32) (x1 : Vec F S16x4096 .f32) (x2 : Vec F S8x512 .i32) (x3 : Vec F S4096x8 .f32) (y : S8x512.Idx) :
    ∃ pc ∈ (kernelRun0_A c i arg1 harg1 arg2 harg2 arg3 harg3 arg4 harg4 arg5 harg5 arg6 harg6 arg7 harg7 hc0 x0 x1 x2 x3).1, y ∈ pc.1.set :=
  View.cover_of_tiledL (kernelRun0_A c i arg1 harg1 arg2 harg2 arg3 harg3 arg4 harg4 arg5 harg5 arg6 harg6 arg7 harg7 hc0 x0 x1 x2 x3).1 S8x512.size (by sl_kernel_rfl) y

def out0_A_4 (c : Dev nD) (i : grid0.Coords) (arg1 : Memref sig .tc .smem S1x9 .f32) (harg1 : arg1.IsWhole) (arg2 : Memref sig .tc .vmem S16x4096 .f32) (harg2 : arg2.IsWhole) (arg3 : Memref sig .tc .vmem S8x512 .i32) (harg3 : arg3.IsWhole) (arg4 : Memref sig .tc .vmem S4096x8 .f32) (harg4 : arg4.IsWhole) (arg5 : Memref sig .tc .vmem S8x512 .f32) (harg5 : arg5.IsWhole) (arg6 : Memref sig .tc .vmem S512x8 .f32) (harg6 : arg6.IsWhole) (arg7 : Memref sig .tc .vmem S8x4096 .f32) (harg7 : arg7.IsWhole) (hc0 : cond0_0 i)
    (x0 : Vec F S1x9 .f32) (x1 : Vec F S16x4096 .f32) (x2 : Vec F S8x512 .i32) (x3 : Vec F S4096x8 .f32) : Vec F S8x512 .f32 :=
  VO0_4.read (Elt F) (VO0_4.writes (Elt F) VO0_4.junk (kernelRun0_A c i arg1 harg1 arg2 harg2 arg3 harg3 arg4 harg4 arg5 harg5 arg6 harg6 arg7 harg7 hc0 x0 x1 x2 x3).1)

theorem cover0_A_5 (c : Dev nD) (i : grid0.Coords) (arg1 : Memref sig .tc .smem S1x9 .f32) (harg1 : arg1.IsWhole) (arg2 : Memref sig .tc .vmem S16x4096 .f32) (harg2 : arg2.IsWhole) (arg3 : Memref sig .tc .vmem S8x512 .i32) (harg3 : arg3.IsWhole) (arg4 : Memref sig .tc .vmem S4096x8 .f32) (harg4 : arg4.IsWhole) (arg5 : Memref sig .tc .vmem S8x512 .f32) (harg5 : arg5.IsWhole) (arg6 : Memref sig .tc .vmem S512x8 .f32) (harg6 : arg6.IsWhole) (arg7 : Memref sig .tc .vmem S8x4096 .f32) (harg7 : arg7.IsWhole) (hc0 : cond0_0 i)
    (x0 : Vec F S1x9 .f32) (x1 : Vec F S16x4096 .f32) (x2 : Vec F S8x512 .i32) (x3 : Vec F S4096x8 .f32) (y : S512x8.Idx) :
    ∃ pc ∈ (kernelRun0_A c i arg1 harg1 arg2 harg2 arg3 harg3 arg4 harg4 arg5 harg5 arg6 harg6 arg7 harg7 hc0 x0 x1 x2 x3).2.1, y ∈ pc.1.set :=
  View.cover_of_tiledL (kernelRun0_A c i arg1 harg1 arg2 harg2 arg3 harg3 arg4 harg4 arg5 harg5 arg6 harg6 arg7 harg7 hc0 x0 x1 x2 x3).2.1 S512x8.size (by sl_kernel_rfl) y

def out0_A_5 (c : Dev nD) (i : grid0.Coords) (arg1 : Memref sig .tc .smem S1x9 .f32) (harg1 : arg1.IsWhole) (arg2 : Memref sig .tc .vmem S16x4096 .f32) (harg2 : arg2.IsWhole) (arg3 : Memref sig .tc .vmem S8x512 .i32) (harg3 : arg3.IsWhole) (arg4 : Memref sig .tc .vmem S4096x8 .f32) (harg4 : arg4.IsWhole) (arg5 : Memref sig .tc .vmem S8x512 .f32) (harg5 : arg5.IsWhole) (arg6 : Memref sig .tc .vmem S512x8 .f32) (harg6 : arg6.IsWhole) (arg7 : Memref sig .tc .vmem S8x4096 .f32) (harg7 : arg7.IsWhole) (hc0 : cond0_0 i)
    (x0 : Vec F S1x9 .f32) (x1 : Vec F S16x4096 .f32) (x2 : Vec F S8x512 .i32) (x3 : Vec F S4096x8 .f32) : Vec F S512x8 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3).2.1)

theorem scover0_A_0 (c : Dev nD) (i : grid0.Coords) (arg1 : Memref sig .tc .smem S1x9 .f32) (harg1 : arg1.IsWhole) (arg2 : Memref sig .tc .vmem S16x4096 .f32) (harg2 : arg2.IsWhole) (arg3 : Memref sig .tc .vmem S8x512 .i32) (harg3 : arg3.IsWhole) (arg4 : Memref sig .tc .vmem S4096x8 .f32) (harg4 : arg4.IsWhole) (arg5 : Memref sig .tc .vmem S8x512 .f32) (harg5 : arg5.IsWhole) (arg6 : Memref sig .tc .vmem S512x8 .f32) (harg6 : arg6.IsWhole) (arg7 : Memref sig .tc .vmem S8x4096 .f32) (harg7 : arg7.IsWhole) (hc0 : cond0_0 i)
    (x0 : Vec F S1x9 .f32) (x1 : Vec F S16x4096 .f32) (x2 : Vec F S8x512 .i32) (x3 : Vec F S4096x8 .f32) (y : S8x4096.Idx) :
    ∃ pc ∈ (kernelRun0_A c i arg1 harg1 arg2 harg2 arg3 harg3 arg4 harg4 arg5 harg5 arg6 harg6 arg7 harg7 hc0 x0 x1 x2 x3).2.2.1, y ∈ pc.1.set :=
  View.cover_of_tiledL (kernelRun0_A c i arg1 harg1 arg2 harg2 arg3 harg3 arg4 harg4 arg5 harg5 arg6 harg6 arg7 harg7 hc0 x0 x1 x2 x3).2.2.1 S1x4096.size (by sl_kernel_rfl) y

def sout0_A_0 (c : Dev nD) (i : grid0.Coords) (arg1 : Memref sig .tc .smem S1x9 .f32) (harg1 : arg1.IsWhole) (arg2 : Memref sig .tc .vmem S16x4096 .f32) (harg2 : arg2.IsWhole) (arg3 : Memref sig .tc .vmem S8x512 .i32) (harg3 : arg3.IsWhole) (arg4 : Memref sig .tc .vmem S4096x8 .f32) (harg4 : arg4.IsWhole) (arg5 : Memref sig .tc .vmem S8x512 .f32) (harg5 : arg5.IsWhole) (arg6 : Memref sig .tc .vmem S512x8 .f32) (harg6 : arg6.IsWhole) (arg7 : Memref sig .tc .vmem S8x4096 .f32) (harg7 : arg7.IsWhole) (hc0 : cond0_0 i)
    (x0 : Vec F S1x9 .f32) (x1 : Vec F S16x4096 .f32) (x2 : Vec F S8x512 .i32) (x3 : Vec F S4096x8 .f32) : Vec F S8x4096 .f32 :=
  VS0_0.read (Elt F) (VS0_0.writes (Elt F) VS0_0.junk (kernelRun0_A c i arg1 harg1 arg2 harg2 arg3 harg3 arg4 harg4 arg5 harg5 arg6 harg6 arg7 harg7 hc0 x0 x1 x2 x3).2.2.1)

theorem cover0_B_4 (c : Dev nD) (i : grid0.Coords) (arg1 : Memref sig .tc .smem S1x9 .f32) (harg1 : arg1.IsWhole) (arg2 : Memref sig .tc .vmem S16x4096 .f32) (harg2 : arg2.IsWhole) (arg3 : Memref sig .tc .vmem S8x512 .i32) (harg3 : arg3.IsWhole) (arg4 : Memref sig .tc .vmem S4096x8 .f32) (harg4 : arg4.IsWhole) (arg5 : Memref sig .tc .vmem S8x512 .f32) (harg5 : arg5.IsWhole) (arg6 : Memref sig .tc .vmem S512x8 .f32) (harg6 : arg6.IsWhole) (arg7 : Memref sig .tc .vmem S8x4096 .f32) (harg7 : arg7.IsWhole) (hc0 : ¬cond0_0 i)
    (x0 : Vec F S1x9 .f32) (x1 : Vec F S16x4096 .f32) (x2 : Vec F S8x512 .i32) (x3 : Vec F S4096x8 .f32) (xs0 : Vec F S8x4096 .f32) (y : S8x512.Idx) :
    ∃ pc ∈ (kernelRun0_B c i arg1 harg1 arg2 harg2 arg3 harg3 arg4 harg4 arg5 harg5 arg6 harg6 arg7 harg7 hc0 x0 x1 x2 x3 xs0).1, y ∈ pc.1.set :=
  View.cover_of_tiledL (kernelRun0_B c i arg1 harg1 arg2 harg2 arg3 harg3 arg4 harg4 arg5 harg5 arg6 harg6 arg7 harg7 hc0 x0 x1 x2 x3 xs0).1 S8x512.size (by sl_kernel_rfl) y

def out0_B_4 (c : Dev nD) (i : grid0.Coords) (arg1 : Memref sig .tc .smem S1x9 .f32) (harg1 : arg1.IsWhole) (arg2 : Memref sig .tc .vmem S16x4096 .f32) (harg2 : arg2.IsWhole) (arg3 : Memref sig .tc .vmem S8x512 .i32) (harg3 : arg3.IsWhole) (arg4 : Memref sig .tc .vmem S4096x8 .f32) (harg4 : arg4.IsWhole) (arg5 : Memref sig .tc .vmem S8x512 .f32) (harg5 : arg5.IsWhole) (arg6 : Memref sig .tc .vmem S512x8 .f32) (harg6 : arg6.IsWhole) (arg7 : Memref sig .tc .vmem S8x4096 .f32) (harg7 : arg7.IsWhole) (hc0 : ¬cond0_0 i)
    (x0 : Vec F S1x9 .f32) (x1 : Vec F S16x4096 .f32) (x2 : Vec F S8x512 .i32) (x3 : Vec F S4096x8 .f32) (xs0 : Vec F S8x4096 .f32) : Vec F S8x512 .f32 :=
  VO0_4.read (Elt F) (VO0_4.writes (Elt F) VO0_4.junk (kernelRun0_B c i arg1 harg1 arg2 harg2 arg3 harg3 arg4 harg4 arg5 harg5 arg6 harg6 arg7 harg7 hc0 x0 x1 x2 x3 xs0).1)

theorem cover0_B_5 (c : Dev nD) (i : grid0.Coords) (arg1 : Memref sig .tc .smem S1x9 .f32) (harg1 : arg1.IsWhole) (arg2 : Memref sig .tc .vmem S16x4096 .f32) (harg2 : arg2.IsWhole) (arg3 : Memref sig .tc .vmem S8x512 .i32) (harg3 : arg3.IsWhole) (arg4 : Memref sig .tc .vmem S4096x8 .f32) (harg4 : arg4.IsWhole) (arg5 : Memref sig .tc .vmem S8x512 .f32) (harg5 : arg5.IsWhole) (arg6 : Memref sig .tc .vmem S512x8 .f32) (harg6 : arg6.IsWhole) (arg7 : Memref sig .tc .vmem S8x4096 .f32) (harg7 : arg7.IsWhole) (hc0 : ¬cond0_0 i)
    (x0 : Vec F S1x9 .f32) (x1 : Vec F S16x4096 .f32) (x2 : Vec F S8x512 .i32) (x3 : Vec F S4096x8 .f32) (xs0 : Vec F S8x4096 .f32) (y : S512x8.Idx) :
    ∃ pc ∈ (kernelRun0_B c i arg1 harg1 arg2 harg2 arg3 harg3 arg4 harg4 arg5 harg5 arg6 harg6 arg7 harg7 hc0 x0 x1 x2 x3 xs0).2.1, y ∈ pc.1.set :=
  View.cover_of_tiledL (kernelRun0_B c i arg1 harg1 arg2 harg2 arg3 harg3 arg4 harg4 arg5 harg5 arg6 harg6 arg7 harg7 hc0 x0 x1 x2 x3 xs0).2.1 S512x8.size (by sl_kernel_rfl) y

def out0_B_5 (c : Dev nD) (i : grid0.Coords) (arg1 : Memref sig .tc .smem S1x9 .f32) (harg1 : arg1.IsWhole) (arg2 : Memref sig .tc .vmem S16x4096 .f32) (harg2 : arg2.IsWhole) (arg3 : Memref sig .tc .vmem S8x512 .i32) (harg3 : arg3.IsWhole) (arg4 : Memref sig .tc .vmem S4096x8 .f32) (harg4 : arg4.IsWhole) (arg5 : Memref sig .tc .vmem S8x512 .f32) (harg5 : arg5.IsWhole) (arg6 : Memref sig .tc .vmem S512x8 .f32) (harg6 : arg6.IsWhole) (arg7 : Memref sig .tc .vmem S8x4096 .f32) (harg7 : arg7.IsWhole) (hc0 : ¬cond0_0 i)
    (x0 : Vec F S1x9 .f32) (x1 : Vec F S16x4096 .f32) (x2 : Vec F S8x512 .i32) (x3 : Vec F S4096x8 .f32) (xs0 : Vec F S8x4096 .f32) : Vec F S512x8 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 x3 xs0).2.1)

def sout0_B_0 (c : Dev nD) (i : grid0.Coords) (arg1 : Memref sig .tc .smem S1x9 .f32) (harg1 : arg1.IsWhole) (arg2 : Memref sig .tc .vmem S16x4096 .f32) (harg2 : arg2.IsWhole) (arg3 : Memref sig .tc .vmem S8x512 .i32) (harg3 : arg3.IsWhole) (arg4 : Memref sig .tc .vmem S4096x8 .f32) (harg4 : arg4.IsWhole) (arg5 : Memref sig .tc .vmem S8x512 .f32) (harg5 : arg5.IsWhole) (arg6 : Memref sig .tc .vmem S512x8 .f32) (harg6 : arg6.IsWhole) (arg7 : Memref sig .tc .vmem S8x4096 .f32) (harg7 : arg7.IsWhole) (hc0 : ¬cond0_0 i)
    (x0 : Vec F S1x9 .f32) (x1 : Vec F S16x4096 .f32) (x2 : Vec F S8x512 .i32) (x3 : Vec F S4096x8 .f32) (xs0 : Vec F S8x4096 .f32) : Vec F S8x4096 .f32 := xs0

def outsAt0 (c : Dev nD) : (n : ℕ) → n < cfg0.N → Vec F S8x512 .f32 × Vec F S512x8 .f32 × Vec F S8x4096 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩))
  | n + 1, hn =>
    if h0 : (n + 1) % 8 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2)

theorem outsAt0_A (c : Dev nD) (t : Fin cfg0.N) (h0 : t.val % 8 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk V c 0 t) (iblk V c 1 t) (iblk V c 2 t) (iblk V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk V c 0 t) (iblk V c 1 t) (iblk V c 2 t) (iblk V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk V c 0 t) (iblk V c 1 t) (iblk V c 2 t) (iblk V c 3 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk V c 0 t) (iblk V c 1 t) (iblk V c 2 t) (iblk V c 3 t) (outsAt0 V c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk V c 0 t) (iblk V c 1 t) (iblk V c 2 t) (iblk V c 3 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk V c 0 t) (iblk V c 1 t) (iblk V c 2 t) (iblk V c 3 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => PhiA c
  | n + 1, hn => iprop(iprop(owns (c : Thread nD τ) scM0_0 fullShare ((outsAt0 V c n hn).2.2)) ∗ Rest c)

theorem PhiS_zero (c : Dev nD) (n : ℕ) (h : n ≤ cfg0.N) (hz : n = 0) : PhiS V c n h = PhiA c := by
  subst hz; rfl

theorem PhiS_succ (c : Dev nD) (n : ℕ) (hn : n < cfg0.N) :
    PhiS V c (n + 1) hn = iprop(iprop(owns (c : Thread nD τ) scM0_0 fullShare ((outsAt0 V c n hn).2.2)) ∗ Rest c) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ Rest c) := by
  cases n with
  | zero => exact absurd rfl hz
  | succ n => rfl

def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

theorem A_eq (c : Dev nD) (w : Fin cfg0.W) : (dats V 0 c).A w = V c (Pipeline.arrRef spec0 w) := by
  dsimp only [dats]

theorem PhiS_castSucc (c : Dev nD) (t : Fin cfg0.N) :
    (dats V 0 c).Φ t.castSucc = PhiS V c t.val (Nat.le_of_lt t.isLt) := by
  dsimp only [dats]; exact Pipeline.Dat.Φ_castSucc (PhiS V c) t

theorem after0_0 (c : Dev nD) (t : Fin cfg0.N) : (dats V 0 c).after 0 t = iblk V c 0 t := by dsimp only [dats]
theorem after0_1 (c : Dev nD) (t : Fin cfg0.N) : (dats V 0 c).after 1 t = iblk V c 1 t := by dsimp only [dats]
theorem after0_2 (c : Dev nD) (t : Fin cfg0.N) : (dats V 0 c).after 2 t = iblk V c 2 t := by dsimp only [dats]
theorem after0_3 (c : Dev nD) (t : Fin cfg0.N) : (dats V 0 c).after 3 t = iblk V c 3 t := by dsimp only [dats]
theorem after0_4 (c : Dev nD) (t : Fin cfg0.N) : (dats V 0 c).after 4 t = (outsAt0 V c t.val t.isLt).1 := by dsimp only [dats]
theorem after0_5 (c : Dev nD) (t : Fin cfg0.N) : (dats V 0 c).after 5 t = (outsAt0 V c t.val t.isLt).2.1 := by dsimp only [dats]

theorem before0_0 (c : Dev nD) (t : Fin cfg0.N) (d) : (dats V 0 c).before 0 t d = iblk V c 0 t :=
  before0_0_of V (dats V 0 c) (A_eq V c 0) (after0_0 V c) t d
theorem before0_1 (c : Dev nD) (t : Fin cfg0.N) (d) : (dats V 0 c).before 1 t d = iblk V c 1 t :=
  before0_1_of V (dats V 0 c) (A_eq V c 1) (after0_1 V c) t d
theorem before0_2 (c : Dev nD) (t : Fin cfg0.N) (d) : (dats V 0 c).before 2 t d = iblk V c 2 t :=
  before0_2_of V (dats V 0 c) (A_eq V c 2) (after0_2 V c) t d
theorem before0_3 (c : Dev nD) (t : Fin cfg0.N) (d) : (dats V 0 c).before 3 t d = iblk V c 3 t :=
  before0_3_of V (dats V 0 c) (A_eq V c 3) (after0_3 V c) t d

def bodyPre (c : Dev nD) (t : Fin cfg0.N) : sProp 𝕄 :=
  iprop((dats V 0 c).Φ t.castSucc ∗ (dats V 0 c).owesAt () t.castSucc
    ∗ (∃ d, owns (c : Thread nD τ) (ms0_0 t) fullShare ((dats V 0 c).before 0 t d))
    ∗ (∃ d, owns (c : Thread nD τ) (ms0_1 t) fullShare ((dats V 0 c).before 1 t d))
    ∗ (∃ d, owns (c : Thread nD τ) (ms0_2 t) fullShare ((dats V 0 c).before 2 t d))
    ∗ (∃ d, owns (c : Thread nD τ) (ms0_3 t) fullShare ((dats V 0 c).before 3 t d))
    ∗ (∃ d, owns (c : Thread nD τ) (ms0_4 t) fullShare ((dats V 0 c).before 4 t d))
    ∗ (∃ d, owns (c : Thread nD τ) (ms0_5 t) fullShare ((dats V 0 c).before 5 t d)))

def bodyPost (c : Dev nD) (t : Fin cfg0.N) : sProp 𝕄 :=
  iprop((dats V 0 c).Φ t.succ ∗ (dats V 0 c).owesAt () t.succ
    ∗ owns (c : Thread nD τ) (ms0_0 t) fullShare ((dats V 0 c).after 0 t)
    ∗ owns (c : Thread nD τ) (ms0_1 t) fullShare ((dats V 0 c).after 1 t)
    ∗ owns (c : Thread nD τ) (ms0_2 t) fullShare ((dats V 0 c).after 2 t)
    ∗ owns (c : Thread nD τ) (ms0_3 t) fullShare ((dats V 0 c).after 3 t)
    ∗ owns (c : Thread nD τ) (ms0_4 t) fullShare ((dats V 0 c).after 4 t)
    ∗ owns (c : Thread nD τ) (ms0_5 t) fullShare ((dats V 0 c).after 5 t))

set_option maxHeartbeats 3200000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dats V 0 c).owesAt () t.succ = (dats V 0 c).owesAt () t.castSucc from rfl,
    after0_0, after0_1, after0_2, after0_3, after0_4, after0_5]
  rw [show (dats V 0 c).Φ t.succ = PhiS V c (t.val + 1) t.isLt from rfl, PhiS_succ]
  have hN : t.val < 8 := lt_of_lt_of_eq t.isLt (show cfg0.N = 8 from N_0)
  by_cases h0 : t.val % 8 = 0
  · by_cases hz : t.val = 0
    · rw [PhiS_castSucc V c t, PhiS_zero V c _ _ hz, PhiA0_eq]
      rw [outsAt0_A V c t h0]
      unfold out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk V c 0 t) (iblk V c 1 t) (iblk V c 2 t) (iblk V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc V c t, PhiS_pos V c _ _ hz]
      rw [outsAt0_B V c t h0]
      unfold out0_B_4 out0_B_5 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk V c 0 t) (iblk V c 1 t) (iblk V c 2 t) (iblk V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) V 0 c) (defs₀ (F := F)) Variants.none () Set.univ := fun t => by
  rw [bigSep_W0, bigSep_W0, defs₀_row]
  exact triple_restated (sound_body V c t) rfl .rfl fun _ => .rfl

/-- What the region's entry hands over is the invariant before the first point. -/
theorem phi_first (c : Dev nD) : (dats V 0 c).Φ 0 = PhiA c := by
  rw [show (dats V 0 c).Φ 0 = PhiS V c 0 (Nat.zero_le _) from rfl, PhiS_zero V c 0 _ rfl]

/-- After the last point the scratch's named contents are forgotten. -/
theorem phi_last (c : Dev nD) : (dats V 0 c).Φ (Fin.last cfg0.N) ⊢ PhiA c := by
  rw [show (dats V 0 c).Φ (Fin.last cfg0.N) = PhiS V c (Fin.last cfg0.N).val (Nat.le_of_lt_succ (Fin.last cfg0.N).isLt) from rfl,
    PhiS_pos V c _ _ (by rw [Fin.val_last]; have : cfg0.N = 8 := N_0; omega), PhiA0_eq]
  iintro ⟨HS0, Hg⟩
  isplitl [HS0]
  · iexists _; iexact HS0
  iexact Hg

end Cert.KernelIdeal.R0

end
-- ==== Proof.KIR1Runs.lean ====
/- The splat call of `KernelIdeal`, its body run at a point: the first point of a sweep (A) and the others (B). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R1

open Cert.KernelIdeal.Gen Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid1.Coords) : Prop := (Scalar.cmpi .ne (Scalar.extui (Scalar.cmpi .eq (BitVec.ofNat 32 (i 1).val) 0#32)) 0#32) = 1#1
theorem hcond0_0 : ∀ t : Fin cfg1.N, cond0_0 (grid1.coords t) ↔ t.val % 8 = 0 :=
  (fun t => by
    have ht : t.val < 32 := Nat.lt_of_lt_of_eq t.isLt N_1
    have e0 : (grid1.coords t 0).val = t.val / 8 % 4 := Pipeline.Grid.coords_val t 0 (by decide) rfl
    have e1 : (grid1.coords t 1).val = t.val / 1 % 8 := Pipeline.Grid.coords_val t 1 (by decide) rfl
    simp only [cond0_0, e0, e1]
    word_cmp
   : ∀ t : Fin grid1.N, cond0_0 (grid1.coords t) ↔ t.val % 8 = 0)

abbrev VO0_2 : View sig .tc .vmem S1024x8 .f32 := (Memref.whole cc1_stg2_0 : Memref sig .tc .vmem S1024x8 .f32).view
abbrev ms0_0 (t : Fin cfg1.N) : Memref sig .tc .vmem S8x512 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S512x8 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S1024x8 .f32 := win1_2.stage (cfg1.slots t 2)
abbrev hs0_2 (t : Fin cfg1.N) : (ms0_2 t).IsWhole := hstage1_2 ((cfg1.slots t 2).cast nbuf1_2)
abbrev scM0_0 : Memref sig .tc .vmem S1024x1 .f32 := Memref.whole cc1_scratch0
abbrev VS0_0 : View sig .tc .vmem S1024x1 .f32 := scM0_0.view

/-- The scoped buffers of the other call, each at some contents, and the generator register at some state. -/
def Rest (c : Dev nD) : sProp 𝕄 :=
  iprop(((∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_stg0_0), ((c : Thread nD τ).loc cc0_stg0_0) ↦{fullShare} f)) ∗ (∃ r, prngReg c r))

/-- What the invariant says before the first point: the scratch at anything, and the rest. -/
def PhiA (c : Dev nD) : sProp 𝕄 :=
  iprop(iprop((∃ d, owns (c : Thread nD τ) scM0_0 fullShare d)) ∗ Rest c)

theorem PhiA0_eq (c : Dev nD) :
    (PhiA c : sProp 𝕄) = iprop(iprop((∃ d, owns (c : Thread nD τ) scM0_0 fullShare d)) ∗ Rest c) := rfl

/-- The scoped buffers that this call does not stage, its scratch taken first. -/
theorem scoped_eq (c : Dev nD) :
    (Pipeline.scopedRest (Ix := Unit) (Name := ℕ) (U := UR sig nD τ) (Lvl := ℕ) (Val := Elt F) spec1 c : sProp 𝕄)
      = iprop((∃ d, owns (c : Thread nD τ) scM0_0 fullShare d) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_stg0_0), ((c : Thread nD τ).loc cc0_stg0_0) ↦{fullShare} f)) := by
  simp only [scM0_0, owns_whole]
  exact Pipeline.scopedRest_eq_of_list spec1 c [cc1_scratch0, cc0_stg1_0, cc0_stg2_0, cc0_stg3_0, cc0_stg4_0, cc0_stg4_1, cc0_stg5_0, cc0_stg5_1, cc0_scratch0, cc0_stg0_0] (by decide) (by decide)

set_option maxHeartbeats 1000000 in
noncomputable def kernelRun0_A (c : Dev nD) (i : grid1.Coords) (arg2 : Memref sig .tc .vmem S8x512 .f32) (harg2 : arg2.IsWhole) (arg3 : Memref sig .tc .vmem S512x8 .f32) (harg3 : arg3.IsWhole) (arg4 : Memref sig .tc .vmem S1024x8 .f32) (harg4 : arg4.IsWhole) (arg5 : Memref sig .tc .vmem S1024x1 .f32) (harg5 : arg5.IsWhole) (hc0 : cond0_0 i)
    (x0 : Vec F S8x512 .f32) (x1 : Vec F S512x8 .f32) :
    Σ' (L2 : List (View.Piece (Elt F) S1024x8 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__splat_body i arg2 harg2 arg3 harg3 arg4 harg4 arg5 harg5) K } := by
  refine ⟨?_, ?_, fun E K => ?run⟩
  case run =>
    simp only [cc1__splat_body_eq_skeleton]; unfold cc1__splat_body_skel
    simp only [k1_part1_eq_skeleton, k1_part2_eq_skeleton, k1_part3_eq_skeleton]
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.R1

end
-- ==== Proof.KIR1RunB.lean ====
/- The splat call of `KernelIdeal`, its body run at a point that is not the first of a sweep. -/
module

public import proofs.«01_k».proof.Proof.KIR1Runs

@[expose] public section

set_option maxRecDepth 16384

noncomputable section

namespace Cert.KernelIdeal.R1

open Cert.KernelIdeal.Gen Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
noncomputable def kernelRun0_B (c : Dev nD) (i : grid1.Coords) (arg2 : Memref sig .tc .vmem S8x512 .f32) (harg2 : arg2.IsWhole) (arg3 : Memref sig .tc .vmem S512x8 .f32) (harg3 : arg3.IsWhole) (arg4 : Memref sig .tc .vmem S1024x8 .f32) (harg4 : arg4.IsWhole) (arg5 : Memref sig .tc .vmem S1024x1 .f32) (harg5 : arg5.IsWhole) (hc0 : ¬cond0_0 i)
    (x0 : Vec F S8x512 .f32) (x1 : Vec F S512x8 .f32) (xo2 : Vec F S1024x8 .f32) (xs0 : Vec F S1024x1 .f32) :
    Σ' (L2 : List (View.Piece (Elt F) S1024x8 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__splat_body i arg2 harg2 arg3 harg3 arg4 harg4 arg5 harg5) K } := by
  refine ⟨?_, ?_, fun E K => ?run⟩
  case run =>
    simp only [cc1__splat_body_eq_skeleton]; unfold cc1__splat_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.R1

end
-- ==== Proof.KIR1Frame.lean ====
/- The splat call of `KernelIdeal`: what its buffers hold point by point, from any contents `V` at entry, and the body obligation. -/
module

public import proofs.«01_k».proof.Proof.KIR1RunB
public import Idealize.ShloMosaic.Lib.Claim

@[expose] public section

set_option maxRecDepth 16384

noncomputable section

namespace Cert.KernelIdeal.R1

open Cert.KernelIdeal.Gen Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

theorem cover0_A_2 (c : Dev nD) (i : grid1.Coords) (arg2 : Memref sig .tc .vmem S8x512 .f32) (harg2 : arg2.IsWhole) (arg3 : Memref sig .tc .vmem S512x8 .f32) (harg3 : arg3.IsWhole) (arg4 : Memref sig .tc .vmem S1024x8 .f32) (harg4 : arg4.IsWhole) (arg5 : Memref sig .tc .vmem S1024x1 .f32) (harg5 : arg5.IsWhole) (hc0 : cond0_0 i)
    (x0 : Vec F S8x512 .f32) (x1 : Vec F S512x8 .f32) (y : S1024x8.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1024x8.size (by sl_kernel_rfl) y

def out0_A_2 (c : Dev nD) (i : grid1.Coords) (arg2 : Memref sig .tc .vmem S8x512 .f32) (harg2 : arg2.IsWhole) (arg3 : Memref sig .tc .vmem S512x8 .f32) (harg3 : arg3.IsWhole) (arg4 : Memref sig .tc .vmem S1024x8 .f32) (harg4 : arg4.IsWhole) (arg5 : Memref sig .tc .vmem S1024x1 .f32) (harg5 : arg5.IsWhole) (hc0 : cond0_0 i)
    (x0 : Vec F S8x512 .f32) (x1 : Vec F S512x8 .f32) : Vec F S1024x8 .f32 :=
  VO0_2.read (Elt F) (VO0_2.writes (Elt F) VO0_2.junk (kernelRun0_A c i arg2 harg2 arg3 harg3 arg4 harg4 arg5 harg5 hc0 x0 x1).1)

theorem scover0_A_0 (c : Dev nD) (i : grid1.Coords) (arg2 : Memref sig .tc .vmem S8x512 .f32) (harg2 : arg2.IsWhole) (arg3 : Memref sig .tc .vmem S512x8 .f32) (harg3 : arg3.IsWhole) (arg4 : Memref sig .tc .vmem S1024x8 .f32) (harg4 : arg4.IsWhole) (arg5 : Memref sig .tc .vmem S1024x1 .f32) (harg5 : arg5.IsWhole) (hc0 : cond0_0 i)
    (x0 : Vec F S8x512 .f32) (x1 : Vec F S512x8 .f32) (y : S1024x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1024x1.size (by sl_kernel_rfl) y

def sout0_A_0 (c : Dev nD) (i : grid1.Coords) (arg2 : Memref sig .tc .vmem S8x512 .f32) (harg2 : arg2.IsWhole) (arg3 : Memref sig .tc .vmem S512x8 .f32) (harg3 : arg3.IsWhole) (arg4 : Memref sig .tc .vmem S1024x8 .f32) (harg4 : arg4.IsWhole) (arg5 : Memref sig .tc .vmem S1024x1 .f32) (harg5 : arg5.IsWhole) (hc0 : cond0_0 i)
    (x0 : Vec F S8x512 .f32) (x1 : Vec F S512x8 .f32) : Vec F S1024x1 .f32 :=
  VS0_0.read (Elt F) (VS0_0.writes (Elt F) VS0_0.junk (kernelRun0_A c i arg2 harg2 arg3 harg3 arg4 harg4 arg5 harg5 hc0 x0 x1).2.1)

theorem cover0_B_2 (c : Dev nD) (i : grid1.Coords) (arg2 : Memref sig .tc .vmem S8x512 .f32) (harg2 : arg2.IsWhole) (arg3 : Memref sig .tc .vmem S512x8 .f32) (harg3 : arg3.IsWhole) (arg4 : Memref sig .tc .vmem S1024x8 .f32) (harg4 : arg4.IsWhole) (arg5 : Memref sig .tc .vmem S1024x1 .f32) (harg5 : arg5.IsWhole) (hc0 : ¬cond0_0 i)
    (x0 : Vec F S8x512 .f32) (x1 : Vec F S512x8 .f32) (xo2 : Vec F S1024x8 .f32) (xs0 : Vec F S1024x1 .f32) (y : S1024x8.Idx) :
    ∃ pc ∈ (kernelRun0_B c i arg2 harg2 arg3 harg3 arg4 harg4 arg5 harg5 hc0 x0 x1 xo2 xs0).1, y ∈ pc.1.set :=
  View.cover_of_tiledL (kernelRun0_B c i arg2 harg2 arg3 harg3 arg4 harg4 arg5 harg5 hc0 x0 x1 xo2 xs0).1 S1024x8.size (by sl_kernel_rfl) y

def out0_B_2 (c : Dev nD) (i : grid1.Coords) (arg2 : Memref sig .tc .vmem S8x512 .f32) (harg2 : arg2.IsWhole) (arg3 : Memref sig .tc .vmem S512x8 .f32) (harg3 : arg3.IsWhole) (arg4 : Memref sig .tc .vmem S1024x8 .f32) (harg4 : arg4.IsWhole) (arg5 : Memref sig .tc .vmem S1024x1 .f32) (harg5 : arg5.IsWhole) (hc0 : ¬cond0_0 i)
    (x0 : Vec F S8x512 .f32) (x1 : Vec F S512x8 .f32) (xo2 : Vec F S1024x8 .f32) (xs0 : Vec F S1024x1 .f32) : Vec F S1024x8 .f32 :=
  VO0_2.read (Elt F) (VO0_2.writes (Elt F) VO0_2.junk (kernelRun0_B c i arg2 harg2 arg3 harg3 arg4 harg4 arg5 harg5 hc0 x0 x1 xo2 xs0).1)

theorem scover0_B_0 (c : Dev nD) (i : grid1.Coords) (arg2 : Memref sig .tc .vmem S8x512 .f32) (harg2 : arg2.IsWhole) (arg3 : Memref sig .tc .vmem S512x8 .f32) (harg3 : arg3.IsWhole) (arg4 : Memref sig .tc .vmem S1024x8 .f32) (harg4 : arg4.IsWhole) (arg5 : Memref sig .tc .vmem S1024x1 .f32) (harg5 : arg5.IsWhole) (hc0 : ¬cond0_0 i)
    (x0 : Vec F S8x512 .f32) (x1 : Vec F S512x8 .f32) (xo2 : Vec F S1024x8 .f32) (xs0 : Vec F S1024x1 .f32) (y : S1024x1.Idx) :
    ∃ pc ∈ (kernelRun0_B c i arg2 harg2 arg3 harg3 arg4 harg4 arg5 harg5 hc0 x0 x1 xo2 xs0).2.1, y ∈ pc.1.set :=
  View.cover_of_tiledL (kernelRun0_B c i arg2 harg2 arg3 harg3 arg4 harg4 arg5 harg5 hc0 x0 x1 xo2 xs0).2.1 S1024x1.size (by sl_kernel_rfl) y

def sout0_B_0 (c : Dev nD) (i : grid1.Coords) (arg2 : Memref sig .tc .vmem S8x512 .f32) (harg2 : arg2.IsWhole) (arg3 : Memref sig .tc .vmem S512x8 .f32) (harg3 : arg3.IsWhole) (arg4 : Memref sig .tc .vmem S1024x8 .f32) (harg4 : arg4.IsWhole) (arg5 : Memref sig .tc .vmem S1024x1 .f32) (harg5 : arg5.IsWhole) (hc0 : ¬cond0_0 i)
    (x0 : Vec F S8x512 .f32) (x1 : Vec F S512x8 .f32) (xo2 : Vec F S1024x8 .f32) (xs0 : Vec F S1024x1 .f32) : Vec F S1024x1 .f32 :=
  VS0_0.read (Elt F) (VS0_0.writes (Elt F) VS0_0.junk (kernelRun0_B c i arg2 harg2 arg3 harg3 arg4 harg4 arg5 harg5 hc0 x0 x1 xo2 xs0).2.1)

def outsAt0 (c : Dev nD) : (n : ℕ) → n < cfg1.N → Vec F S1024x8 .f32 × Vec F S1024x1 .f32
  | 0, hn => (out0_A_2 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk V c 0 ⟨0, hn⟩) (iblk V c 1 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk V c 0 ⟨0, hn⟩) (iblk V c 1 ⟨0, hn⟩))
  | n + 1, hn =>
    if h0 : (n + 1) % 8 = 0 then
      (out0_A_2 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk V c 0 ⟨n + 1, hn⟩) (iblk V c 1 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk V c 0 ⟨n + 1, hn⟩) (iblk V c 1 ⟨n + 1, hn⟩))
    else
      (out0_B_2 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk V c 0 ⟨n + 1, hn⟩) (iblk V c 1 ⟨n + 1, hn⟩) (outsAt0 c n (Nat.lt_of_succ_lt hn)).1 (outsAt0 c n (Nat.lt_of_succ_lt hn)).2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk V c 0 ⟨n + 1, hn⟩) (iblk V c 1 ⟨n + 1, hn⟩) (outsAt0 c n (Nat.lt_of_succ_lt hn)).1 (outsAt0 c n (Nat.lt_of_succ_lt hn)).2)

theorem outsAt0_A (c : Dev nD) (t : Fin cfg1.N) (h0 : t.val % 8 = 0) :
    outsAt0 V c t.val t.isLt = (out0_A_2 c (grid1.coords t) (ms0_0 t) (hs0_0 t) (ms0_1 t) (hs0_1 t) (ms0_2 t) (hs0_2 t) scM0_0 (Memref.isWhole_whole _) ((hcond0_0 t).mpr h0) (iblk V c 0 t) (iblk V c 1 t), sout0_A_0 c (grid1.coords t) (ms0_0 t) (hs0_0 t) (ms0_1 t) (hs0_1 t) (ms0_2 t) (hs0_2 t) scM0_0 (Memref.isWhole_whole _) ((hcond0_0 t).mpr h0) (iblk V c 0 t) (iblk V c 1 t)) := by
  obtain ⟨n, hn⟩ := t
  cases n with
  | zero => exact rfl
  | succ n => exact (dif_pos h0).trans rfl

theorem outsAt0_B (c : Dev nD) (t : Fin cfg1.N) (h0 : ¬t.val % 8 = 0) :
    outsAt0 V c t.val t.isLt = (out0_B_2 c (grid1.coords t) (ms0_0 t) (hs0_0 t) (ms0_1 t) (hs0_1 t) (ms0_2 t) (hs0_2 t) scM0_0 (Memref.isWhole_whole _) (fun h => h0 ((hcond0_0 t).mp h)) (iblk V c 0 t) (iblk V c 1 t) (outsAt0 V c (t.val - 1) (Nat.lt_of_le_of_lt (Nat.sub_le _ _) t.isLt)).1 (outsAt0 V c (t.val - 1) (Nat.lt_of_le_of_lt (Nat.sub_le _ _) t.isLt)).2, sout0_B_0 c (grid1.coords t) (ms0_0 t) (hs0_0 t) (ms0_1 t) (hs0_1 t) (ms0_2 t) (hs0_2 t) scM0_0 (Memref.isWhole_whole _) (fun h => h0 ((hcond0_0 t).mp h)) (iblk V c 0 t) (iblk V c 1 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg1.N → sProp 𝕄
  | 0, _ => PhiA c
  | n + 1, hn => iprop(iprop(owns (c : Thread nD τ) scM0_0 fullShare ((outsAt0 V c n hn).2)) ∗ Rest c)

theorem PhiS_zero (c : Dev nD) (n : ℕ) (h : n ≤ cfg1.N) (hz : n = 0) : PhiS V c n h = PhiA c := by
  subst hz; rfl

theorem PhiS_succ (c : Dev nD) (n : ℕ) (hn : n < cfg1.N) :
    PhiS V c (n + 1) hn = iprop(iprop(owns (c : Thread nD τ) scM0_0 fullShare ((outsAt0 V c n hn).2)) ∗ Rest c) := rfl

theorem PhiS_pos (c : Dev nD) (n : ℕ) (h : n ≤ cfg1.N) (hz : n ≠ 0) :
    PhiS V c n h = iprop(iprop(owns (c : Thread nD τ) scM0_0 fullShare ((outsAt0 V c (n - 1) (by omega)).2)) ∗ Rest c) := by
  cases n with
  | zero => exact absurd rfl hz
  | succ n => rfl

def dats (_ : Fin 1) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt0 V c t.val t.isLt).1
  Φ t := PhiS V c t.val (Nat.le_of_lt_succ t.isLt)
  q _ := fullShare
  owed _ := 0

theorem A_eq (c : Dev nD) (w : Fin cfg1.W) : (dats V 0 c).A w = V c (Pipeline.arrRef spec1 w) := by
  dsimp only [dats]

theorem PhiS_castSucc (c : Dev nD) (t : Fin cfg1.N) :
    (dats V 0 c).Φ t.castSucc = PhiS V c t.val (Nat.le_of_lt t.isLt) := by
  dsimp only [dats]; exact Pipeline.Dat.Φ_castSucc (PhiS V c) t

theorem after0_0 (c : Dev nD) (t : Fin cfg1.N) : (dats V 0 c).after 0 t = iblk V c 0 t := by dsimp only [dats]
theorem after0_1 (c : Dev nD) (t : Fin cfg1.N) : (dats V 0 c).after 1 t = iblk V c 1 t := by dsimp only [dats]
theorem after0_2 (c : Dev nD) (t : Fin cfg1.N) : (dats V 0 c).after 2 t = (outsAt0 V c t.val t.isLt).1 := by dsimp only [dats]

theorem before0_0 (c : Dev nD) (t : Fin cfg1.N) (d) : (dats V 0 c).before 0 t d = iblk V c 0 t :=
  before0_0_of V (dats V 0 c) (A_eq V c 0) (after0_0 V c) t d
theorem before0_1 (c : Dev nD) (t : Fin cfg1.N) (d) : (dats V 0 c).before 1 t d = iblk V c 1 t :=
  before0_1_of V (dats V 0 c) (A_eq V c 1) (after0_1 V c) t d
theorem before0_2_B (c : Dev nD) (t : Fin cfg1.N) (h0 : ¬t.val % 8 = 0) (d) :
    (dats V 0 c).before 2 t d = (outsAt0 V c (t.val - 1) (Nat.lt_of_le_of_lt (Nat.sub_le _ _) t.isLt)).1 := by
  have hN : t.val < 32 := lt_of_lt_of_eq t.isLt (show cfg1.N = 32 from N_1)
  rw [Dat.before_out_kept _ 2 rfl t (by omega) (Bool.eq_false_iff.mpr fun h => by have := (flush1_2 _).mp h; dsimp only at this; omega)
    (fun _ => rfl) (fun _ _ => rfl)]
  dsimp only [dats]

def bodyPre (c : Dev nD) (t : Fin cfg1.N) : sProp 𝕄 :=
  iprop((dats V 0 c).Φ t.castSucc ∗ (dats V 0 c).owesAt () t.castSucc
    ∗ (∃ d, owns (c : Thread nD τ) (ms0_0 t) fullShare ((dats V 0 c).before 0 t d))
    ∗ (∃ d, owns (c : Thread nD τ) (ms0_1 t) fullShare ((dats V 0 c).before 1 t d))
    ∗ (∃ d, owns (c : Thread nD τ) (ms0_2 t) fullShare ((dats V 0 c).before 2 t d)))

def bodyPost (c : Dev nD) (t : Fin cfg1.N) : sProp 𝕄 :=
  iprop((dats V 0 c).Φ t.succ ∗ (dats V 0 c).owesAt () t.succ
    ∗ owns (c : Thread nD τ) (ms0_0 t) fullShare ((dats V 0 c).after 0 t)
    ∗ owns (c : Thread nD τ) (ms0_1 t) fullShare ((dats V 0 c).after 1 t)
    ∗ owns (c : Thread nD τ) (ms0_2 t) fullShare ((dats V 0 c).after 2 t))

set_option maxHeartbeats 3200000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1]
  rw [show (dats V 0 c).owesAt () t.succ = (dats V 0 c).owesAt () t.castSucc from rfl,
    after0_0, after0_1, after0_2]
  rw [show (dats V 0 c).Φ t.succ = PhiS V c (t.val + 1) t.isLt from rfl, PhiS_succ]
  have hN : t.val < 32 := lt_of_lt_of_eq t.isLt (show cfg1.N = 32 from N_1)
  by_cases h0 : t.val % 8 = 0
  · by_cases hz : t.val = 0
    · rw [PhiS_castSucc V c t, PhiS_zero V c _ _ hz, PhiA0_eq]
      rw [outsAt0_A V c t h0]
      unfold out0_A_2 sout0_A_0; (try dsimp only)
      iintro ⟨⟨HS0, Hg⟩, Ho, ⟨%d0, H0⟩, ⟨%d1, H1⟩, ⟨%d2, H2⟩⟩
      iapply ((kernelRun0_A c (grid1.coords t) _ _ _ _ _ _ _ _ ((hcond0_0 t).mpr h0) (iblk V c 0 t) (iblk V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
    · rw [PhiS_castSucc V c t, PhiS_pos V c _ _ hz]
      rw [outsAt0_A V c t h0]
      unfold out0_A_2 sout0_A_0; (try dsimp only)
      iintro ⟨⟨HS0, Hg⟩, Ho, ⟨%d0, H0⟩, ⟨%d1, H1⟩, ⟨%d2, H2⟩⟩
      iapply ((kernelRun0_A c (grid1.coords t) _ _ _ _ _ _ _ _ ((hcond0_0 t).mpr h0) (iblk V c 0 t) (iblk V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
  · by_cases hz : t.val = 0
    · exfalso; have hN : t.val < 32 := lt_of_lt_of_eq t.isLt (show cfg1.N = 32 from N_1); omega
    · rw [PhiS_castSucc V c t, PhiS_pos V c _ _ hz]
      rw [outsAt0_B V c t h0]
      simp only [before0_2_B V c t h0]
      unfold out0_B_2 sout0_B_0; (try dsimp only)
      iintro ⟨⟨HS0, Hg⟩, Ho, ⟨%d0, H0⟩, ⟨%d1, H1⟩, ⟨%d2, H2⟩⟩
      iapply ((kernelRun0_B c (grid1.coords t) _ _ _ _ _ _ _ _ (fun h => h0 ((hcond0_0 t).mp h)) (iblk V c 0 t) (iblk V c 1 t) _ _).2.2 Set.univ _)
      isplitl [H0]; · iexact H0
      isplitl [H1]; · iexact H1
      isplitl [H2]; · iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _ _ _)

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dats (F := F) V 0 c) (defs₀ (F := F)) Variants.none () Set.univ := fun t => by
  rw [bigSep_W1, bigSep_W1, defs₀_row]
  exact triple_restated (sound_body V c t) rfl .rfl fun _ => .rfl

/-- What the region's entry hands over is the invariant before the first point. -/
theorem phi_first (c : Dev nD) : (dats V 0 c).Φ 0 = PhiA c := by
  rw [show (dats V 0 c).Φ 0 = PhiS V c 0 (Nat.zero_le _) from rfl, PhiS_zero V c 0 _ rfl]

/-- After the last point the scratch's named contents are forgotten. -/
theorem phi_last (c : Dev nD) : (dats V 0 c).Φ (Fin.last cfg1.N) ⊢ PhiA c := by
  rw [show (dats V 0 c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA0_eq]
  iintro ⟨HS0, Hg⟩
  isplitl [HS0]
  · iexists _; iexact HS0
  iexact Hg

end Cert.KernelIdeal.R1

end
-- ==== Proof.KIWhole.lean ====
/- `KernelIdeal` whole: both calls among the host operations, the contents of every buffer between them, and the run. -/
module

public import proofs.«01_k».proof.Proof.KIR0Frame
public import proofs.«01_k».proof.Proof.KIR1Frame
public import proofs.«01_k».proof.Proof.Gen.KernelIdeal.Regions
public import Idealize.ShloMosaic.Lib.Pipeline.RegionsLoop
public import Idealize.ShloMosaic.Lib.Pipeline.FrameSuffix
public import Idealize.ShloMosaic.Lib.Claim

@[expose] public section

set_option maxRecDepth 16384

noncomputable section

namespace Cert.KernelIdeal.Whole

open Cert.KernelIdeal.Gen hiding adm V0 V1 V2 V3 V4 V5 V6 V7 V1_of V2_of V3_of V4_of V5_of V6_of V7_of segs
open Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The arguments. -/
abbrev argRefs : List (Ref sig .tc) := [main_arg0, main_arg1, main_arg2, main_arg3, main_arg4, main_arg5, main_arg6]

/-- A core's buffers as launched. -/
abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl

/-- After `hostOps0`. -/
abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_args (c : Dev nD) : ∀ a ∈ argRefs, W1 m c (Proc.devRef .tc a) = m ((c : Thread nD τ).loc a) :=
  fun a ha => (W1_of m c a (by revert a; decide)).trans (W0_args m c a ha)

/-- After `hostOps0_1`. -/
abbrev W2 : Dev nD → Valuation τ sig (Elt F) := fun c => StableHlo.after hostOps0_1 (W1 m c)
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W2_args (c : Dev nD) : ∀ a ∈ argRefs, W2 m c (Proc.devRef .tc a) = m ((c : Thread nD τ).loc a) :=
  fun a ha => (W2_of m c a (by revert a; decide)).trans (W1_args m c a ha)

/-- After `hostOps0_2`. -/
abbrev W3 : Dev nD → Valuation τ sig (Elt F) := fun c => StableHlo.after hostOps0_2 (W2 m c)
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W3_args (c : Dev nD) : ∀ a ∈ argRefs, W3 m c (Proc.devRef .tc a) = m ((c : Thread nD τ).loc a) :=
  fun a ha => (W3_of m c a (by revert a; decide)).trans (W2_args m c a ha)

/-- After `hostOps0_3`. -/
abbrev W4 : Dev nD → Valuation τ sig (Elt F) := fun c => StableHlo.after hostOps0_3 (W3 m c)
theorem W4_of (c : Dev nD) (r : Ref sig .tc) (h : r ∉ hostOps0_3_W) : W4 m c (Proc.devRef .tc r) = W3 m c (Proc.devRef .tc r) :=
  StableHlo.after_of_writes_sub hostOps0_3 _ hostOps0_3_writes h
theorem W4_args (c : Dev nD) : ∀ a ∈ argRefs, W4 m c (Proc.devRef .tc a) = m ((c : Thread nD τ).loc a) :=
  fun a ha => (W4_of m c a (by revert a; decide)).trans (W3_args m c a ha)

/-- The same contents read at the core's references: what call 0 is entered from. -/
abbrev V4 : (c : Dev nD) → (b : Ref sig .tc) → Buf (Elt F) ((c : Thread nD τ).loc b) := fun c b => W4 m c b
/-- After call 0: its arrays as the pipeline leaves them, every other buffer as it was. -/
def W5 (c : Dev nD) : Valuation τ sig (Elt F) :=
  Pipeline.withArrays spec0 c (W4 m c) fun w => (R0.dats (V4 m) 0 c).arrAt w cfg0.N
theorem W5_arr (c : Dev nD) (w : Fin cfg0.W) :
    W5 m c (Proc.devRef .tc (Pipeline.arrRef spec0 w)) = (R0.dats (V4 m) 0 c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
theorem args_ne0 : ∀ a ∈ argRefs, ∀ w : Fin cfg0.W, Pipeline.arrRef spec0 w ≠ a := by decide
theorem W5_args (c : Dev nD) : ∀ a ∈ argRefs, W5 m c (Proc.devRef .tc a) = m ((c : Thread nD τ).loc a) :=
  fun a ha => (W5_of_ne m c a (args_ne0 a ha)).trans (W4_args m c a ha)
abbrev V5 : (c : Dev nD) → (b : Ref sig .tc) → Buf (Elt F) ((c : Thread nD τ).loc b) := fun c b => W5 m c b
theorem leaves0 (c : Dev nD) (w : Fin cfg0.W) : (R0.dats (V4 m) 0 c).arrAt w cfg0.N = V5 m c (Pipeline.arrRef spec0 w) :=
  (W5_arr m c w).symm
theorem keeps0 (c : Dev nD) : ∀ b, b ∉ Finset.univ.image (Pipeline.arrRef spec0) → V5 m c b = V4 m c b :=
  fun b hb => W5_of_ne m c b fun w e => hb (Finset.mem_image.mpr ⟨w, Finset.mem_univ _, e⟩)

/-- After call 1: its arrays as the pipeline leaves them, every other buffer as it was. -/
def W6 (c : Dev nD) : Valuation τ sig (Elt F) :=
  Pipeline.withArrays spec1 c (W5 m c) fun w => (R1.dats (V5 m) 0 c).arrAt w cfg1.N
theorem W6_arr (c : Dev nD) (w : Fin cfg1.W) :
    W6 m c (Proc.devRef .tc (Pipeline.arrRef spec1 w)) = (R1.dats (V5 m) 0 c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem args_ne1 : ∀ a ∈ argRefs, ∀ w : Fin cfg1.W, Pipeline.arrRef spec1 w ≠ a := by decide
theorem W6_args (c : Dev nD) : ∀ a ∈ argRefs, W6 m c (Proc.devRef .tc a) = m ((c : Thread nD τ).loc a) :=
  fun a ha => (W6_of_ne m c a (args_ne1 a ha)).trans (W5_args m c a ha)
abbrev V6 : (c : Dev nD) → (b : Ref sig .tc) → Buf (Elt F) ((c : Thread nD τ).loc b) := fun c b => W6 m c b
theorem leaves1 (c : Dev nD) (w : Fin cfg1.W) : (R1.dats (V5 m) 0 c).arrAt w cfg1.N = V6 m c (Pipeline.arrRef spec1 w) :=
  (W6_arr m c w).symm
theorem keeps1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After `hostOps2`. -/
abbrev W7 : Dev nD → Valuation τ sig (Elt F) := fun c => StableHlo.after hostOps2 (W6 m c)
theorem W7_of (c : Dev nD) (r : Ref sig .tc) (h : r ∉ hostOps2_W) : W7 m c (Proc.devRef .tc r) = W6 m c (Proc.devRef .tc r) :=
  StableHlo.after_of_writes_sub hostOps2 _ hostOps2_writes h
theorem W7_args (c : Dev nD) : ∀ a ∈ argRefs, W7 m c (Proc.devRef .tc a) = m ((c : Thread nD τ).loc a) :=
  fun a ha => (W7_of m c a (by revert a; decide)).trans (W6_args m c a ha)

/-- No call has a prefetched table. -/
abbrev adm : (p : Fin 2) → (pcfgs (F := F) p).Adm := fun p => (cfgs p).toPCfg_adm

/-- Each call's proof data, at its entry contents. -/
def pdats : (p : Fin 2) → (c : Dev nD) → Dat τ (Elt F) Unit ℕ (UR sig nD τ) ℕ (Pipeline.pin (pcfgs (F := F)) adm p) c
  | ⟨0, _⟩ => fun c => R0.dats (V4 m) 0 c
  | ⟨1, _⟩ => fun c => R1.dats (V5 m) 0 c

abbrev 𝒱₀ : Variants := Variants.none
abbrev L : GSem nD τ sig → Finset Unit := fun _ => ∅
abbrev lv : GSem nD τ sig → Unit → ℕ := fun _ _ => 0
/-- What rides beside the buffers: the generator register, and nothing owed. -/
abbrev Side (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Side
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-- The invariant's parts given back at call 0's exit. -/
theorem close0 (c : Dev nD) : (R0.PhiA c : sProp 𝕄) ⊢ iprop((∃ r, prngReg c r) ∗ BI.emp ∗
    (Pipeline.scopedRest (Ix := Unit) (Name := ℕ) (U := UR sig nD τ) (Lvl := ℕ) (Val := Elt F) spec0 c : sProp 𝕄)) := by
  rw [R0.scoped_eq (F := F) c]; unfold R0.PhiA R0.Rest
  iintro ⟨Hs, Hr, Hp⟩
  isplitl [Hp]; · iexact Hp
  isplitr; · iempintro
  isplitl [Hs]; · iexact Hs
  iexact Hr

set_option backward.isDefEq.respectTransparency.types false in
/-- Call 0 over the thread state: entered from every unscoped buffer at `W4`, left at `W5`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V4 m) c).loose
  hwaits := Pipeline.hwaits_of_owed_zero _ _ _ _ L lv 0 fun _ _ => rfl
  pre c := iprop(StableHlo.held (c : Thread nD τ) (Pipeline.ucRefs τ sig) (W4 m c) ∗ Side c)
  post c := iprop(StableHlo.held (c : Thread nD τ) (Pipeline.ucRefs τ sig) (W5 m c) ∗ Side c)
  X c := iprop(∃ r, prngReg c r)
  Y c := iprop(∃ r, prngReg c r)
  Z c := Pipeline.unscopedRest (Ix := Unit) (Name := ℕ) (U := UR sig nD τ) (Lvl := ℕ) spec0 c (V4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V4 m c) (R0.A_eq (V4 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = R0.PhiA c from R0.phi_first (V4 m) c]; unfold R0.PhiA R0.Rest
    rw [show (Pipeline.scopedRest (Pipeline.pin (pcfgs (F := F)) adm 0).spec c : sProp 𝕄) = _ from R0.scoped_eq (F := F) c]
    iintro ⟨Hp, -, ⟨Hs, Hr⟩⟩
    isplitl [Hs]; · iexact Hs
    isplitl [Hr]; · iexact Hr
    iexact Hp
  hout c := by
    rw [Pipeline.ownSems0_none]
    exact BI.Entails.trans (R0.phi_last (V4 m) c) (close0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V4 m c) (V5 m c) ((pdats m 0 c).arrAt · cfg0.N) (leaves0 m c) (keeps0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The invariant's parts given back at call 1's exit. -/
theorem close1 (c : Dev nD) : (R1.PhiA c : sProp 𝕄) ⊢ iprop((∃ r, prngReg c r) ∗ BI.emp ∗
    (Pipeline.scopedRest (Ix := Unit) (Name := ℕ) (U := UR sig nD τ) (Lvl := ℕ) (Val := Elt F) spec1 c : sProp 𝕄)) := by
  rw [R1.scoped_eq (F := F) c]; unfold R1.PhiA R1.Rest
  iintro ⟨Hs, Hr, Hp⟩
  isplitl [Hp]; · iexact Hp
  isplitr; · iempintro
  isplitl [Hs]; · iexact Hs
  iexact Hr

set_option backward.isDefEq.respectTransparency.types false in
/-- Call 1 over the thread state: entered from every unscoped buffer at `W5`, left at `W6`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V5 m) c).loose
  hwaits := Pipeline.hwaits_of_owed_zero _ _ _ _ L lv 1 fun _ _ => rfl
  pre c := iprop(StableHlo.held (c : Thread nD τ) (Pipeline.ucRefs τ sig) (W5 m c) ∗ Side c)
  post c := iprop(StableHlo.held (c : Thread nD τ) (Pipeline.ucRefs τ sig) (W6 m c) ∗ Side c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) (R1.A_eq (V5 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = R1.PhiA c from R1.phi_first (V5 m) c]; unfold R1.PhiA R1.Rest
    rw [show (Pipeline.scopedRest (Pipeline.pin (pcfgs (F := F)) adm 1).spec c : sProp 𝕄) = _ from R1.scoped_eq (F := F) c]
    iintro ⟨Hp, -, ⟨Hs, Hr⟩⟩
    isplitl [Hs]; · iexact Hs
    isplitl [Hr]; · iexact Hr
    iexact Hp
  hout c := by
    rw [Pipeline.ownSems0_none]
    exact BI.Entails.trans (R1.phi_last (V5 m) c) (close1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (leaves1 m c) (keeps1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program as segments. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .region (reg1 m),
    .host (hseg hostOps2 hostOps2_sub hostOps2_fresh (W6 m)) ]
theorem main_run (c : Dev nD) : main (F := F) c = Pipeline.Seg.run (segs m) := (main_chain c).trans (by chain_rfl)
theorem no_unscoped : ∀ sm : SemLoc sig, sm.isScoped .tc = true := by decide

set_option backward.isDefEq.respectTransparency.types false in
/-- The whole run: from any memory with the counters at zero every weakly fair execution terminates, every unscoped buffer ends
    at `W7`, and every counter at zero. -/
theorem run_all : θ_run defs (onTc (τ := τ) (main (F := F))) ⟨m, fun _ => 0, ρ⟩
    (fun r => (∀ c : Dev nD, ∀ b ∈ Pipeline.ucRefs τ sig, r.2.mem (((c : Thread nD τ)).1, b) = W7 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Side c)) (Tₙ := Tₙ m)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h hz => ⟨h, funext fun g => hz g (.inr (no_unscoped g.2))⟩)

/-- An argument ends as launched. -/
theorem arg_kept {s : MemSt nD τ sig (Elt F)} {c : Dev nD} (h : ∀ b ∈ Pipeline.ucRefs τ sig, s.mem (((c : Thread nD τ)).1, b) = W7 m c b)
    (a : Ref sig .tc) (ha : a ∈ argRefs) (hu : ¬ (Proc.devRef .tc a : DevRef τ sig).isScoped) :
    s.mem ((c.tc : Thread nD τ).loc a) = m ((c.tc : Thread nD τ).loc a) :=
  (h _ (mem_uc a hu)).trans (W7_args m c a ha)

/-- The arguments end as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨arg_kept m (h.1 c) main_arg0 (by decide) (by decide), arg_kept m (h.1 c) main_arg1 (by decide) (by decide), arg_kept m (h.1 c) main_arg2 (by decide) (by decide), arg_kept m (h.1 c) main_arg3 (by decide) (by decide), arg_kept m (h.1 c) main_arg4 (by decide) (by decide), arg_kept m (h.1 c) main_arg5 (by decide) (by decide), arg_kept m (h.1 c) main_arg6 (by decide) (by decide)⟩, h.2⟩) (run_all m ρ)

end Cert.KernelIdeal.Whole

end
-- ==== Proof.RefFrame.lean ====
/- The reference runs, keeps its arguments, and has no semaphore. -/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.ReferenceIdeal.Whole

open Idealize.ShloMosaic Idealize.SL.Sem Cert.ReferenceIdeal Cert.ReferenceIdeal.Gen

/-- The arguments end as launched, and every counter, of which there is none, at zero. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2, sem_eq_zero_of_no_sems rfl r.2⟩) (Cert.ReferenceIdeal.Value.run m ρ)

end Cert.ReferenceIdeal.Whole

end
-- ==== Proof.KHost.lean ====
/- The kernel's host stretch before its calls: what it hands to the prologue call, over the reference's own values. -/
module

public import proofs.«01_k».proof.Proof.KIWhole
public import proofs.«01_k».proof.Proof.Gen.ReferenceIdeal.Read

@[expose] public section

set_option maxRecDepth 16384

noncomputable section

namespace Cert.KernelIdeal.Whole

open Cert.KernelIdeal
open Idealize.ShloMosaic Idealize.ShloMosaic.TcCoe Idealize.SL.Sem Idealize.ShloMosaic.StableHlo
open Cert.KernelIdeal.Gen hiding adm V0 V1 V2 V3 V4 V5 V6 V7 V1_of V2_of V3_of V4_of V5_of V6_of V7_of segs

variable (V : Valuation τ sig (Elt Ideal))

theorem h_v0 : after (hostOps0 (F := Ideal)) V (Proc.devRef .tc main_v0) = Cert.ReferenceIdeal.Read.val_main_v0 (F := Ideal) (V (Proc.devRef .tc main_arg5)) := by
  simp only [hostOps0, TRef.binary, TRef.nullary, TRef.unary, TRef.toBuf, TRef.ofBuf, cast_eq]
  after_results_simp
  rfl

/-- The second stretch before and after the entries of the camera rotation are joined. -/
abbrev opsA : List (HloOp τ sig (Elt Ideal)) := (hostOps0_1 (F := Ideal)).take 70
abbrev opsB : List (HloOp τ sig (Elt Ideal)) := (hostOps0_1 (F := Ideal)).drop 70
theorem split_ops : hostOps0_1 (F := Ideal) = opsA ++ opsB := (List.take_append_drop 70 _).symm

section
variable (h0 : V (Proc.devRef .tc main_v0) = Cert.ReferenceIdeal.Read.val_main_v0 (F := Ideal) (V (Proc.devRef .tc main_arg5)))
include h0

set_option maxHeartbeats 4000000 in
theorem h_v50 : after opsA V (Proc.devRef .tc main_v50) = Cert.ReferenceIdeal.Read.val_main_v50 (F := Ideal) (V (Proc.devRef .tc main_arg5)) := by
  simp only [opsA, hostOps0_1, List.take_succ_cons, List.take_zero]
  after_results_simp
  rw [h0]
  rfl

set_option maxHeartbeats 4000000 in
theorem h_v51 : after opsA V (Proc.devRef .tc main_v51) = Cert.ReferenceIdeal.Read.val_main_v51 (F := Ideal) (V (Proc.devRef .tc main_arg5)) := by
  simp only [opsA, hostOps0_1, List.take_succ_cons, List.take_zero]
  after_results_simp
  rw [h0]
  rfl

set_option maxHeartbeats 4000000 in
theorem h_v52 : after opsA V (Proc.devRef .tc main_v52) = Cert.ReferenceIdeal.Read.val_main_v52 (F := Ideal) (V (Proc.devRef .tc main_arg5)) := by
  simp only [opsA, hostOps0_1, List.take_succ_cons, List.take_zero]
  after_results_simp
  rw [h0]
  rfl

set_option maxHeartbeats 4000000 in
theorem h_v53 : after opsA V (Proc.devRef .tc main_v53) = Cert.ReferenceIdeal.Read.val_main_v53 (F := Ideal) (V (Proc.devRef .tc main_arg5)) := by
  simp only [opsA, hostOps0_1, List.take_succ_cons, List.take_zero]
  after_results_simp
  rw [h0]
  rfl

set_option maxHeartbeats 4000000 in
theorem h_v54 : after opsA V (Proc.devRef .tc main_v54) = Cert.ReferenceIdeal.Read.val_main_v54 (F := Ideal) (V (Proc.devRef .tc main_arg5)) := by
  simp only [opsA, hostOps0_1, List.take_succ_cons, List.take_zero]
  after_results_simp
  rw [h0]
  rfl

set_option maxHeartbeats 4000000 in
theorem h_v55 : after opsA V (Proc.devRef .tc main_v55) = Cert.ReferenceIdeal.Read.val_main_v55 (F := Ideal) (V (Proc.devRef .tc main_arg5)) := by
  simp only [opsA, hostOps0_1, List.take_succ_cons, List.take_zero]
  after_results_simp
  rw [h0]
  rfl

set_option maxHeartbeats 4000000 in
theorem h_v56 : after opsA V (Proc.devRef .tc main_v56) = Cert.ReferenceIdeal.Read.val_main_v56 (F := Ideal) (V (Proc.devRef .tc main_arg5)) := by
  simp only [opsA, hostOps0_1, List.take_succ_cons, List.take_zero]
  after_results_simp
  rw [h0]
  rfl

set_option maxHeartbeats 4000000 in
theorem h_v57 : after opsA V (Proc.devRef .tc main_v57) = Cert.ReferenceIdeal.Read.val_main_v57 (F := Ideal) (V (Proc.devRef .tc main_arg5)) := by
  simp only [opsA, hostOps0_1, List.take_succ_cons, List.take_zero]
  after_results_simp
  rw [h0]
  rfl

set_option maxHeartbeats 4000000 in
theorem h_v58 : after opsA V (Proc.devRef .tc main_v58) = Cert.ReferenceIdeal.Read.val_main_v58 (F := Ideal) (V (Proc.devRef .tc main_arg5)) := by
  simp only [opsA, hostOps0_1, List.take_succ_cons, List.take_zero]
  after_results_simp
  rw [h0]
  rfl

omit h0 in
theorem h_arg0 : after opsA V (Proc.devRef .tc main_arg0) = V (Proc.devRef .tc main_arg0) := by
  simp only [opsA, hostOps0_1, List.take_succ_cons, List.take_zero]
  after_results_simp

omit h0 in
theorem h_arg6 : after opsA V (Proc.devRef .tc main_arg6) = V (Proc.devRef .tc main_arg6) := by
  simp only [opsA, hostOps0_1, List.take_succ_cons, List.take_zero]
  after_results_simp

set_option maxHeartbeats 4000000 in
omit h0 in
theorem b_v60 (V : Valuation τ sig (Elt Ideal)) : after opsB V (Proc.devRef .tc main_v60)
    = shapeCast S3x3 (Cert.ReferenceIdeal.Value.fn_main_v59 (F := Ideal) (V (Proc.devRef .tc main_v50)) (V (Proc.devRef .tc main_v51)) (V (Proc.devRef .tc main_v52))
      (V (Proc.devRef .tc main_v53)) (V (Proc.devRef .tc main_v54)) (V (Proc.devRef .tc main_v55)) (V (Proc.devRef .tc main_v56)) (V (Proc.devRef .tc main_v57)) (V (Proc.devRef .tc main_v58))) shapeCasts_S9_S3x3 := by
  simp only [opsB, hostOps0_1, List.drop_succ_cons, List.drop_zero]
  after_results_simp
  rfl

theorem h_v60 : after (hostOps0_1 (F := Ideal)) V (Proc.devRef .tc main_v60) = Cert.ReferenceIdeal.Read.val_main_v60 (F := Ideal) (V (Proc.devRef .tc main_arg5)) := by
  rw [split_ops, after_append, b_v60, h_v50 V h0, h_v51 V h0, h_v52 V h0, h_v53 V h0, h_v54 V h0, h_v55 V h0, h_v56 V h0, h_v57 V h0, h_v58 V h0]
  rfl

set_option maxHeartbeats 4000000 in
omit h0 in
theorem b_v65 (V : Valuation τ sig (Elt Ideal)) (R : Vec Ideal S3x3 .f32) (h : after opsB V (Proc.devRef .tc main_v60) = R) : after opsB V (Proc.devRef .tc main_v65)
    = addf (Host.dotGeneral (F := Ideal) (φ₁ := .f32) (φ₂ := .f32) dot_S4096x3_S3x3_S4096x3_1_0_0_1_n_n none (V (Proc.devRef .tc main_arg0)) (transpose S3x3 [1, 0] R transposes_S3x3_S3x3_1_0))
      (broadcastInDim S4096x3 ![0, 1] bcast_S1x3_S4096x3_0_1 (broadcastInDim S1x3 ![1] bcast_S3_S1x3_1 (V (Proc.devRef .tc main_arg6)))) := by
  subst h
  simp only [opsB, hostOps0_1, List.drop_succ_cons, List.drop_zero]
  after_results_simp

theorem h_v65 : after (hostOps0_1 (F := Ideal)) V (Proc.devRef .tc main_v65)
    = Cert.ReferenceIdeal.Read.val_main_v65 (F := Ideal) (V (Proc.devRef .tc main_arg0)) (V (Proc.devRef .tc main_arg5)) (V (Proc.devRef .tc main_arg6)) := by
  have h := h_v60 V h0
  rw [split_ops, after_append] at h ⊢
  rw [b_v65 _ _ h, h_arg0, h_arg6]
  rfl

omit h0 in
theorem b_v67 (V : Valuation τ sig (Elt Ideal)) (R : Vec Ideal S4096x3 .f32) (h : after opsB V (Proc.devRef .tc main_v65) = R) : after opsB V (Proc.devRef .tc main_v67)
    = shapeCast S4096 (extractStridedSlice S4096x1 ![0, 2] R slices_S4096x3_S4096x1_0_2) shapeCasts_S4096x1_S4096 := by
  subst h
  simp only [opsB, hostOps0_1, List.drop_succ_cons, List.drop_zero]
  after_results_simp
  rfl

theorem h_v67 : after (hostOps0_1 (F := Ideal)) V (Proc.devRef .tc main_v67)
    = Cert.ReferenceIdeal.Read.val_main_v71 (F := Ideal) (V (Proc.devRef .tc main_arg0)) (V (Proc.devRef .tc main_arg5)) (V (Proc.devRef .tc main_arg6)) := by
  have h := h_v65 V h0
  rw [split_ops, after_append] at h ⊢
  rw [b_v67 _ _ h]
  rfl
end

theorem h_v68 : after (hostOps0_2 (F := Ideal)) V (Proc.devRef .tc main_v68)
    = (Host.sort2 S4096 0 (comparator_f32_i32_d0 (F := Ideal)) (V (Proc.devRef .tc main_v67) : (⟨S4096, .f32⟩ : BufTy).Contents (Elt Ideal)) (iotaInDim S4096 32 0)).2 := by
  simp only [hostOps0_2, TRef.binary, TRef.nullary, TRef.unary, TRef.toBuf, TRef.ofBuf, cast_eq]
  after_results_simp

/-- The parameter block and the padded colours. -/
def xinOf (p : Vec Ideal S4096x3 .f32) (op : Vec Ideal S4096 .f32) (qu : Vec Ideal S4096x4 .f32) (sc : Vec Ideal S4096x3 .f32) : Vec Ideal S16x4096 .f32 :=
  Host.scatter scatter_S16x4096_S1_S4096_0_0_0_0 (fun _ b => b)
    (Host.scatter scatter_S16x4096_S1_S3x4096_01_n_0_0 (fun _ b => b)
      (Host.scatter scatter_S16x4096_S1_S4x4096_01_n_0_0 (fun _ b => b)
        (Host.scatter scatter_S16x4096_S1_S3x4096_01_n_0_0 (fun _ b => b)
          (broadcastInDim S16x4096 ![] bcast_S_S16x4096 (constant (F := Ideal) S_ .f32 0x00000000#32)) (broadcastInDim S1 ![] bcast_S_S1 (constantI S_ 32 0#32))
          (transpose S3x4096 [1, 0] p transposes_S4096x3_S3x4096_1_0))
        (broadcastInDim S1 ![] bcast_S_S1 (constantI S_ 32 3#32)) (transpose S4x4096 [1, 0] qu transposes_S4096x4_S4x4096_1_0))
      (broadcastInDim S1 ![] bcast_S_S1 (constantI S_ 32 7#32)) (transpose S3x4096 [1, 0] sc transposes_S4096x3_S3x4096_1_0))
    (broadcastInDim S1 ![] bcast_S_S1 (constantI S_ 32 10#32)) op
def rgb8Of (rgb : Vec Ideal S4096x3 .f32) : Vec Ideal S4096x8 .f32 :=
  Host.scatter scatter_S4096x8_S1_S4096x3_01_n_1_0 (fun _ b => b) (broadcastInDim S4096x8 ![] bcast_S_S4096x8 (constant (F := Ideal) S_ .f32 0x00000000#32))
    (broadcastInDim S1 ![] bcast_S_S1 (constantI S_ 32 0#32)) rgb

theorem h_v80 : after (hostOps0_3 (F := Ideal)) V (Proc.devRef .tc main_v80)
    = xinOf (V (Proc.devRef .tc main_v65)) (V (Proc.devRef .tc main_arg2)) (V (Proc.devRef .tc main_arg3)) (V (Proc.devRef .tc main_arg4)) := by
  simp only [hostOps0_3]
  after_results_simp
  rfl
theorem h_v83 : after (hostOps0_3 (F := Ideal)) V (Proc.devRef .tc main_v83) = rgb8Of (V (Proc.devRef .tc main_arg1)) := by
  simp only [hostOps0_3]
  after_results_simp
  rfl
theorem h_v84 : after (hostOps0_3 (F := Ideal)) V (Proc.devRef .tc main_v84) = shapeCast S8x512 (V (Proc.devRef .tc main_v68)) shapeCasts_S4096_S8x512 := by
  simp only [hostOps0_3]
  after_results_simp
  try rfl
theorem h_v85 : after (hostOps0_3 (F := Ideal)) V (Proc.devRef .tc main_v85) = shapeCast S1x9 (V (Proc.devRef .tc main_v60)) shapeCasts_S3x3_S1x9 := by
  simp only [hostOps0_3]
  after_results_simp
  try rfl
theorem h_v89 : after (hostOps2 (F := Ideal)) V (Proc.devRef .tc main_v89)
    = shapeCast S64x64x3 (extractStridedSlice S4096x3 ![0, 0] (V (Proc.devRef .tc main_v87)) slices_S4096x8_S4096x3_0_0) shapeCasts_S4096x3_S64x64x3 := by
  simp only [hostOps2]
  after_results_simp
  try rfl

end Cert.KernelIdeal.Whole

end
-- ==== Proof.Scene.lean ====
/- What one Gaussian does to one pixel, over the extended reals. -/
module

public import Idealize.ShloMosaic.Lib.Pointwise

@[expose] public section

noncomputable section

namespace Cert.Scene

open Idealize.ShloMosaic

/-- The constants both programs print, read as extended reals. -/
abbrev cHalf : EReal := Ideal.ofBits .f32 0x3F000000#32
abbrev cTwo : EReal := Ideal.ofBits .f32 0x40000000#32
abbrev cNegHalf : EReal := Ideal.ofBits .f32 0xBF000000#32
abbrev cCap : EReal := Ideal.ofBits .f32 0x3F7FBE77#32
abbrev cOne : EReal := Ideal.ofBits .f32 0x3F800000#32
abbrev cEps : EReal := Ideal.ofBits .f32 0x2EDBE6FF#32

/-- A pixel's centre, from its number. -/
def pixX (n : ℕ) : EReal := (((n % 64 : ℕ) : ℝ) : EReal) + cHalf
def pixY (n : ℕ) : EReal := (((n / 64 : ℕ) : ℝ) : EReal) + cHalf

/-- The quadratic form at the offset `(dx, dy)`. -/
def quad (a b c dx dy : EReal) : EReal := a * dx * dx + cTwo * b * dx * dy + c * dy * dy

/-- The opacity of a Gaussian at a pixel. -/
def alpha (mx my a b c o : EReal) (n : ℕ) : EReal :=
  min (o * Ideal.exp (cNegHalf * quad a b c (pixX n - mx) (pixY n - my))) cCap

/-- What it lets through. -/
def thru (al : EReal) : EReal := cOne - al + cEps

/-- What is left of a pixel's light behind the first `S` of the Gaussians whose opacities there are `a`. -/
def left (a : ℕ → EReal) (S : ℕ) : EReal := ∏ j ∈ Finset.range S, thru (a j)

/-- What the first `S` of them, of brightness `r`, add to the pixel. -/
def lit (a r : ℕ → EReal) (S : ℕ) : EReal := ∑ s ∈ Finset.range S, left a s * a s * r s

/-- `left` and `lit`, a chunk of 512 further on. -/
theorem left_add (a : ℕ → EReal) (S k : ℕ) : left a (S + k) = left a S * ∏ j ∈ Finset.range k, thru (a (S + j)) := by
  unfold left; rw [Finset.prod_range_add]

theorem lit_add (a r : ℕ → EReal) (S K : ℕ) :
    lit a r (S + K) = lit a r S + ∑ k ∈ Finset.range K, left a (S + k) * a (S + k) * r (S + k) := by
  unfold lit; rw [Finset.sum_range_add]

/-! ## One Gaussian's splat, in the order the kernel computes it

`X` is its column of the parameter block: the camera-space position at 0, 1, 2, the quaternion at 3 to 6, the raw scales
at 7, 8, 9 and the raw opacity at 10. `R` is the camera's rotation. -/

abbrev cTiny : EReal := Ideal.ofBits .f32 0x358637BD#32
abbrev cNear : EReal := Ideal.ofBits .f32 0x3E99999A#32
abbrev cEdge : EReal := Ideal.ofBits .f32 0x3F19999A#32
abbrev cFocal : EReal := Ideal.ofBits .f32 0x42800000#32
abbrev cNegFocal : EReal := Ideal.ofBits .f32 0xC2800000#32
abbrev cMid : EReal := Ideal.ofBits .f32 0x42000000#32
abbrev cDet : EReal := Ideal.ofBits .f32 0x322BCC77#32

/-- The rotation of a quaternion. -/
def rot (w x y z : EReal) : Fin 3 → Fin 3 → EReal :=
  ![![1 - cTwo * (y * y + z * z), cTwo * (x * y - w * z), cTwo * (x * z + w * y)],
    ![cTwo * (x * y + w * z), 1 - cTwo * (x * x + z * z), cTwo * (y * z - w * x)],
    ![cTwo * (x * z - w * y), cTwo * (y * z + w * x), 1 - cTwo * (x * x + y * y)]]

/-- A matrix with its columns scaled, and a matrix times its transpose. -/
def scaled (r : Fin 3 → Fin 3 → EReal) (s : Fin 3 → EReal) (i j : Fin 3) : EReal := r i j * s j
def gram (m : Fin 3 → Fin 3 → EReal) (i j : Fin 3) : EReal := m i 0 * m j 0 + m i 1 * m j 1 + m i 2 * m j 2

theorem gram_comm (m : Fin 3 → Fin 3 → EReal) (i j : Fin 3) : gram m i j = gram m j i := by
  unfold gram; rw [mul_comm (m i 0), mul_comm (m i 1), mul_comm (m i 2)]

/-- `R C Rᵀ`, the right product first. -/
def mulT (R C : Fin 3 → Fin 3 → EReal) (j l : Fin 3) : EReal := C j 0 * R l 0 + C j 1 * R l 1 + C j 2 * R l 2
def conj (R C : Fin 3 → Fin 3 → EReal) (i l : Fin 3) : EReal := R i 0 * mulT R C 0 l + R i 1 * mulT R C 1 l + R i 2 * mulT R C 2 l

variable (R : Fin 3 → Fin 3 → EReal) (X : Fin 16 → EReal)

def kNorm : EReal := Ideal.rsqrt (X 3 * X 3 + X 4 * X 4 + X 5 * X 5 + X 6 * X 6)
def kMat : Fin 3 → Fin 3 → EReal :=
  scaled (rot (X 3 * kNorm X) (X 4 * kNorm X) (X 5 * kNorm X) (X 6 * kNorm X)) ![Ideal.logistic (X 7), Ideal.logistic (X 8), Ideal.logistic (X 9)]
def kCov : Fin 3 → Fin 3 → EReal := conj R (gram (kMat X))
def kZ : EReal := max (X 2) cTiny
def kF : EReal := Ideal.div cFocal (kZ X)
def kJx : EReal := Ideal.div (cNegFocal * X 0) (kZ X * kZ X)
def kJy : EReal := Ideal.div (cNegFocal * X 1) (kZ X * kZ X)
def kA : EReal := kF X * kF X * kCov R X 0 0 + cTwo * kF X * kJx X * kCov R X 0 2 + kJx X * kJx X * kCov R X 2 2 + cNear
def kB : EReal :=
  kF X * kF X * kCov R X 0 1 + kF X * kJy X * kCov R X 0 2 + kJx X * kF X * kCov R X 1 2 + kJx X * kJy X * kCov R X 2 2
def kC : EReal := kF X * kF X * kCov R X 1 1 + cTwo * kF X * kJy X * kCov R X 1 2 + kJy X * kJy X * kCov R X 2 2 + cNear
def kInv : EReal := Ideal.div 1 (max (kA R X * kC R X - kB R X * kB R X) cDet)
def kVis : BitVec 1 :=
  IntOp.andi (IntOp.andi (BitVec.ofBool (decide (cNear < X 2))) (BitVec.ofBool (decide (FloatOps.absf (F := Ideal) (φ := .f32) (Ideal.div (X 0) (kZ X)) < cEdge))))
    (BitVec.ofBool (decide (FloatOps.absf (F := Ideal) (φ := .f32) (Ideal.div (X 1) (kZ X)) < cEdge)))

/-- The eight rows the kernel keeps of it. -/
def kRow : Fin 8 → EReal :=
  ![Scalar.select (kVis X) (cFocal * Ideal.div (X 0) (kZ X) + cMid) 0,
    Scalar.select (kVis X) (cFocal * Ideal.div (X 1) (kZ X) + cMid) 0,
    Scalar.select (kVis X) (kC R X * kInv R X) 0,
    Scalar.select (kVis X) ((0 - kB R X) * kInv R X) 0,
    Scalar.select (kVis X) (kA R X * kInv R X) 0,
    Ideal.logistic (X 10) * FloatOps.sitofp (F := Ideal) .f32 (BitVec.setWidth 32 (kVis X)), 0, 0]

end Cert.Scene

end
-- ==== Proof.KIR0Pay.lean ====
/- The prologue call's elementwise terms at an index, over the extended reals. -/
module

public import proofs.«01_k».proof.Proof.KIR0Frame
public import proofs.«01_k».proof.Proof.Scene
public import Idealize.ShloMosaic.Lib.Pointwise

@[expose] public section

set_option maxRecDepth 16384

noncomputable section

namespace Cert.KernelIdeal.R0

open Cert.KernelIdeal.Gen Cert.KernelIdeal Cert.Scene
open Idealize.ShloMosaic Idealize.ShloMosaic.TcCoe Idealize.ShloMosaic.Tactic Idealize.SL.Sem

theorem p1 (v391 : FVec Ideal S1x4096 .f32) (n : Fin 4096) : (k0_pay1 (F := Ideal) v391 (ix2 (0 : Fin 1) n) : EReal)
    = v391 (ix2 (0 : Fin 1) n) := by
  pointwise [k0_pay1]
theorem p5 (v18 : Vec Ideal S1x4096 .f32) (n : Fin 4096) : (k0_pay5 (F := Ideal) v18 (ix2 (0 : Fin 1) n) : EReal)
    = v18 (ix2 (0 : Fin 1) n) := by
  pointwise [k0_pay5]
theorem p6 (v20 : Vec Ideal S1x4096 .f32) (n : Fin 4096) : (k0_pay6 (F := Ideal) v20 (ix2 (0 : Fin 1) n) : EReal)
    = v20 (ix2 (0 : Fin 1) n) := by
  pointwise [k0_pay6]
theorem p7 (v22 : Vec Ideal S1x4096 .f32) (n : Fin 4096) : (k0_pay7 (F := Ideal) v22 (ix2 (0 : Fin 1) n) : EReal)
    = v22 (ix2 (0 : Fin 1) n) := by
  pointwise [k0_pay7]
theorem p8 (v24 : Vec Ideal S1x4096 .f32) (n : Fin 4096) : (k0_pay8 (F := Ideal) v24 (ix2 (0 : Fin 1) n) : EReal)
    = v24 (ix2 (0 : Fin 1) n) := by
  pointwise [k0_pay8]
theorem p9 (v26 : Vec Ideal S1x4096 .f32) (n : Fin 4096) : (k0_pay9 (F := Ideal) v26 (ix2 (0 : Fin 1) n) : EReal)
    = v26 (ix2 (0 : Fin 1) n) := by
  pointwise [k0_pay9]
theorem p10 (v28 : Vec Ideal S1x4096 .f32) (n : Fin 4096) : (k0_pay10 (F := Ideal) v28 (ix2 (0 : Fin 1) n) : EReal)
    = v28 (ix2 (0 : Fin 1) n) := by
  pointwise [k0_pay10]
theorem p11 (v30 : Vec Ideal S1x4096 .f32) (n : Fin 4096) : (k0_pay11 (F := Ideal) v30 (ix2 (0 : Fin 1) n) : EReal)
    = v30 (ix2 (0 : Fin 1) n) := by
  pointwise [k0_pay11]
theorem p12 (v32 : Vec Ideal S1x4096 .f32) (n : Fin 4096) : (k0_pay12 (F := Ideal) v32 (ix2 (0 : Fin 1) n) : EReal)
    = Ideal.logistic (v32 (ix2 (0 : Fin 1) n)) := by
  pointwise [k0_pay12]
theorem p13 (v35 : Vec Ideal S1x4096 .f32) (n : Fin 4096) : (k0_pay13 (F := Ideal) v35 (ix2 (0 : Fin 1) n) : EReal)
    = Ideal.logistic (v35 (ix2 (0 : Fin 1) n)) := by
  pointwise [k0_pay13]
theorem p14 (v38 : Vec Ideal S1x4096 .f32) (n : Fin 4096) : (k0_pay14 (F := Ideal) v38 (ix2 (0 : Fin 1) n) : EReal)
    = Ideal.logistic (v38 (ix2 (0 : Fin 1) n)) := by
  pointwise [k0_pay14]
theorem p15 (v41 : Vec Ideal S1x4096 .f32) (n : Fin 4096) : (k0_pay15 (F := Ideal) v41 (ix2 (0 : Fin 1) n) : EReal)
    = Ideal.logistic (v41 (ix2 (0 : Fin 1) n)) := by
  pointwise [k0_pay15]
theorem p16 (v22 : Vec Ideal S1x4096 .f32) (n : Fin 4096) : (k0_pay16 (F := Ideal) v22 (ix2 (0 : Fin 1) n) : EReal)
    = max (k0_pay7 (F := Ideal) v22 (ix2 (0 : Fin 1) n)) (Ideal.ofBits FTy.f32 897988541#32) := by
  pointwise [k0_pay16]
theorem p17 (v18 : Vec Ideal S1x4096 .f32) (v22 : Vec Ideal S1x4096 .f32) (n : Fin 4096) : (k0_pay17 (F := Ideal) v18 v22 (ix2 (0 : Fin 1) n) : EReal)
    = Ideal.div (k0_pay5 (F := Ideal) v18 (ix2 (0 : Fin 1) n)) (k0_pay16 (F := Ideal) v22 (ix2 (0 : Fin 1) n)) := by
  pointwise [k0_pay17]
theorem p18 (v20 : Vec Ideal S1x4096 .f32) (v22 : Vec Ideal S1x4096 .f32) (n : Fin 4096) : (k0_pay18 (F := Ideal) v20 v22 (ix2 (0 : Fin 1) n) : EReal)
    = Ideal.div (k0_pay6 (F := Ideal) v20 (ix2 (0 : Fin 1) n)) (k0_pay16 (F := Ideal) v22 (ix2 (0 : Fin 1) n)) := by
  pointwise [k0_pay18]
theorem p19 (v22 : Vec Ideal S1x4096 .f32) (n : Fin 4096) : (k0_pay19 (F := Ideal) v22 (ix2 (0 : Fin 1) n) : BitVec 1)
    = BitVec.ofBool (decide (Ideal.ofBits FTy.f32 1050253722#32 < k0_pay7 (F := Ideal) v22 (ix2 (0 : Fin 1) n))) := by
  pointwise [k0_pay19]
theorem p20 (v18 : Vec Ideal S1x4096 .f32) (v22 : Vec Ideal S1x4096 .f32) (n : Fin 4096) : (k0_pay20 (F := Ideal) v18 v22 (ix2 (0 : Fin 1) n) : BitVec 1)
    = BitVec.ofBool (decide (FloatOps.absf (F := Ideal) (φ := .f32) (k0_pay17 (F := Ideal) v18 v22 (ix2 (0 : Fin 1) n)) < Ideal.ofBits FTy.f32 1058642330#32)) := by
  pointwise [k0_pay20]
theorem p21 (v47 : FVec Ideal S1x4096 .f32) (v49 : IVec S1x4096 1) (v52 : IVec S1x4096 1) (n : Fin 4096) : (k0_pay21 (F := Ideal) v47 v49 v52 (ix2 (0 : Fin 1) n) : BitVec 1)
    = IntOp.andi (IntOp.andi (v49 (ix2 (0 : Fin 1) n)) (v52 (ix2 (0 : Fin 1) n))) (BitVec.ofBool (decide (FloatOps.absf (F := Ideal) (φ := .f32) (v47 (ix2 (0 : Fin 1) n)) < Ideal.ofBits FTy.f32 1058642330#32))) := by
  pointwise [k0_pay21]
theorem p22 (v47 : FVec Ideal S1x4096 .f32) (v49 : IVec S1x4096 1) (v52 : IVec S1x4096 1) (n : Fin 4096) : (k0_pay22 (F := Ideal) v47 v49 v52 (ix2 (0 : Fin 1) n) : EReal)
    = FloatOps.sitofp (F := Ideal) FTy.f32 (BitVec.setWidth 32 (k0_pay21 (F := Ideal) v47 v49 v52 (ix2 (0 : Fin 1) n))) := by
  pointwise [k0_pay22]
theorem p23 (v25 : FVec Ideal S1x4096 .f32) (v27 : FVec Ideal S1x4096 .f32) (v29 : FVec Ideal S1x4096 .f32) (v31 : FVec Ideal S1x4096 .f32) (n : Fin 4096) : (k0_pay23 (F := Ideal) v25 v27 v29 v31 (ix2 (0 : Fin 1) n) : EReal)
    = Ideal.rsqrt (v25 (ix2 (0 : Fin 1) n) * v25 (ix2 (0 : Fin 1) n) + v27 (ix2 (0 : Fin 1) n) * v27 (ix2 (0 : Fin 1) n) + v29 (ix2 (0 : Fin 1) n) * v29 (ix2 (0 : Fin 1) n) + v31 (ix2 (0 : Fin 1) n) * v31 (ix2 (0 : Fin 1) n)) := by
  pointwise [k0_pay23]
theorem p24 (v25 : FVec Ideal S1x4096 .f32) (v27 : FVec Ideal S1x4096 .f32) (v29 : FVec Ideal S1x4096 .f32) (v31 : FVec Ideal S1x4096 .f32) (n : Fin 4096) : (k0_pay24 (F := Ideal) v25 v27 v29 v31 (ix2 (0 : Fin 1) n) : EReal)
    = v25 (ix2 (0 : Fin 1) n) * k0_pay23 (F := Ideal) v25 v27 v29 v31 (ix2 (0 : Fin 1) n) := by
  pointwise [k0_pay24]
theorem p25 (v25 : FVec Ideal S1x4096 .f32) (v27 : FVec Ideal S1x4096 .f32) (v29 : FVec Ideal S1x4096 .f32) (v31 : FVec Ideal S1x4096 .f32) (n : Fin 4096) : (k0_pay25 (F := Ideal) v25 v27 v29 v31 (ix2 (0 : Fin 1) n) : EReal)
    = v27 (ix2 (0 : Fin 1) n) * k0_pay23 (F := Ideal) v25 v27 v29 v31 (ix2 (0 : Fin 1) n) := by
  pointwise [k0_pay25]
theorem p26 (v25 : FVec Ideal S1x4096 .f32) (v27 : FVec Ideal S1x4096 .f32) (v29 : FVec Ideal S1x4096 .f32) (v31 : FVec Ideal S1x4096 .f32) (n : Fin 4096) : (k0_pay26 (F := Ideal) v25 v27 v29 v31 (ix2 (0 : Fin 1) n) : EReal)
    = v29 (ix2 (0 : Fin 1) n) * k0_pay23 (F := Ideal) v25 v27 v29 v31 (ix2 (0 : Fin 1) n) := by
  pointwise [k0_pay26]
theorem p27 (v25 : FVec Ideal S1x4096 .f32) (v27 : FVec Ideal S1x4096 .f32) (v29 : FVec Ideal S1x4096 .f32) (v31 : FVec Ideal S1x4096 .f32) (n : Fin 4096) : (k0_pay27 (F := Ideal) v25 v27 v29 v31 (ix2 (0 : Fin 1) n) : EReal)
    = v31 (ix2 (0 : Fin 1) n) * k0_pay23 (F := Ideal) v25 v27 v29 v31 (ix2 (0 : Fin 1) n) := by
  pointwise [k0_pay27]
theorem p28 (v25 : FVec Ideal S1x4096 .f32) (v27 : FVec Ideal S1x4096 .f32) (v29 : FVec Ideal S1x4096 .f32) (v31 : FVec Ideal S1x4096 .f32) (n : Fin 4096) : (k0_pay28 (F := Ideal) v25 v27 v29 v31 (ix2 (0 : Fin 1) n) : EReal)
    = 1 - Ideal.ofBits FTy.f32 1073741824#32 * (k0_pay26 (F := Ideal) v25 v27 v29 v31 (ix2 (0 : Fin 1) n) * k0_pay26 (F := Ideal) v25 v27 v29 v31 (ix2 (0 : Fin 1) n) + k0_pay27 (F := Ideal) v25 v27 v29 v31 (ix2 (0 : Fin 1) n) * k0_pay27 (F := Ideal) v25 v27 v29 v31 (ix2 (0 : Fin 1) n)) := by
  pointwise [k0_pay28]
theorem p29 (v25 : FVec Ideal S1x4096 .f32) (v27 : FVec Ideal S1x4096 .f32) (v29 : FVec Ideal S1x4096 .f32) (v31 : FVec Ideal S1x4096 .f32) (n : Fin 4096) : (k0_pay29 (F := Ideal) v25 v27 v29 v31 (ix2 (0 : Fin 1) n) : EReal)
    = Ideal.ofBits FTy.f32 1073741824#32 * (k0_pay25 (F := Ideal) v25 v27 v29 v31 (ix2 (0 : Fin 1) n) * k0_pay26 (F := Ideal) v25 v27 v29 v31 (ix2 (0 : Fin 1) n) - k0_pay24 (F := Ideal) v25 v27 v29 v31 (ix2 (0 : Fin 1) n) * k0_pay27 (F := Ideal) v25 v27 v29 v31 (ix2 (0 : Fin 1) n)) := by
  pointwise [k0_pay29]
theorem p30 (v25 : FVec Ideal S1x4096 .f32) (v27 : FVec Ideal S1x4096 .f32) (v29 : FVec Ideal S1x4096 .f32) (v31 : FVec Ideal S1x4096 .f32) (n : Fin 4096) : (k0_pay30 (F := Ideal) v25 v27 v29 v31 (ix2 (0 : Fin 1) n) : EReal)
    = Ideal.ofBits FTy.f32 1073741824#32 * (k0_pay25 (F := Ideal) v25 v27 v29 v31 (ix2 (0 : Fin 1) n) * k0_pay27 (F := Ideal) v25 v27 v29 v31 (ix2 (0 : Fin 1) n) + k0_pay24 (F := Ideal) v25 v27 v29 v31 (ix2 (0 : Fin 1) n) * k0_pay26 (F := Ideal) v25 v27 v29 v31 (ix2 (0 : Fin 1) n)) := by
  pointwise [k0_pay30]
theorem p31 (v25 : FVec Ideal S1x4096 .f32) (v27 : FVec Ideal S1x4096 .f32) (v29 : FVec Ideal S1x4096 .f32) (v31 : FVec Ideal S1x4096 .f32) (n : Fin 4096) : (k0_pay31 (F := Ideal) v25 v27 v29 v31 (ix2 (0 : Fin 1) n) : EReal)
    = Ideal.ofBits FTy.f32 1073741824#32 * (k0_pay25 (F := Ideal) v25 v27 v29 v31 (ix2 (0 : Fin 1) n) * k0_pay26 (F := Ideal) v25 v27 v29 v31 (ix2 (0 : Fin 1) n) + k0_pay24 (F := Ideal) v25 v27 v29 v31 (ix2 (0 : Fin 1) n) * k0_pay27 (F := Ideal) v25 v27 v29 v31 (ix2 (0 : Fin 1) n)) := by
  pointwise [k0_pay31]
theorem p32 (v25 : FVec Ideal S1x4096 .f32) (v27 : FVec Ideal S1x4096 .f32) (v29 : FVec Ideal S1x4096 .f32) (v31 : FVec Ideal S1x4096 .f32) (n : Fin 4096) : (k0_pay32 (F := Ideal) v25 v27 v29 v31 (ix2 (0 : Fin 1) n) : EReal)
    = 1 - Ideal.ofBits FTy.f32 1073741824#32 * (k0_pay25 (F := Ideal) v25 v27 v29 v31 (ix2 (0 : Fin 1) n) * k0_pay25 (F := Ideal) v25 v27 v29 v31 (ix2 (0 : Fin 1) n) + k0_pay27 (F := Ideal) v25 v27 v29 v31 (ix2 (0 : Fin 1) n) * k0_pay27 (F := Ideal) v25 v27 v29 v31 (ix2 (0 : Fin 1) n)) := by
  pointwise [k0_pay32]
theorem p33 (v25 : FVec Ideal S1x4096 .f32) (v27 : FVec Ideal S1x4096 .f32) (v29 : FVec Ideal S1x4096 .f32) (v31 : FVec Ideal S1x4096 .f32) (n : Fin 4096) : (k0_pay33 (F := Ideal) v25 v27 v29 v31 (ix2 (0 : Fin 1) n) : EReal)
    = k0_pay26 (F := Ideal) v25 v27 v29 v31 (ix2 (0 : Fin 1) n) * k0_pay27 (F := Ideal) v25 v27 v29 v31 (ix2 (0 : Fin 1) n) - k0_pay24 (F := Ideal) v25 v27 v29 v31 (ix2 (0 : Fin 1) n) * k0_pay25 (F := Ideal) v25 v27 v29 v31 (ix2 (0 : Fin 1) n) := by
  pointwise [k0_pay33]
theorem p34 (v34 : FVec Ideal S1x4096 .f32) (v78 : FVec Ideal S1x4096 .f32) (n : Fin 4096) : (k0_pay34 (F := Ideal) v34 v78 (ix2 (0 : Fin 1) n) : EReal)
    = v78 (ix2 (0 : Fin 1) n) * v34 (ix2 (0 : Fin 1) n) := by
  pointwise [k0_pay34]
theorem p35 (v37 : FVec Ideal S1x4096 .f32) (v83 : FVec Ideal S1x4096 .f32) (n : Fin 4096) : (k0_pay35 (F := Ideal) v37 v83 (ix2 (0 : Fin 1) n) : EReal)
    = v83 (ix2 (0 : Fin 1) n) * v37 (ix2 (0 : Fin 1) n) := by
  pointwise [k0_pay35]
theorem p36 (v40 : FVec Ideal S1x4096 .f32) (v88 : FVec Ideal S1x4096 .f32) (n : Fin 4096) : (k0_pay36 (F := Ideal) v40 v88 (ix2 (0 : Fin 1) n) : EReal)
    = v88 (ix2 (0 : Fin 1) n) * v40 (ix2 (0 : Fin 1) n) := by
  pointwise [k0_pay36]
theorem p37 (v34 : FVec Ideal S1x4096 .f32) (v93 : FVec Ideal S1x4096 .f32) (n : Fin 4096) : (k0_pay37 (F := Ideal) v34 v93 (ix2 (0 : Fin 1) n) : EReal)
    = v93 (ix2 (0 : Fin 1) n) * v34 (ix2 (0 : Fin 1) n) := by
  pointwise [k0_pay37]
theorem p38 (v37 : FVec Ideal S1x4096 .f32) (v100 : FVec Ideal S1x4096 .f32) (n : Fin 4096) : (k0_pay38 (F := Ideal) v37 v100 (ix2 (0 : Fin 1) n) : EReal)
    = v100 (ix2 (0 : Fin 1) n) * v37 (ix2 (0 : Fin 1) n) := by
  pointwise [k0_pay38]
theorem p39 (v40 : FVec Ideal S1x4096 .f32) (v103 : FVec Ideal S1x4096 .f32) (cst_33 : Ideal .f32) (n : Fin 4096) : (k0_pay39 (F := Ideal) v40 v103 cst_33 (ix2 (0 : Fin 1) n) : EReal)
    = cst_33 * v103 (ix2 (0 : Fin 1) n) * v40 (ix2 (0 : Fin 1) n) := by
  pointwise [k0_pay39]
theorem p40 (v34 : FVec Ideal S1x4096 .f32) (v68 : FVec Ideal S1x4096 .f32) (v69 : FVec Ideal S1x4096 .f32) (v70 : FVec Ideal S1x4096 .f32) (v71 : FVec Ideal S1x4096 .f32) (n : Fin 4096) : (k0_pay40 (F := Ideal) v34 v68 v69 v70 v71 (ix2 (0 : Fin 1) n) : EReal)
    = Ideal.ofBits FTy.f32 1073741824#32 * (v69 (ix2 (0 : Fin 1) n) * v71 (ix2 (0 : Fin 1) n) - v68 (ix2 (0 : Fin 1) n) * v70 (ix2 (0 : Fin 1) n)) * v34 (ix2 (0 : Fin 1) n) := by
  pointwise [k0_pay40]
theorem p41 (v37 : FVec Ideal S1x4096 .f32) (v68 : FVec Ideal S1x4096 .f32) (v69 : FVec Ideal S1x4096 .f32) (v70 : FVec Ideal S1x4096 .f32) (v71 : FVec Ideal S1x4096 .f32) (n : Fin 4096) : (k0_pay41 (F := Ideal) v37 v68 v69 v70 v71 (ix2 (0 : Fin 1) n) : EReal)
    = Ideal.ofBits FTy.f32 1073741824#32 * (v70 (ix2 (0 : Fin 1) n) * v71 (ix2 (0 : Fin 1) n) + v68 (ix2 (0 : Fin 1) n) * v69 (ix2 (0 : Fin 1) n)) * v37 (ix2 (0 : Fin 1) n) := by
  pointwise [k0_pay41]
theorem p42 (v40 : FVec Ideal S1x4096 .f32) (v69 : FVec Ideal S1x4096 .f32) (v70 : FVec Ideal S1x4096 .f32) (n : Fin 4096) : (k0_pay42 (F := Ideal) v40 v69 v70 (ix2 (0 : Fin 1) n) : EReal)
    = (1 - Ideal.ofBits FTy.f32 1073741824#32 * (v69 (ix2 (0 : Fin 1) n) * v69 (ix2 (0 : Fin 1) n) + v70 (ix2 (0 : Fin 1) n) * v70 (ix2 (0 : Fin 1) n))) * v40 (ix2 (0 : Fin 1) n) := by
  pointwise [k0_pay42]
theorem p43 (v34 : FVec Ideal S1x4096 .f32) (v37 : FVec Ideal S1x4096 .f32) (v40 : FVec Ideal S1x4096 .f32) (v78 : FVec Ideal S1x4096 .f32) (v83 : FVec Ideal S1x4096 .f32) (v88 : FVec Ideal S1x4096 .f32) (n : Fin 4096) : (k0_pay43 (F := Ideal) v34 v37 v40 v78 v83 v88 (ix2 (0 : Fin 1) n) : EReal)
    = k0_pay34 (F := Ideal) v34 v78 (ix2 (0 : Fin 1) n) * k0_pay34 (F := Ideal) v34 v78 (ix2 (0 : Fin 1) n) + k0_pay35 (F := Ideal) v37 v83 (ix2 (0 : Fin 1) n) * k0_pay35 (F := Ideal) v37 v83 (ix2 (0 : Fin 1) n) + k0_pay36 (F := Ideal) v40 v88 (ix2 (0 : Fin 1) n) * k0_pay36 (F := Ideal) v40 v88 (ix2 (0 : Fin 1) n) := by
  pointwise [k0_pay43]
theorem p44 (v34 : FVec Ideal S1x4096 .f32) (v37 : FVec Ideal S1x4096 .f32) (v40 : FVec Ideal S1x4096 .f32) (v78 : FVec Ideal S1x4096 .f32) (v83 : FVec Ideal S1x4096 .f32) (v88 : FVec Ideal S1x4096 .f32) (v93 : FVec Ideal S1x4096 .f32) (v100 : FVec Ideal S1x4096 .f32) (v103 : FVec Ideal S1x4096 .f32) (cst_33 : Ideal .f32) (n : Fin 4096) : (k0_pay44 (F := Ideal) v34 v37 v40 v78 v83 v88 v93 v100 v103 cst_33 (ix2 (0 : Fin 1) n) : EReal)
    = k0_pay34 (F := Ideal) v34 v78 (ix2 (0 : Fin 1) n) * k0_pay37 (F := Ideal) v34 v93 (ix2 (0 : Fin 1) n) + k0_pay35 (F := Ideal) v37 v83 (ix2 (0 : Fin 1) n) * k0_pay38 (F := Ideal) v37 v100 (ix2 (0 : Fin 1) n) + k0_pay36 (F := Ideal) v40 v88 (ix2 (0 : Fin 1) n) * k0_pay39 (F := Ideal) v40 v103 cst_33 (ix2 (0 : Fin 1) n) := by
  pointwise [k0_pay44]
theorem p45 (v34 : FVec Ideal S1x4096 .f32) (v37 : FVec Ideal S1x4096 .f32) (v40 : FVec Ideal S1x4096 .f32) (v68 : FVec Ideal S1x4096 .f32) (v69 : FVec Ideal S1x4096 .f32) (v70 : FVec Ideal S1x4096 .f32) (v71 : FVec Ideal S1x4096 .f32) (v78 : FVec Ideal S1x4096 .f32) (v83 : FVec Ideal S1x4096 .f32) (v88 : FVec Ideal S1x4096 .f32) (n : Fin 4096) : (k0_pay45 (F := Ideal) v34 v37 v40 v68 v69 v70 v71 v78 v83 v88 (ix2 (0 : Fin 1) n) : EReal)
    = k0_pay34 (F := Ideal) v34 v78 (ix2 (0 : Fin 1) n) * k0_pay40 (F := Ideal) v34 v68 v69 v70 v71 (ix2 (0 : Fin 1) n) + k0_pay35 (F := Ideal) v37 v83 (ix2 (0 : Fin 1) n) * k0_pay41 (F := Ideal) v37 v68 v69 v70 v71 (ix2 (0 : Fin 1) n) + k0_pay36 (F := Ideal) v40 v88 (ix2 (0 : Fin 1) n) * k0_pay42 (F := Ideal) v40 v69 v70 (ix2 (0 : Fin 1) n) := by
  pointwise [k0_pay45]
theorem p46 (v34 : FVec Ideal S1x4096 .f32) (v37 : FVec Ideal S1x4096 .f32) (v40 : FVec Ideal S1x4096 .f32) (v93 : FVec Ideal S1x4096 .f32) (v100 : FVec Ideal S1x4096 .f32) (v103 : FVec Ideal S1x4096 .f32) (cst_33 : Ideal .f32) (n : Fin 4096) : (k0_pay46 (F := Ideal) v34 v37 v40 v93 v100 v103 cst_33 (ix2 (0 : Fin 1) n) : EReal)
    = k0_pay37 (F := Ideal) v34 v93 (ix2 (0 : Fin 1) n) * k0_pay37 (F := Ideal) v34 v93 (ix2 (0 : Fin 1) n) + k0_pay38 (F := Ideal) v37 v100 (ix2 (0 : Fin 1) n) * k0_pay38 (F := Ideal) v37 v100 (ix2 (0 : Fin 1) n) + k0_pay39 (F := Ideal) v40 v103 cst_33 (ix2 (0 : Fin 1) n) * k0_pay39 (F := Ideal) v40 v103 cst_33 (ix2 (0 : Fin 1) n) := by
  pointwise [k0_pay46]
theorem p47 (v34 : FVec Ideal S1x4096 .f32) (v37 : FVec Ideal S1x4096 .f32) (v40 : FVec Ideal S1x4096 .f32) (v68 : FVec Ideal S1x4096 .f32) (v69 : FVec Ideal S1x4096 .f32) (v70 : FVec Ideal S1x4096 .f32) (v71 : FVec Ideal S1x4096 .f32) (v93 : FVec Ideal S1x4096 .f32) (v100 : FVec Ideal S1x4096 .f32) (v103 : FVec Ideal S1x4096 .f32) (cst_33 : Ideal .f32) (n : Fin 4096) : (k0_pay47 (F := Ideal) v34 v37 v40 v68 v69 v70 v71 v93 v100 v103 cst_33 (ix2 (0 : Fin 1) n) : EReal)
    = k0_pay37 (F := Ideal) v34 v93 (ix2 (0 : Fin 1) n) * k0_pay40 (F := Ideal) v34 v68 v69 v70 v71 (ix2 (0 : Fin 1) n) + k0_pay38 (F := Ideal) v37 v100 (ix2 (0 : Fin 1) n) * k0_pay41 (F := Ideal) v37 v68 v69 v70 v71 (ix2 (0 : Fin 1) n) + k0_pay39 (F := Ideal) v40 v103 cst_33 (ix2 (0 : Fin 1) n) * k0_pay42 (F := Ideal) v40 v69 v70 (ix2 (0 : Fin 1) n) := by
  pointwise [k0_pay47]
theorem p48 (v34 : FVec Ideal S1x4096 .f32) (v37 : FVec Ideal S1x4096 .f32) (v68 : FVec Ideal S1x4096 .f32) (v69 : FVec Ideal S1x4096 .f32) (v70 : FVec Ideal S1x4096 .f32) (v71 : FVec Ideal S1x4096 .f32) (n : Fin 4096) : (k0_pay48 (F := Ideal) v34 v37 v68 v69 v70 v71 (ix2 (0 : Fin 1) n) : EReal)
    = k0_pay40 (F := Ideal) v34 v68 v69 v70 v71 (ix2 (0 : Fin 1) n) * k0_pay40 (F := Ideal) v34 v68 v69 v70 v71 (ix2 (0 : Fin 1) n) + k0_pay41 (F := Ideal) v37 v68 v69 v70 v71 (ix2 (0 : Fin 1) n) * k0_pay41 (F := Ideal) v37 v68 v69 v70 v71 (ix2 (0 : Fin 1) n) := by
  pointwise [k0_pay48]
theorem p49 (v131 : FVec Ideal S1x4096 .f32) (v159 : FVec Ideal S1x4096 .f32) (n : Fin 4096) : (k0_pay49 (F := Ideal) v131 v159 (ix2 (0 : Fin 1) n) : EReal)
    = v159 (ix2 (0 : Fin 1) n) + v131 (ix2 (0 : Fin 1) n) * v131 (ix2 (0 : Fin 1) n) := by
  pointwise [k0_pay49]
theorem p50 (v136 : FVec Ideal S1x4096 .f32) (v141 : FVec Ideal S1x4096 .f32) (v146 : FVec Ideal S1x4096 .f32) (v162 : Elt Ideal .f32) (v163 : Elt Ideal .f32) (v164 : Elt Ideal .f32) (n : Fin 4096) : (k0_pay50 (F := Ideal) v136 v141 v146 v162 v163 v164 (ix2 (0 : Fin 1) n) : EReal)
    = v136 (ix2 (0 : Fin 1) n) * v162 + v141 (ix2 (0 : Fin 1) n) * v163 + v146 (ix2 (0 : Fin 1) n) * v164 := by
  pointwise [k0_pay50]
theorem p51 (v136 : FVec Ideal S1x4096 .f32) (v141 : FVec Ideal S1x4096 .f32) (v146 : FVec Ideal S1x4096 .f32) (v165 : Elt Ideal .f32) (v166 : Elt Ideal .f32) (v167 : Elt Ideal .f32) (n : Fin 4096) : (k0_pay51 (F := Ideal) v136 v141 v146 v165 v166 v167 (ix2 (0 : Fin 1) n) : EReal)
    = v136 (ix2 (0 : Fin 1) n) * v165 + v141 (ix2 (0 : Fin 1) n) * v166 + v146 (ix2 (0 : Fin 1) n) * v167 := by
  pointwise [k0_pay51]
theorem p52 (v136 : FVec Ideal S1x4096 .f32) (v141 : FVec Ideal S1x4096 .f32) (v146 : FVec Ideal S1x4096 .f32) (v168 : Elt Ideal .f32) (v169 : Elt Ideal .f32) (v170 : Elt Ideal .f32) (n : Fin 4096) : (k0_pay52 (F := Ideal) v136 v141 v146 v168 v169 v170 (ix2 (0 : Fin 1) n) : EReal)
    = v136 (ix2 (0 : Fin 1) n) * v168 + v141 (ix2 (0 : Fin 1) n) * v169 + v146 (ix2 (0 : Fin 1) n) * v170 := by
  pointwise [k0_pay52]
theorem p53 (v141 : FVec Ideal S1x4096 .f32) (v151 : FVec Ideal S1x4096 .f32) (v162 : Elt Ideal .f32) (v163 : Elt Ideal .f32) (n : Fin 4096) : (k0_pay53 (F := Ideal) v141 v151 v162 v163 (ix2 (0 : Fin 1) n) : EReal)
    = v141 (ix2 (0 : Fin 1) n) * v162 + v151 (ix2 (0 : Fin 1) n) * v163 := by
  pointwise [k0_pay53]
theorem p54 (v156 : FVec Ideal S1x4096 .f32) (v164 : Elt Ideal .f32) (n : Fin 4096) : (k0_pay54 (F := Ideal) v156 v164 (ix2 (0 : Fin 1) n) : EReal)
    = v156 (ix2 (0 : Fin 1) n) * v164 := by
  pointwise [k0_pay54]
theorem p55 (v141 : FVec Ideal S1x4096 .f32) (v151 : FVec Ideal S1x4096 .f32) (v156 : FVec Ideal S1x4096 .f32) (v165 : Elt Ideal .f32) (v166 : Elt Ideal .f32) (v167 : Elt Ideal .f32) (n : Fin 4096) : (k0_pay55 (F := Ideal) v141 v151 v156 v165 v166 v167 (ix2 (0 : Fin 1) n) : EReal)
    = v141 (ix2 (0 : Fin 1) n) * v165 + v151 (ix2 (0 : Fin 1) n) * v166 + v156 (ix2 (0 : Fin 1) n) * v167 := by
  pointwise [k0_pay55]
theorem p56 (v141 : FVec Ideal S1x4096 .f32) (v151 : FVec Ideal S1x4096 .f32) (v156 : FVec Ideal S1x4096 .f32) (v168 : Elt Ideal .f32) (v169 : Elt Ideal .f32) (v170 : Elt Ideal .f32) (n : Fin 4096) : (k0_pay56 (F := Ideal) v141 v151 v156 v168 v169 v170 (ix2 (0 : Fin 1) n) : EReal)
    = v141 (ix2 (0 : Fin 1) n) * v168 + v151 (ix2 (0 : Fin 1) n) * v169 + v156 (ix2 (0 : Fin 1) n) * v170 := by
  pointwise [k0_pay56]
theorem p57 (v146 : FVec Ideal S1x4096 .f32) (v156 : FVec Ideal S1x4096 .f32) (v161 : FVec Ideal S1x4096 .f32) (v165 : Elt Ideal .f32) (v166 : Elt Ideal .f32) (v167 : Elt Ideal .f32) (n : Fin 4096) : (k0_pay57 (F := Ideal) v146 v156 v161 v165 v166 v167 (ix2 (0 : Fin 1) n) : EReal)
    = v146 (ix2 (0 : Fin 1) n) * v165 + v156 (ix2 (0 : Fin 1) n) * v166 + v161 (ix2 (0 : Fin 1) n) * v167 := by
  pointwise [k0_pay57]
theorem p58 (v146 : FVec Ideal S1x4096 .f32) (v156 : FVec Ideal S1x4096 .f32) (v161 : FVec Ideal S1x4096 .f32) (v168 : Elt Ideal .f32) (v169 : Elt Ideal .f32) (v170 : Elt Ideal .f32) (n : Fin 4096) : (k0_pay58 (F := Ideal) v146 v156 v161 v168 v169 v170 (ix2 (0 : Fin 1) n) : EReal)
    = v146 (ix2 (0 : Fin 1) n) * v168 + v156 (ix2 (0 : Fin 1) n) * v169 + v161 (ix2 (0 : Fin 1) n) * v170 := by
  pointwise [k0_pay58]
theorem p59 (v146 : FVec Ideal S1x4096 .f32) (v156 : FVec Ideal S1x4096 .f32) (v161 : FVec Ideal S1x4096 .f32) (v162 : Elt Ideal .f32) (v163 : Elt Ideal .f32) (v164 : Elt Ideal .f32) (v178 : FVec Ideal S1x4096 .f32) (v199 : FVec Ideal S1x4096 .f32) (v201 : FVec Ideal S1x4096 .f32) (n : Fin 4096) : (k0_pay59 (F := Ideal) v146 v156 v161 v162 v163 v164 v178 v199 v201 (ix2 (0 : Fin 1) n) : EReal)
    = v162 * v178 (ix2 (0 : Fin 1) n) + v163 * (v199 (ix2 (0 : Fin 1) n) + v201 (ix2 (0 : Fin 1) n)) + v164 * (v146 (ix2 (0 : Fin 1) n) * v162 + v156 (ix2 (0 : Fin 1) n) * v163 + v161 (ix2 (0 : Fin 1) n) * v164) := by
  pointwise [k0_pay59]
theorem p60 (v141 : FVec Ideal S1x4096 .f32) (v146 : FVec Ideal S1x4096 .f32) (v151 : FVec Ideal S1x4096 .f32) (v156 : FVec Ideal S1x4096 .f32) (v161 : FVec Ideal S1x4096 .f32) (v162 : Elt Ideal .f32) (v163 : Elt Ideal .f32) (v164 : Elt Ideal .f32) (v165 : Elt Ideal .f32) (v166 : Elt Ideal .f32) (v167 : Elt Ideal .f32) (v186 : FVec Ideal S1x4096 .f32) (n : Fin 4096) : (k0_pay60 (F := Ideal) v141 v146 v151 v156 v161 v162 v163 v164 v165 v166 v167 v186 (ix2 (0 : Fin 1) n) : EReal)
    = v162 * v186 (ix2 (0 : Fin 1) n) + v163 * k0_pay55 (F := Ideal) v141 v151 v156 v165 v166 v167 (ix2 (0 : Fin 1) n) + v164 * k0_pay57 (F := Ideal) v146 v156 v161 v165 v166 v167 (ix2 (0 : Fin 1) n) := by
  pointwise [k0_pay60]
theorem p61 (v162 : Elt Ideal .f32) (v194 : FVec Ideal S1x4096 .f32) (n : Fin 4096) : (k0_pay61 (F := Ideal) v162 v194 (ix2 (0 : Fin 1) n) : EReal)
    = v162 * v194 (ix2 (0 : Fin 1) n) := by
  pointwise [k0_pay61]
theorem p62 (v163 : Elt Ideal .f32) (n : Fin 4096) : (k0_pay62 (F := Ideal) v163 (ix2 (0 : Fin 1) n) : EReal)
    = v163 := by
  pointwise [k0_pay62]
theorem p63 (v164 : Elt Ideal .f32) (v218 : FVec Ideal S1x4096 .f32) (v242 : FVec Ideal S1x4096 .f32) (v260 : FVec Ideal S1x4096 .f32) (v261 : FVec Ideal S1x4096 .f32) (n : Fin 4096) : (k0_pay63 (F := Ideal) v164 v218 v242 v260 v261 (ix2 (0 : Fin 1) n) : EReal)
    = v260 (ix2 (0 : Fin 1) n) + v261 (ix2 (0 : Fin 1) n) * v218 (ix2 (0 : Fin 1) n) + v164 * v242 (ix2 (0 : Fin 1) n) := by
  pointwise [k0_pay63]
theorem p64 (v165 : Elt Ideal .f32) (v166 : Elt Ideal .f32) (v167 : Elt Ideal .f32) (v186 : FVec Ideal S1x4096 .f32) (v210 : FVec Ideal S1x4096 .f32) (v234 : FVec Ideal S1x4096 .f32) (n : Fin 4096) : (k0_pay64 (F := Ideal) v165 v166 v167 v186 v210 v234 (ix2 (0 : Fin 1) n) : EReal)
    = v165 * v186 (ix2 (0 : Fin 1) n) + v166 * v210 (ix2 (0 : Fin 1) n) + v167 * v234 (ix2 (0 : Fin 1) n) := by
  pointwise [k0_pay64]
theorem p65 (v165 : Elt Ideal .f32) (v166 : Elt Ideal .f32) (v167 : Elt Ideal .f32) (v194 : FVec Ideal S1x4096 .f32) (v218 : FVec Ideal S1x4096 .f32) (v242 : FVec Ideal S1x4096 .f32) (n : Fin 4096) : (k0_pay65 (F := Ideal) v165 v166 v167 v194 v218 v242 (ix2 (0 : Fin 1) n) : EReal)
    = v165 * v194 (ix2 (0 : Fin 1) n) + v166 * v218 (ix2 (0 : Fin 1) n) + v167 * v242 (ix2 (0 : Fin 1) n) := by
  pointwise [k0_pay65]
theorem p66 (v168 : Elt Ideal .f32) (v169 : Elt Ideal .f32) (v170 : Elt Ideal .f32) (v194 : FVec Ideal S1x4096 .f32) (v218 : FVec Ideal S1x4096 .f32) (v242 : FVec Ideal S1x4096 .f32) (n : Fin 4096) : (k0_pay66 (F := Ideal) v168 v169 v170 v194 v218 v242 (ix2 (0 : Fin 1) n) : EReal)
    = v168 * v194 (ix2 (0 : Fin 1) n) + v169 * v218 (ix2 (0 : Fin 1) n) + v170 * v242 (ix2 (0 : Fin 1) n) := by
  pointwise [k0_pay66]
theorem p67 (v45 : FVec Ideal S1x4096 .f32) (n : Fin 4096) : (k0_pay67 (F := Ideal) v45 (ix2 (0 : Fin 1) n) : EReal)
    = Ideal.div (Ideal.ofBits FTy.f32 1115684864#32) (v45 (ix2 (0 : Fin 1) n)) := by
  pointwise [k0_pay67]
theorem p68 (v45 : FVec Ideal S1x4096 .f32) (n : Fin 4096) : (k0_pay68 (F := Ideal) v45 (ix2 (0 : Fin 1) n) : EReal)
    = Ideal.div (Ideal.ofBits FTy.f32 1115684864#32) (v45 (ix2 (0 : Fin 1) n)) := by
  pointwise [k0_pay68]
theorem p69 (v19 : FVec Ideal S1x4096 .f32) (v45 : FVec Ideal S1x4096 .f32) (n : Fin 4096) : (k0_pay69 (F := Ideal) v19 v45 (ix2 (0 : Fin 1) n) : EReal)
    = Ideal.div (Ideal.ofBits FTy.f32 3263168512#32 * v19 (ix2 (0 : Fin 1) n)) (v45 (ix2 (0 : Fin 1) n) * v45 (ix2 (0 : Fin 1) n)) := by
  pointwise [k0_pay69]
theorem p70 (v21 : FVec Ideal S1x4096 .f32) (v45 : FVec Ideal S1x4096 .f32) (n : Fin 4096) : (k0_pay70 (F := Ideal) v21 v45 (ix2 (0 : Fin 1) n) : EReal)
    = Ideal.div (Ideal.ofBits FTy.f32 3263168512#32 * v21 (ix2 (0 : Fin 1) n)) (v45 (ix2 (0 : Fin 1) n) * v45 (ix2 (0 : Fin 1) n)) := by
  pointwise [k0_pay70]
theorem p71 (v19 : FVec Ideal S1x4096 .f32) (v45 : FVec Ideal S1x4096 .f32) (v164 : Elt Ideal .f32) (v168 : Elt Ideal .f32) (v169 : Elt Ideal .f32) (v170 : Elt Ideal .f32) (v194 : FVec Ideal S1x4096 .f32) (v218 : FVec Ideal S1x4096 .f32) (v242 : FVec Ideal S1x4096 .f32) (v250 : FVec Ideal S1x4096 .f32) (v260 : FVec Ideal S1x4096 .f32) (v261 : FVec Ideal S1x4096 .f32) (n : Fin 4096) : (k0_pay71 (F := Ideal) v19 v45 v164 v168 v169 v170 v194 v218 v242 v250 v260 v261 (ix2 (0 : Fin 1) n) : EReal)
    = k0_pay67 (F := Ideal) v45 (ix2 (0 : Fin 1) n) * k0_pay67 (F := Ideal) v45 (ix2 (0 : Fin 1) n) * v250 (ix2 (0 : Fin 1) n) + Ideal.ofBits FTy.f32 1073741824#32 * k0_pay67 (F := Ideal) v45 (ix2 (0 : Fin 1) n) * k0_pay69 (F := Ideal) v19 v45 (ix2 (0 : Fin 1) n) * k0_pay63 (F := Ideal) v164 v218 v242 v260 v261 (ix2 (0 : Fin 1) n) + k0_pay69 (F := Ideal) v19 v45 (ix2 (0 : Fin 1) n) * k0_pay69 (F := Ideal) v19 v45 (ix2 (0 : Fin 1) n) * k0_pay66 (F := Ideal) v168 v169 v170 v194 v218 v242 (ix2 (0 : Fin 1) n) + Ideal.ofBits FTy.f32 1050253722#32 := by
  pointwise [k0_pay71]
theorem p72 (v45 : FVec Ideal S1x4096 .f32) (n : Fin 4096) : (k0_pay72 (F := Ideal) v45 (ix2 (0 : Fin 1) n) : EReal)
    = k0_pay67 (F := Ideal) v45 (ix2 (0 : Fin 1) n) * k0_pay68 (F := Ideal) v45 (ix2 (0 : Fin 1) n) := by
  pointwise [k0_pay72]
theorem p73 (v258 : FVec Ideal S1x4096 .f32) (v266 : FVec Ideal S1x4096 .f32) (v282 : FVec Ideal S1x4096 .f32) (v290 : FVec Ideal S1x4096 .f32) (v292 : FVec Ideal S1x4096 .f32) (v294 : FVec Ideal S1x4096 .f32) (v298 : FVec Ideal S1x4096 .f32) (v302 : FVec Ideal S1x4096 .f32) (v315 : FVec Ideal S1x4096 .f32) (n : Fin 4096) : (k0_pay73 (F := Ideal) v258 v266 v282 v290 v292 v294 v298 v302 v315 (ix2 (0 : Fin 1) n) : EReal)
    = v315 (ix2 (0 : Fin 1) n) * v258 (ix2 (0 : Fin 1) n) + v292 (ix2 (0 : Fin 1) n) * v302 (ix2 (0 : Fin 1) n) * v266 (ix2 (0 : Fin 1) n) + v298 (ix2 (0 : Fin 1) n) * v294 (ix2 (0 : Fin 1) n) * v282 (ix2 (0 : Fin 1) n) + v298 (ix2 (0 : Fin 1) n) * v302 (ix2 (0 : Fin 1) n) * v290 (ix2 (0 : Fin 1) n) := by
  pointwise [k0_pay73]
theorem p74 (v274 : FVec Ideal S1x4096 .f32) (v282 : FVec Ideal S1x4096 .f32) (v290 : FVec Ideal S1x4096 .f32) (v294 : FVec Ideal S1x4096 .f32) (v302 : FVec Ideal S1x4096 .f32) (n : Fin 4096) : (k0_pay74 (F := Ideal) v274 v282 v290 v294 v302 (ix2 (0 : Fin 1) n) : EReal)
    = v294 (ix2 (0 : Fin 1) n) * v294 (ix2 (0 : Fin 1) n) * v274 (ix2 (0 : Fin 1) n) + Ideal.ofBits FTy.f32 1073741824#32 * v294 (ix2 (0 : Fin 1) n) * v302 (ix2 (0 : Fin 1) n) * v282 (ix2 (0 : Fin 1) n) + v302 (ix2 (0 : Fin 1) n) * v302 (ix2 (0 : Fin 1) n) * v290 (ix2 (0 : Fin 1) n) + Ideal.ofBits FTy.f32 1050253722#32 := by
  pointwise [k0_pay74]
theorem p75 (v258 : FVec Ideal S1x4096 .f32) (v266 : FVec Ideal S1x4096 .f32) (v274 : FVec Ideal S1x4096 .f32) (v282 : FVec Ideal S1x4096 .f32) (v290 : FVec Ideal S1x4096 .f32) (v292 : FVec Ideal S1x4096 .f32) (v294 : FVec Ideal S1x4096 .f32) (v298 : FVec Ideal S1x4096 .f32) (v302 : FVec Ideal S1x4096 .f32) (v314 : FVec Ideal S1x4096 .f32) (v315 : FVec Ideal S1x4096 .f32) (n : Fin 4096) : (k0_pay75 (F := Ideal) v258 v266 v274 v282 v290 v292 v294 v298 v302 v314 v315 (ix2 (0 : Fin 1) n) : EReal)
    = Ideal.div 1 (max (v314 (ix2 (0 : Fin 1) n) * k0_pay74 (F := Ideal) v274 v282 v290 v294 v302 (ix2 (0 : Fin 1) n) - k0_pay73 (F := Ideal) v258 v266 v282 v290 v292 v294 v298 v302 v315 (ix2 (0 : Fin 1) n) * k0_pay73 (F := Ideal) v258 v266 v282 v290 v292 v294 v298 v302 v315 (ix2 (0 : Fin 1) n)) (Ideal.ofBits FTy.f32 841731191#32)) := by
  pointwise [k0_pay75]
theorem p76 (v57 : IVec S1x4096 1) (v258 : FVec Ideal S1x4096 .f32) (v266 : FVec Ideal S1x4096 .f32) (v274 : FVec Ideal S1x4096 .f32) (v282 : FVec Ideal S1x4096 .f32) (v290 : FVec Ideal S1x4096 .f32) (v292 : FVec Ideal S1x4096 .f32) (v294 : FVec Ideal S1x4096 .f32) (v298 : FVec Ideal S1x4096 .f32) (v302 : FVec Ideal S1x4096 .f32) (v314 : FVec Ideal S1x4096 .f32) (v315 : FVec Ideal S1x4096 .f32) (n : Fin 4096) : (k0_pay76 (F := Ideal) v57 v258 v266 v274 v282 v290 v292 v294 v298 v302 v314 v315 (ix2 (0 : Fin 1) n) : EReal)
    = Scalar.select (v57 (ix2 (0 : Fin 1) n)) (k0_pay74 (F := Ideal) v274 v282 v290 v294 v302 (ix2 (0 : Fin 1) n) * k0_pay75 (F := Ideal) v258 v266 v274 v282 v290 v292 v294 v298 v302 v314 v315 (ix2 (0 : Fin 1) n)) 0 := by
  pointwise [k0_pay76]
theorem p77 (v57 : IVec S1x4096 1) (v258 : FVec Ideal S1x4096 .f32) (v266 : FVec Ideal S1x4096 .f32) (v274 : FVec Ideal S1x4096 .f32) (v282 : FVec Ideal S1x4096 .f32) (v290 : FVec Ideal S1x4096 .f32) (v292 : FVec Ideal S1x4096 .f32) (v294 : FVec Ideal S1x4096 .f32) (v298 : FVec Ideal S1x4096 .f32) (v302 : FVec Ideal S1x4096 .f32) (v314 : FVec Ideal S1x4096 .f32) (v315 : FVec Ideal S1x4096 .f32) (n : Fin 4096) : (k0_pay77 (F := Ideal) v57 v258 v266 v274 v282 v290 v292 v294 v298 v302 v314 v315 (ix2 (0 : Fin 1) n) : EReal)
    = Scalar.select (v57 (ix2 (0 : Fin 1) n)) ((0 - k0_pay73 (F := Ideal) v258 v266 v282 v290 v292 v294 v298 v302 v315 (ix2 (0 : Fin 1) n)) * k0_pay75 (F := Ideal) v258 v266 v274 v282 v290 v292 v294 v298 v302 v314 v315 (ix2 (0 : Fin 1) n)) 0 := by
  pointwise [k0_pay77]
theorem p78 (v57 : IVec S1x4096 1) (v258 : FVec Ideal S1x4096 .f32) (v266 : FVec Ideal S1x4096 .f32) (v274 : FVec Ideal S1x4096 .f32) (v282 : FVec Ideal S1x4096 .f32) (v290 : FVec Ideal S1x4096 .f32) (v292 : FVec Ideal S1x4096 .f32) (v294 : FVec Ideal S1x4096 .f32) (v298 : FVec Ideal S1x4096 .f32) (v302 : FVec Ideal S1x4096 .f32) (v314 : FVec Ideal S1x4096 .f32) (v315 : FVec Ideal S1x4096 .f32) (n : Fin 4096) : (k0_pay78 (F := Ideal) v57 v258 v266 v274 v282 v290 v292 v294 v298 v302 v314 v315 (ix2 (0 : Fin 1) n) : EReal)
    = Scalar.select (v57 (ix2 (0 : Fin 1) n)) (v314 (ix2 (0 : Fin 1) n) * k0_pay75 (F := Ideal) v258 v266 v274 v282 v290 v292 v294 v298 v302 v314 v315 (ix2 (0 : Fin 1) n)) 0 := by
  pointwise [k0_pay78]
theorem p79 (v46 : FVec Ideal S1x4096 .f32) (v57 : IVec S1x4096 1) (n : Fin 4096) : (k0_pay79 (F := Ideal) v46 v57 (ix2 (0 : Fin 1) n) : EReal)
    = Scalar.select (v57 (ix2 (0 : Fin 1) n)) (Ideal.ofBits FTy.f32 1115684864#32 * v46 (ix2 (0 : Fin 1) n) + Ideal.ofBits FTy.f32 1107296256#32) 0 := by
  pointwise [k0_pay79]
theorem p80 (v47 : FVec Ideal S1x4096 .f32) (n : Fin 4096) : (k0_pay80 (F := Ideal) v47 (ix2 (0 : Fin 1) n) : EReal)
    = Ideal.ofBits FTy.f32 1115684864#32 * v47 (ix2 (0 : Fin 1) n) := by
  pointwise [k0_pay80]
theorem p81 (v361 : FVec Ideal S1x4096 .f32) (n : Fin 4096) : (k0_pay81 (F := Ideal) v361 (ix2 (0 : Fin 1) n) : EReal)
    = v361 (ix2 (0 : Fin 1) n) := by
  pointwise [k0_pay81]
theorem p82 (v57 : IVec S1x4096 1) (v363 : FVec Ideal S1x4096 .f32) (n : Fin 4096) : (k0_pay82 (F := Ideal) v57 v363 (ix2 (0 : Fin 1) n) : EReal)
    = Scalar.select (v57 (ix2 (0 : Fin 1) n)) (v363 (ix2 (0 : Fin 1) n) + Ideal.ofBits FTy.f32 1107296256#32) 0 := by
  pointwise [k0_pay82]
theorem p83 (v347 : FVec Ideal S1x4096 .f32) (n : Fin 4096) : (k0_pay83 (F := Ideal) v347 (ix2 (0 : Fin 1) n) : EReal)
    = v347 (ix2 (0 : Fin 1) n) := by
  pointwise [k0_pay83]
theorem p84 (v352 : FVec Ideal S1x4096 .f32) (n : Fin 4096) : (k0_pay84 (F := Ideal) v352 (ix2 (0 : Fin 1) n) : EReal)
    = v352 (ix2 (0 : Fin 1) n) := by
  pointwise [k0_pay84]
theorem p85 (v355 : FVec Ideal S1x4096 .f32) (n : Fin 4096) : (k0_pay85 (F := Ideal) v355 (ix2 (0 : Fin 1) n) : EReal)
    = v355 (ix2 (0 : Fin 1) n) := by
  pointwise [k0_pay85]
theorem p86 (v43 : FVec Ideal S1x4096 .f32) (v59 : FVec Ideal S1x4096 .f32) (n : Fin 4096) : (k0_pay86 (F := Ideal) v43 v59 (ix2 (0 : Fin 1) n) : EReal)
    = v43 (ix2 (0 : Fin 1) n) * v59 (ix2 (0 : Fin 1) n) := by
  pointwise [k0_pay86]
theorem p87  (n : Fin 4096) : (k0_pay87 (F := Ideal)  (ix2 (0 : Fin 1) n) : EReal)
    = 0 := by
  pointwise [k0_pay87]
theorem p88  (n : Fin 4096) : (k0_pay88 (F := Ideal)  (ix2 (0 : Fin 1) n) : EReal)
    = 0 := by
  pointwise [k0_pay88]

end Cert.KernelIdeal.R0

end
-- ==== Proof.KIR0Words.lean ====
/- The prologue's named values at an index: one Gaussian's splat, in the order the body computes it. -/
module

public import proofs.«01_k».proof.Proof.KIR0Pay

@[expose] public section

set_option maxRecDepth 16384

noncomputable section

namespace Cert.KernelIdeal.R0

open Cert.KernelIdeal.Gen Cert.KernelIdeal Cert.Scene
open Idealize.ShloMosaic Idealize.ShloMosaic.TcCoe Idealize.ShloMosaic.Tactic Idealize.SL.Sem

section
variable (c : Dev nD) (a1 : Memref sig .tc .smem S1x9 .f32) (h1 : a1.IsWhole) (a2 : Memref sig .tc .vmem S16x4096 .f32) (h2 : a2.IsWhole)
  (x0 : Vec Ideal S1x9 .f32) (x1 : Vec Ideal S16x4096 .f32) (n : Fin 4096)

/-- A column of the parameter block, and the rotation as it is laid out. -/
def colX (x1 : Vec Ideal S16x4096 .f32) (n : Fin 4096) : Fin 16 → EReal := fun j => x1 (ix2 j n)
def rotR (x0 : Vec Ideal S1x9 .f32) : Fin 3 → Fin 3 → EReal :=
  ![![x0 (ix2 0 0), x0 (ix2 0 1), x0 (ix2 0 2)], ![x0 (ix2 0 3), x0 (ix2 0 4), x0 (ix2 0 5)], ![x0 (ix2 0 6), x0 (ix2 0 7), x0 (ix2 0 8)]]

theorem row_ld (j : Fin 16) (inb : ∀ a : Fin 2, (![j.val, 0] : Fin 2 → ℕ) a + S1x4096.size a ≤ S16x4096.size a) :
    View.readAt (Elt Ideal) a2.view (Rect.unit (s := S16x4096) ![j.val, 0] S1x4096.size inb).toLoadRect (h2.unread x1) (ix2 (0 : Fin 1) n) = colX x1 n j := by
  rw [View.readAt_eq_ld, h2.read_unread]
  show x1 _ = x1 _
  congr 1
  funext a
  fin_cases a <;> apply Fin.ext <;> simp

theorem rot_ld (j : Fin 9) (inb : ∀ a : Fin 2, (![0, j.val] : Fin 2 → ℕ) a + S1x1.size a ≤ S1x9.size a) (hp) :
    View.readAt (Elt Ideal) a1.view (Rect.unit (s := S1x9) ![0, j.val] S1x1.size inb).toLoadRect (h1.unread x0) (Shape.Idx.first hp) = x0 (ix2 0 j) := by
  rw [View.readAt_eq_ld, h1.read_unread]
  show x0 _ = x0 _
  congr 1
  funext a
  fin_cases a <;> apply Fin.ext <;> simp <;> rfl

theorem r_at : (kernelRun0_A.sl.r (F := Ideal) c a2 h2 x1 (ix2 (0 : Fin 1) n) : EReal) = colX x1 n 0 := by
  unfold kernelRun0_A.sl.r
  have e0 := row_ld a2 h2 x1 n 0 inb_S16x4096_S1x4096_0_0
  simp only [p5]
  erw [e0]
  try rfl

theorem r_1_at : (kernelRun0_A.sl.r_1 (F := Ideal) c a2 h2 x1 (ix2 (0 : Fin 1) n) : EReal) = colX x1 n 1 := by
  unfold kernelRun0_A.sl.r_1
  have e1 := row_ld a2 h2 x1 n 1 inb_S16x4096_S1x4096_1_0
  simp only [p6]
  erw [e1]
  try rfl

theorem r_2_at : (kernelRun0_A.sl.r_2 (F := Ideal) c a2 h2 x1 (ix2 (0 : Fin 1) n) : EReal) = colX x1 n 3 := by
  unfold kernelRun0_A.sl.r_2
  have e3 := row_ld a2 h2 x1 n 3 inb_S16x4096_S1x4096_3_0
  simp only [p8]
  erw [e3]
  try rfl

theorem r_3_at : (kernelRun0_A.sl.r_3 (F := Ideal) c a2 h2 x1 (ix2 (0 : Fin 1) n) : EReal) = colX x1 n 4 := by
  unfold kernelRun0_A.sl.r_3
  have e4 := row_ld a2 h2 x1 n 4 inb_S16x4096_S1x4096_4_0
  simp only [p9]
  erw [e4]
  try rfl

theorem r_4_at : (kernelRun0_A.sl.r_4 (F := Ideal) c a2 h2 x1 (ix2 (0 : Fin 1) n) : EReal) = colX x1 n 5 := by
  unfold kernelRun0_A.sl.r_4
  have e5 := row_ld a2 h2 x1 n 5 inb_S16x4096_S1x4096_5_0
  simp only [p10]
  erw [e5]
  try rfl

theorem r_5_at : (kernelRun0_A.sl.r_5 (F := Ideal) c a2 h2 x1 (ix2 (0 : Fin 1) n) : EReal) = colX x1 n 6 := by
  unfold kernelRun0_A.sl.r_5
  have e6 := row_ld a2 h2 x1 n 6 inb_S16x4096_S1x4096_6_0
  simp only [p11]
  erw [e6]
  try rfl

theorem r_6_at : (kernelRun0_A.sl.r_6 (F := Ideal) c a2 h2 x1 (ix2 (0 : Fin 1) n) : EReal) = Ideal.logistic (colX x1 n 7) := by
  unfold kernelRun0_A.sl.r_6
  have e7 := row_ld a2 h2 x1 n 7 inb_S16x4096_S1x4096_7_0
  simp only [p12]
  erw [e7]
  try rfl

theorem r_7_at : (kernelRun0_A.sl.r_7 (F := Ideal) c a2 h2 x1 (ix2 (0 : Fin 1) n) : EReal) = Ideal.logistic (colX x1 n 8) := by
  unfold kernelRun0_A.sl.r_7
  have e8 := row_ld a2 h2 x1 n 8 inb_S16x4096_S1x4096_8_0
  simp only [p13]
  erw [e8]
  try rfl

theorem r_8_at : (kernelRun0_A.sl.r_8 (F := Ideal) c a2 h2 x1 (ix2 (0 : Fin 1) n) : EReal) = Ideal.logistic (colX x1 n 9) := by
  unfold kernelRun0_A.sl.r_8
  have e9 := row_ld a2 h2 x1 n 9 inb_S16x4096_S1x4096_9_0
  simp only [p14]
  erw [e9]
  try rfl

theorem r_9_at : (kernelRun0_A.sl.r_9 (F := Ideal) c a2 h2 x1 (ix2 (0 : Fin 1) n) : EReal) = Ideal.logistic (colX x1 n 10) := by
  unfold kernelRun0_A.sl.r_9
  have e10 := row_ld a2 h2 x1 n 10 inb_S16x4096_S1x4096_10_0
  simp only [p15]
  erw [e10]
  try rfl

theorem r_10_at : (kernelRun0_A.sl.r_10 (F := Ideal) c a2 h2 x1 (ix2 (0 : Fin 1) n) : EReal) = kZ (colX x1 n) := by
  unfold kernelRun0_A.sl.r_10
  have e2 := row_ld a2 h2 x1 n 2 inb_S16x4096_S1x4096_2_0
  simp only [p16, p7]
  erw [e2]
  try rfl

theorem r_11_at : (kernelRun0_A.sl.r_11 (F := Ideal) c a2 h2 x1 (ix2 (0 : Fin 1) n) : EReal) = Ideal.div (colX x1 n 0) (kZ (colX x1 n)) := by
  unfold kernelRun0_A.sl.r_11
  have e0 := row_ld a2 h2 x1 n 0 inb_S16x4096_S1x4096_0_0
  have e2 := row_ld a2 h2 x1 n 2 inb_S16x4096_S1x4096_2_0
  simp only [p17, p5, p16, p7]
  erw [e0]
  erw [e2]
  try rfl

theorem r_12_at : (kernelRun0_A.sl.r_12 (F := Ideal) c a2 h2 x1 (ix2 (0 : Fin 1) n) : EReal) = Ideal.div (colX x1 n 1) (kZ (colX x1 n)) := by
  unfold kernelRun0_A.sl.r_12
  have e1 := row_ld a2 h2 x1 n 1 inb_S16x4096_S1x4096_1_0
  have e2 := row_ld a2 h2 x1 n 2 inb_S16x4096_S1x4096_2_0
  simp only [p18, p6, p16, p7]
  erw [e1]
  erw [e2]
  try rfl

theorem r_13_at : (kernelRun0_A.sl.r_13 (F := Ideal) c a2 h2 x1 (ix2 (0 : Fin 1) n) : BitVec 1) = BitVec.ofBool (decide (cNear < colX x1 n 2)) := by
  unfold kernelRun0_A.sl.r_13
  have e2 := row_ld a2 h2 x1 n 2 inb_S16x4096_S1x4096_2_0
  simp only [p19, p7]
  erw [e2]
  try rfl

theorem r_14_at : (kernelRun0_A.sl.r_14 (F := Ideal) c a2 h2 x1 (ix2 (0 : Fin 1) n) : BitVec 1) = BitVec.ofBool (decide (FloatOps.absf (F := Ideal) (φ := .f32) (Ideal.div (colX x1 n 0) (kZ (colX x1 n))) < cEdge)) := by
  unfold kernelRun0_A.sl.r_14
  have e0 := row_ld a2 h2 x1 n 0 inb_S16x4096_S1x4096_0_0
  have e2 := row_ld a2 h2 x1 n 2 inb_S16x4096_S1x4096_2_0
  simp only [p20, p17, p5, p16, p7]
  erw [e0]
  erw [e2]
  try rfl

theorem r_15_at : (kernelRun0_A.sl.r_15 (F := Ideal) c a2 h2 x1 (ix2 (0 : Fin 1) n) : BitVec 1) = kVis (colX x1 n) := by
  unfold kernelRun0_A.sl.r_15
  simp only [p21, r_12_at, r_13_at, r_14_at]
  try rfl

theorem r_16_at : (kernelRun0_A.sl.r_16 (F := Ideal) c a2 h2 x1 (ix2 (0 : Fin 1) n) : EReal) = FloatOps.sitofp (F := Ideal) .f32 (BitVec.setWidth 32 (kVis (colX x1 n))) := by
  unfold kernelRun0_A.sl.r_16
  simp only [p22, p21, r_12_at, r_13_at, r_14_at]
  try rfl

theorem r_17_at : (kernelRun0_A.sl.r_17 (F := Ideal) c a2 h2 x1 (ix2 (0 : Fin 1) n) : EReal) = colX x1 n 3 * kNorm (colX x1 n) := by
  unfold kernelRun0_A.sl.r_17
  simp only [p24, p23, r_2_at, r_3_at, r_4_at, r_5_at]
  try rfl

theorem r_18_at : (kernelRun0_A.sl.r_18 (F := Ideal) c a2 h2 x1 (ix2 (0 : Fin 1) n) : EReal) = colX x1 n 4 * kNorm (colX x1 n) := by
  unfold kernelRun0_A.sl.r_18
  simp only [p25, p23, r_2_at, r_3_at, r_4_at, r_5_at]
  try rfl

theorem r_19_at : (kernelRun0_A.sl.r_19 (F := Ideal) c a2 h2 x1 (ix2 (0 : Fin 1) n) : EReal) = colX x1 n 5 * kNorm (colX x1 n) := by
  unfold kernelRun0_A.sl.r_19
  simp only [p26, p23, r_2_at, r_3_at, r_4_at, r_5_at]
  try rfl

theorem r_20_at : (kernelRun0_A.sl.r_20 (F := Ideal) c a2 h2 x1 (ix2 (0 : Fin 1) n) : EReal) = colX x1 n 6 * kNorm (colX x1 n) := by
  unfold kernelRun0_A.sl.r_20
  simp only [p27, p23, r_2_at, r_3_at, r_4_at, r_5_at]
  try rfl

theorem r_21_at : (kernelRun0_A.sl.r_21 (F := Ideal) c a2 h2 x1 (ix2 (0 : Fin 1) n) : EReal) = rot (colX x1 n 3 * kNorm (colX x1 n)) (colX x1 n 4 * kNorm (colX x1 n)) (colX x1 n 5 * kNorm (colX x1 n)) (colX x1 n 6 * kNorm (colX x1 n)) 0 0 := by
  unfold kernelRun0_A.sl.r_21
  simp only [p28, p26, p27, p23, r_2_at, r_3_at, r_4_at, r_5_at]
  try rfl

theorem r_22_at : (kernelRun0_A.sl.r_22 (F := Ideal) c a2 h2 x1 (ix2 (0 : Fin 1) n) : EReal) = rot (colX x1 n 3 * kNorm (colX x1 n)) (colX x1 n 4 * kNorm (colX x1 n)) (colX x1 n 5 * kNorm (colX x1 n)) (colX x1 n 6 * kNorm (colX x1 n)) 0 1 := by
  unfold kernelRun0_A.sl.r_22
  simp only [p29, p25, p26, p24, p27, p23, r_2_at, r_3_at, r_4_at, r_5_at]
  try rfl

theorem r_23_at : (kernelRun0_A.sl.r_23 (F := Ideal) c a2 h2 x1 (ix2 (0 : Fin 1) n) : EReal) = rot (colX x1 n 3 * kNorm (colX x1 n)) (colX x1 n 4 * kNorm (colX x1 n)) (colX x1 n 5 * kNorm (colX x1 n)) (colX x1 n 6 * kNorm (colX x1 n)) 0 2 := by
  unfold kernelRun0_A.sl.r_23
  simp only [p30, p25, p27, p24, p26, p23, r_2_at, r_3_at, r_4_at, r_5_at]
  try rfl

theorem r_24_at : (kernelRun0_A.sl.r_24 (F := Ideal) c a2 h2 x1 (ix2 (0 : Fin 1) n) : EReal) = rot (colX x1 n 3 * kNorm (colX x1 n)) (colX x1 n 4 * kNorm (colX x1 n)) (colX x1 n 5 * kNorm (colX x1 n)) (colX x1 n 6 * kNorm (colX x1 n)) 1 0 := by
  unfold kernelRun0_A.sl.r_24
  simp only [p31, p25, p26, p24, p27, p23, r_2_at, r_3_at, r_4_at, r_5_at]
  try rfl

theorem r_25_at : (kernelRun0_A.sl.r_25 (F := Ideal) c a2 h2 x1 (ix2 (0 : Fin 1) n) : EReal) = rot (colX x1 n 3 * kNorm (colX x1 n)) (colX x1 n 4 * kNorm (colX x1 n)) (colX x1 n 5 * kNorm (colX x1 n)) (colX x1 n 6 * kNorm (colX x1 n)) 1 1 := by
  unfold kernelRun0_A.sl.r_25
  simp only [p32, p25, p27, p23, r_2_at, r_3_at, r_4_at, r_5_at]
  try rfl

theorem r_26_at : (kernelRun0_A.sl.r_26 (F := Ideal) c a2 h2 x1 (ix2 (0 : Fin 1) n) : EReal) = colX x1 n 5 * kNorm (colX x1 n) * (colX x1 n 6 * kNorm (colX x1 n)) - colX x1 n 3 * kNorm (colX x1 n) * (colX x1 n 4 * kNorm (colX x1 n)) := by
  unfold kernelRun0_A.sl.r_26
  simp only [p33, p26, p27, p24, p25, p23, r_2_at, r_3_at, r_4_at, r_5_at]
  try rfl

theorem r_27_at : (kernelRun0_A.sl.r_27 (F := Ideal) c a2 h2 x1 (ix2 (0 : Fin 1) n) : EReal) = kMat (colX x1 n) 2 2 := by
  unfold kernelRun0_A.sl.r_27
  simp only [p42, r_8_at, r_18_at, r_19_at]
  try rfl

theorem r_28_at : (kernelRun0_A.sl.r_28 (F := Ideal) c a2 h2 x1 (ix2 (0 : Fin 1) n) : EReal) = gram (kMat (colX x1 n)) 0 0 := by
  unfold kernelRun0_A.sl.r_28
  simp only [p43, p34, p35, p36, r_6_at, r_7_at, r_8_at, r_21_at, r_22_at, r_23_at]
  try rfl

theorem r_29_at : (kernelRun0_A.sl.r_29 (F := Ideal) c a2 h2 x1 (ix2 (0 : Fin 1) n) : EReal) = gram (kMat (colX x1 n)) 0 1 := by
  unfold kernelRun0_A.sl.r_29
  simp only [p44, p34, p37, p35, p38, p36, p39, r_6_at, r_7_at, r_8_at, r_21_at, r_22_at, r_23_at, r_24_at, r_25_at, r_26_at, kernelRun0_A.sl.cst_33]
  try rfl

theorem r_30_at : (kernelRun0_A.sl.r_30 (F := Ideal) c a2 h2 x1 (ix2 (0 : Fin 1) n) : EReal) = gram (kMat (colX x1 n)) 0 2 := by
  unfold kernelRun0_A.sl.r_30
  simp only [p45, p34, p40, p35, p41, p36, p42, r_6_at, r_7_at, r_8_at, r_17_at, r_18_at, r_19_at, r_20_at, r_21_at, r_22_at, r_23_at]
  try rfl

theorem r_31_at : (kernelRun0_A.sl.r_31 (F := Ideal) c a2 h2 x1 (ix2 (0 : Fin 1) n) : EReal) = gram (kMat (colX x1 n)) 1 1 := by
  unfold kernelRun0_A.sl.r_31
  simp only [p46, p37, p38, p39, r_6_at, r_7_at, r_8_at, r_24_at, r_25_at, r_26_at, kernelRun0_A.sl.cst_33]
  try rfl

theorem r_32_at : (kernelRun0_A.sl.r_32 (F := Ideal) c a2 h2 x1 (ix2 (0 : Fin 1) n) : EReal) = gram (kMat (colX x1 n)) 1 2 := by
  unfold kernelRun0_A.sl.r_32
  simp only [p47, p37, p40, p38, p41, p39, p42, r_6_at, r_7_at, r_8_at, r_17_at, r_18_at, r_19_at, r_20_at, r_24_at, r_25_at, r_26_at, kernelRun0_A.sl.cst_33]
  try rfl

theorem r_33_at : (kernelRun0_A.sl.r_33 (F := Ideal) c a2 h2 x1 (ix2 (0 : Fin 1) n) : EReal) = kMat (colX x1 n) 2 0 * kMat (colX x1 n) 2 0 + kMat (colX x1 n) 2 1 * kMat (colX x1 n) 2 1 := by
  unfold kernelRun0_A.sl.r_33
  simp only [p48, p40, p41, r_6_at, r_7_at, r_17_at, r_18_at, r_19_at, r_20_at]
  try rfl

theorem r_34_at : (kernelRun0_A.sl.r_34 (F := Ideal) c a1 h1 x0 : EReal) = rotR x0 0 0 := by
  unfold kernelRun0_A.sl.r_34
  exact rot_ld a1 h1 x0 0 _ _

theorem r_35_at : (kernelRun0_A.sl.r_35 (F := Ideal) c a1 h1 x0 : EReal) = rotR x0 0 1 := by
  unfold kernelRun0_A.sl.r_35
  exact rot_ld a1 h1 x0 1 _ _

theorem r_36_at : (kernelRun0_A.sl.r_36 (F := Ideal) c a1 h1 x0 : EReal) = rotR x0 0 2 := by
  unfold kernelRun0_A.sl.r_36
  exact rot_ld a1 h1 x0 2 _ _

theorem r_37_at : (kernelRun0_A.sl.r_37 (F := Ideal) c a1 h1 x0 : EReal) = rotR x0 1 0 := by
  unfold kernelRun0_A.sl.r_37
  exact rot_ld a1 h1 x0 3 _ _

theorem r_38_at : (kernelRun0_A.sl.r_38 (F := Ideal) c a1 h1 x0 : EReal) = rotR x0 1 1 := by
  unfold kernelRun0_A.sl.r_38
  exact rot_ld a1 h1 x0 4 _ _

theorem r_39_at : (kernelRun0_A.sl.r_39 (F := Ideal) c a1 h1 x0 : EReal) = rotR x0 1 2 := by
  unfold kernelRun0_A.sl.r_39
  exact rot_ld a1 h1 x0 5 _ _

theorem r_40_at : (kernelRun0_A.sl.r_40 (F := Ideal) c a1 h1 x0 : EReal) = rotR x0 2 0 := by
  unfold kernelRun0_A.sl.r_40
  exact rot_ld a1 h1 x0 6 _ _

theorem r_41_at : (kernelRun0_A.sl.r_41 (F := Ideal) c a1 h1 x0 : EReal) = rotR x0 2 1 := by
  unfold kernelRun0_A.sl.r_41
  exact rot_ld a1 h1 x0 7 _ _

theorem r_42_at : (kernelRun0_A.sl.r_42 (F := Ideal) c a1 h1 x0 : EReal) = rotR x0 2 2 := by
  unfold kernelRun0_A.sl.r_42
  exact rot_ld a1 h1 x0 8 _ _

theorem r_43_at : (kernelRun0_A.sl.r_43 (F := Ideal) c a2 h2 x1 (ix2 (0 : Fin 1) n) : EReal) = gram (kMat (colX x1 n)) 2 2 := by
  unfold kernelRun0_A.sl.r_43
  simp only [p49, r_27_at, r_33_at]
  try rfl

theorem r_44_at : (kernelRun0_A.sl.r_44 (F := Ideal) c a1 h1 a2 h2 x0 x1 (ix2 (0 : Fin 1) n) : EReal) = mulT (rotR x0) (gram (kMat (colX x1 n))) 0 0 := by
  unfold kernelRun0_A.sl.r_44
  simp only [p50, r_28_at, r_29_at, r_30_at, r_34_at, r_35_at, r_36_at]
  try rfl

theorem r_45_at : (kernelRun0_A.sl.r_45 (F := Ideal) c a1 h1 a2 h2 x0 x1 (ix2 (0 : Fin 1) n) : EReal) = mulT (rotR x0) (gram (kMat (colX x1 n))) 0 1 := by
  unfold kernelRun0_A.sl.r_45
  simp only [p51, r_28_at, r_29_at, r_30_at, r_37_at, r_38_at, r_39_at]
  try rfl

theorem r_46_at : (kernelRun0_A.sl.r_46 (F := Ideal) c a1 h1 a2 h2 x0 x1 (ix2 (0 : Fin 1) n) : EReal) = mulT (rotR x0) (gram (kMat (colX x1 n))) 0 2 := by
  unfold kernelRun0_A.sl.r_46
  simp only [p52, r_28_at, r_29_at, r_30_at, r_40_at, r_41_at, r_42_at]
  try rfl

theorem r_47_at : (kernelRun0_A.sl.r_47 (F := Ideal) c a1 h1 a2 h2 x0 x1 (ix2 (0 : Fin 1) n) : EReal) = (gram (kMat (colX x1 n))) 1 0 * (rotR x0) 0 0 + (gram (kMat (colX x1 n))) 1 1 * (rotR x0) 0 1 := by
  unfold kernelRun0_A.sl.r_47
  simp only [p53, r_29_at, r_31_at, r_34_at, r_35_at]
  try unfold mulT
  try rw [gram_comm (kMat (colX x1 n)) 1 0]
  try rw [gram_comm (kMat (colX x1 n)) 2 0, gram_comm (kMat (colX x1 n)) 2 1]
  try rfl

theorem r_48_at : (kernelRun0_A.sl.r_48 (F := Ideal) c a1 h1 a2 h2 x0 x1 (ix2 (0 : Fin 1) n) : EReal) = (gram (kMat (colX x1 n))) 1 2 * (rotR x0) 0 2 := by
  unfold kernelRun0_A.sl.r_48
  simp only [p54, r_32_at, r_36_at]
  try rfl

theorem r_49_at : (kernelRun0_A.sl.r_49 (F := Ideal) c a1 h1 a2 h2 x0 x1 (ix2 (0 : Fin 1) n) : EReal) = mulT (rotR x0) (gram (kMat (colX x1 n))) 1 1 := by
  unfold kernelRun0_A.sl.r_49
  simp only [p55, r_29_at, r_31_at, r_32_at, r_37_at, r_38_at, r_39_at]
  try unfold mulT
  try rw [gram_comm (kMat (colX x1 n)) 1 0]
  try rw [gram_comm (kMat (colX x1 n)) 2 0, gram_comm (kMat (colX x1 n)) 2 1]
  try rfl

theorem r_50_at : (kernelRun0_A.sl.r_50 (F := Ideal) c a1 h1 a2 h2 x0 x1 (ix2 (0 : Fin 1) n) : EReal) = mulT (rotR x0) (gram (kMat (colX x1 n))) 1 2 := by
  unfold kernelRun0_A.sl.r_50
  simp only [p56, r_29_at, r_31_at, r_32_at, r_40_at, r_41_at, r_42_at]
  try unfold mulT
  try rw [gram_comm (kMat (colX x1 n)) 1 0]
  try rw [gram_comm (kMat (colX x1 n)) 2 0, gram_comm (kMat (colX x1 n)) 2 1]
  try rfl

theorem r_51_at : (kernelRun0_A.sl.r_51 (F := Ideal) c a1 h1 a2 h2 x0 x1 (ix2 (0 : Fin 1) n) : EReal) = mulT (rotR x0) (gram (kMat (colX x1 n))) 2 1 := by
  unfold kernelRun0_A.sl.r_51
  simp only [p57, r_30_at, r_32_at, r_37_at, r_38_at, r_39_at, r_43_at]
  try unfold mulT
  try rw [gram_comm (kMat (colX x1 n)) 1 0]
  try rw [gram_comm (kMat (colX x1 n)) 2 0, gram_comm (kMat (colX x1 n)) 2 1]
  try rfl

theorem r_52_at : (kernelRun0_A.sl.r_52 (F := Ideal) c a1 h1 a2 h2 x0 x1 (ix2 (0 : Fin 1) n) : EReal) = mulT (rotR x0) (gram (kMat (colX x1 n))) 2 2 := by
  unfold kernelRun0_A.sl.r_52
  simp only [p58, r_30_at, r_32_at, r_40_at, r_41_at, r_42_at, r_43_at]
  try unfold mulT
  try rw [gram_comm (kMat (colX x1 n)) 1 0]
  try rw [gram_comm (kMat (colX x1 n)) 2 0, gram_comm (kMat (colX x1 n)) 2 1]
  try rfl

theorem r_53_at : (kernelRun0_A.sl.r_53 (F := Ideal) c a1 h1 a2 h2 x0 x1 (ix2 (0 : Fin 1) n) : EReal) = kCov (rotR x0) (colX x1 n) 0 0 := by
  unfold kernelRun0_A.sl.r_53
  simp only [p59, r_30_at, r_32_at, r_34_at, r_35_at, r_36_at, r_43_at, r_44_at, r_47_at, r_48_at]
  unfold kCov conj
  rw [show mulT (rotR x0) (gram (kMat (colX x1 n))) 2 0 = gram (kMat (colX x1 n)) 0 2 * rotR x0 0 0 + gram (kMat (colX x1 n)) 1 2 * rotR x0 0 1 + gram (kMat (colX x1 n)) 2 2 * rotR x0 0 2 from by unfold mulT; rw [gram_comm (kMat (colX x1 n)) 2 0, gram_comm (kMat (colX x1 n)) 2 1]]
  try rfl

theorem r_54_at : (kernelRun0_A.sl.r_54 (F := Ideal) c a1 h1 a2 h2 x0 x1 (ix2 (0 : Fin 1) n) : EReal) = kCov (rotR x0) (colX x1 n) 0 1 := by
  unfold kernelRun0_A.sl.r_54
  simp only [p60, p55, p57, r_29_at, r_30_at, r_31_at, r_32_at, r_34_at, r_35_at, r_36_at, r_37_at, r_38_at, r_39_at, r_43_at, r_45_at]
  unfold kCov conj
  rw [show mulT (rotR x0) (gram (kMat (colX x1 n))) 1 1 = gram (kMat (colX x1 n)) 0 1 * rotR x0 1 0 + gram (kMat (colX x1 n)) 1 1 * rotR x0 1 1 + gram (kMat (colX x1 n)) 1 2 * rotR x0 1 2 from by unfold mulT; rw [gram_comm (kMat (colX x1 n)) 1 0]]
  rw [show mulT (rotR x0) (gram (kMat (colX x1 n))) 2 1 = gram (kMat (colX x1 n)) 0 2 * rotR x0 1 0 + gram (kMat (colX x1 n)) 1 2 * rotR x0 1 1 + gram (kMat (colX x1 n)) 2 2 * rotR x0 1 2 from by unfold mulT; rw [gram_comm (kMat (colX x1 n)) 2 0, gram_comm (kMat (colX x1 n)) 2 1]]
  try rfl

theorem r_55_at : (kernelRun0_A.sl.r_55 (F := Ideal) c a1 h1 a2 h2 x0 x1 (ix2 (0 : Fin 1) n) : EReal) = (rotR x0) 0 0 * mulT (rotR x0) (gram (kMat (colX x1 n))) 0 2 := by
  unfold kernelRun0_A.sl.r_55
  simp only [p61, r_34_at, r_46_at]
  try rfl

theorem r_56_at : (kernelRun0_A.sl.r_56 (F := Ideal) c a1 h1 x0 (ix2 (0 : Fin 1) n) : EReal) = (rotR x0) 0 1 := by
  unfold kernelRun0_A.sl.r_56
  simp only [p62, r_35_at]
  try rfl

theorem r_57_at : (kernelRun0_A.sl.r_57 (F := Ideal) c a1 h1 a2 h2 x0 x1 (ix2 (0 : Fin 1) n) : EReal) = kCov (rotR x0) (colX x1 n) 0 2 := by
  unfold kernelRun0_A.sl.r_57
  simp only [p63, r_36_at, r_50_at, r_52_at, r_55_at, r_56_at]
  try rfl

theorem r_58_at : (kernelRun0_A.sl.r_58 (F := Ideal) c a1 h1 a2 h2 x0 x1 (ix2 (0 : Fin 1) n) : EReal) = kCov (rotR x0) (colX x1 n) 1 1 := by
  unfold kernelRun0_A.sl.r_58
  simp only [p64, r_37_at, r_38_at, r_39_at, r_45_at, r_49_at, r_51_at]
  try rfl

theorem r_59_at : (kernelRun0_A.sl.r_59 (F := Ideal) c a1 h1 a2 h2 x0 x1 (ix2 (0 : Fin 1) n) : EReal) = kCov (rotR x0) (colX x1 n) 1 2 := by
  unfold kernelRun0_A.sl.r_59
  simp only [p65, r_37_at, r_38_at, r_39_at, r_46_at, r_50_at, r_52_at]
  try rfl

theorem r_60_at : (kernelRun0_A.sl.r_60 (F := Ideal) c a1 h1 a2 h2 x0 x1 (ix2 (0 : Fin 1) n) : EReal) = kCov (rotR x0) (colX x1 n) 2 2 := by
  unfold kernelRun0_A.sl.r_60
  simp only [p66, r_40_at, r_41_at, r_42_at, r_46_at, r_50_at, r_52_at]
  try rfl

theorem r_61_at : (kernelRun0_A.sl.r_61 (F := Ideal) c a2 h2 x1 (ix2 (0 : Fin 1) n) : EReal) = kF (colX x1 n) := by
  unfold kernelRun0_A.sl.r_61
  simp only [p67, r_10_at]
  try rfl

theorem r_62_at : (kernelRun0_A.sl.r_62 (F := Ideal) c a2 h2 x1 (ix2 (0 : Fin 1) n) : EReal) = kF (colX x1 n) := by
  unfold kernelRun0_A.sl.r_62
  simp only [p68, r_10_at]
  try rfl

theorem r_63_at : (kernelRun0_A.sl.r_63 (F := Ideal) c a2 h2 x1 (ix2 (0 : Fin 1) n) : EReal) = kJx (colX x1 n) := by
  unfold kernelRun0_A.sl.r_63
  simp only [p69, r_at, r_10_at]
  try rfl

theorem r_64_at : (kernelRun0_A.sl.r_64 (F := Ideal) c a2 h2 x1 (ix2 (0 : Fin 1) n) : EReal) = kJy (colX x1 n) := by
  unfold kernelRun0_A.sl.r_64
  simp only [p70, r_1_at, r_10_at]
  try rfl

theorem r_65_at : (kernelRun0_A.sl.r_65 (F := Ideal) c a1 h1 a2 h2 x0 x1 (ix2 (0 : Fin 1) n) : EReal) = kA (rotR x0) (colX x1 n) := by
  unfold kernelRun0_A.sl.r_65
  simp only [p71, p67, p69, p63, p66, r_at, r_10_at, r_36_at, r_40_at, r_41_at, r_42_at, r_46_at, r_50_at, r_52_at, r_53_at, r_55_at, r_56_at]
  try rfl

theorem r_66_at : (kernelRun0_A.sl.r_66 (F := Ideal) c a2 h2 x1 (ix2 (0 : Fin 1) n) : EReal) = kF (colX x1 n) * kF (colX x1 n) := by
  unfold kernelRun0_A.sl.r_66
  simp only [p72, p67, p68, r_10_at]
  try rfl

theorem r_67_at : (kernelRun0_A.sl.r_67 (F := Ideal) c a1 h1 a2 h2 x0 x1 (ix2 (0 : Fin 1) n) : EReal) = kRow (rotR x0) (colX x1 n) 2 := by
  unfold kernelRun0_A.sl.r_67
  simp only [p76, p74, p75, p73, r_15_at, r_54_at, r_57_at, r_58_at, r_59_at, r_60_at, r_61_at, r_62_at, r_63_at, r_64_at, r_65_at, r_66_at]
  try rfl

theorem r_68_at : (kernelRun0_A.sl.r_68 (F := Ideal) c a1 h1 a2 h2 x0 x1 (ix2 (0 : Fin 1) n) : EReal) = kRow (rotR x0) (colX x1 n) 3 := by
  unfold kernelRun0_A.sl.r_68
  simp only [p77, p73, p75, p74, r_15_at, r_54_at, r_57_at, r_58_at, r_59_at, r_60_at, r_61_at, r_62_at, r_63_at, r_64_at, r_65_at, r_66_at]
  try rfl

theorem r_69_at : (kernelRun0_A.sl.r_69 (F := Ideal) c a1 h1 a2 h2 x0 x1 (ix2 (0 : Fin 1) n) : EReal) = kRow (rotR x0) (colX x1 n) 4 := by
  unfold kernelRun0_A.sl.r_69
  simp only [p78, p75, p74, p73, r_15_at, r_54_at, r_57_at, r_58_at, r_59_at, r_60_at, r_61_at, r_62_at, r_63_at, r_64_at, r_65_at, r_66_at]
  try rfl

theorem r_70_at : (kernelRun0_A.sl.r_70 (F := Ideal) c a2 h2 x1 (ix2 (0 : Fin 1) n) : EReal) = kRow (rotR x0) (colX x1 n) 0 := by
  unfold kernelRun0_A.sl.r_70
  simp only [p79, r_11_at, r_15_at]
  try rfl

theorem r_71_at : (kernelRun0_A.sl.r_71 (F := Ideal) c a2 h2 x1 (ix2 (0 : Fin 1) n) : EReal) = cFocal * Ideal.div (colX x1 n 1) (kZ (colX x1 n)) := by
  unfold kernelRun0_A.sl.r_71
  simp only [p80, r_12_at]
  try rfl

end

end Cert.KernelIdeal.R0

end
-- ==== Proof.KHostIdx.lean ====
/- What the kernel's host hands its two calls, read at an index. -/
module

public import proofs.«01_k».proof.Proof.KHost
public import proofs.«01_k».proof.Proof.KIR0Words
public import Idealize.ShloMosaic.Lib.Routing.OpsSet
public import Idealize.ShloMosaic.Lib.Routing.OpsPair

@[expose] public section

set_option maxRecDepth 1024

noncomputable section

namespace Cert.KernelIdeal.Whole

open Cert.KernelIdeal Idealize.ShloMosaic Cert.KernelIdeal.Gen

/-- A block of rows written into the table from row `r` on. -/
theorem rows3_lands {w : ℕ} (u : S3x4096.Idx) (idx : IVec S1 w) (r : Fin 16) (c : Fin 4096) (v : BitVec w) (hv : ∀ i, idx i = v) :
    scatter_S16x4096_S1_S3x4096_01_n_0_0.resultIdx? u idx = some (ix2 r c) ↔ v.toInt + ((u 0).val : Int) = r.val ∧ (u 1).val = c.val := by
  refine (Routing.resultIdx?_ix2 scatter_S16x4096_S1_S3x4096_01_n_0_0 u idx r c).trans ?_
  have s0 : scatter_S16x4096_S1_S3x4096_01_n_0_0.start u idx 0 = v.toInt := by
    unfold ScatterDims.start
    rw [dif_pos (show (0 : Fin 2) ∈ scatter_S16x4096_S1_S3x4096_01_n_0_0.scatterDimsToOperandDims from List.mem_singleton.mpr rfl), hv]
  have s1 : scatter_S16x4096_S1_S3x4096_01_n_0_0.start u idx 1 = 0 := by
    unfold ScatterDims.start
    exact dif_neg (show (1 : Fin 2) ∉ scatter_S16x4096_S1_S3x4096_01_n_0_0.scatterDimsToOperandDims by decide)
  have w0 : scatter_S16x4096_S1_S3x4096_01_n_0_0.window u 0 = (u 0).val := by
    unfold ScatterDims.window
    rw [dif_pos (show (0 : Fin 2) ∈ scatter_S16x4096_S1_S3x4096_01_n_0_0.sKept by decide)]
    rfl
  have w1 : scatter_S16x4096_S1_S3x4096_01_n_0_0.window u 1 = (u 1).val := by
    unfold ScatterDims.window
    rw [dif_pos (show (1 : Fin 2) ∈ scatter_S16x4096_S1_S3x4096_01_n_0_0.sKept by decide)]
    rfl
  rw [s0, s1, w0, w1]
  omega

theorem rows4_lands {w : ℕ} (u : S4x4096.Idx) (idx : IVec S1 w) (r : Fin 16) (c : Fin 4096) (v : BitVec w) (hv : ∀ i, idx i = v) :
    scatter_S16x4096_S1_S4x4096_01_n_0_0.resultIdx? u idx = some (ix2 r c) ↔ v.toInt + ((u 0).val : Int) = r.val ∧ (u 1).val = c.val := by
  refine (Routing.resultIdx?_ix2 scatter_S16x4096_S1_S4x4096_01_n_0_0 u idx r c).trans ?_
  have s0 : scatter_S16x4096_S1_S4x4096_01_n_0_0.start u idx 0 = v.toInt := by
    unfold ScatterDims.start
    rw [dif_pos (show (0 : Fin 2) ∈ scatter_S16x4096_S1_S4x4096_01_n_0_0.scatterDimsToOperandDims from List.mem_singleton.mpr rfl), hv]
  have s1 : scatter_S16x4096_S1_S4x4096_01_n_0_0.start u idx 1 = 0 := by
    unfold ScatterDims.start
    exact dif_neg (show (1 : Fin 2) ∉ scatter_S16x4096_S1_S4x4096_01_n_0_0.scatterDimsToOperandDims by decide)
  have w0 : scatter_S16x4096_S1_S4x4096_01_n_0_0.window u 0 = (u 0).val := by
    unfold ScatterDims.window
    rw [dif_pos (show (0 : Fin 2) ∈ scatter_S16x4096_S1_S4x4096_01_n_0_0.sKept by decide)]
    rfl
  have w1 : scatter_S16x4096_S1_S4x4096_01_n_0_0.window u 1 = (u 1).val := by
    unfold ScatterDims.window
    rw [dif_pos (show (1 : Fin 2) ∈ scatter_S16x4096_S1_S4x4096_01_n_0_0.sKept by decide)]
    rfl
  rw [s0, s1, w0, w1]
  omega

theorem row1_lands {w : ℕ} (u : S4096.Idx) (idx : IVec S1 w) (r : Fin 16) (c : Fin 4096) (v : BitVec w) (hv : ∀ i, idx i = v) :
    scatter_S16x4096_S1_S4096_0_0_0_0.resultIdx? u idx = some (ix2 r c) ↔ v.toInt = r.val ∧ (u 0).val = c.val := by
  refine (Routing.resultIdx?_ix2 scatter_S16x4096_S1_S4096_0_0_0_0 u idx r c).trans ?_
  have s0 : scatter_S16x4096_S1_S4096_0_0_0_0.start u idx 0 = v.toInt := by
    unfold ScatterDims.start
    rw [dif_pos (show (0 : Fin 2) ∈ scatter_S16x4096_S1_S4096_0_0_0_0.scatterDimsToOperandDims from List.mem_singleton.mpr rfl), hv]
  have s1 : scatter_S16x4096_S1_S4096_0_0_0_0.start u idx 1 = 0 := by
    unfold ScatterDims.start
    exact dif_neg (show (1 : Fin 2) ∉ scatter_S16x4096_S1_S4096_0_0_0_0.scatterDimsToOperandDims by decide)
  have w0 : scatter_S16x4096_S1_S4096_0_0_0_0.window u 0 = 0 := by
    unfold ScatterDims.window
    exact dif_neg (show (0 : Fin 2) ∉ scatter_S16x4096_S1_S4096_0_0_0_0.sKept by decide)
  have w1 : scatter_S16x4096_S1_S4096_0_0_0_0.window u 1 = (u 0).val := by
    unfold ScatterDims.window
    rw [dif_pos (show (1 : Fin 2) ∈ scatter_S16x4096_S1_S4096_0_0_0_0.sKept by decide)]
    rfl
  rw [s0, s1, w0, w1]
  omega

theorem cols_lands {w : ℕ} (u : S4096x3.Idx) (idx : IVec S1 w) (r : Fin 4096) (c : Fin 8) (v : BitVec w) (hv : ∀ i, idx i = v) :
    scatter_S4096x8_S1_S4096x3_01_n_1_0.resultIdx? u idx = some (ix2 r c) ↔ (u 0).val = r.val ∧ v.toInt + ((u 1).val : Int) = c.val := by
  refine (Routing.resultIdx?_ix2 scatter_S4096x8_S1_S4096x3_01_n_1_0 u idx r c).trans ?_
  have s0 : scatter_S4096x8_S1_S4096x3_01_n_1_0.start u idx 1 = v.toInt := by
    unfold ScatterDims.start
    rw [dif_pos (show (1 : Fin 2) ∈ scatter_S4096x8_S1_S4096x3_01_n_1_0.scatterDimsToOperandDims from List.mem_singleton.mpr rfl), hv]
  have s1 : scatter_S4096x8_S1_S4096x3_01_n_1_0.start u idx 0 = 0 := by
    unfold ScatterDims.start
    exact dif_neg (show (0 : Fin 2) ∉ scatter_S4096x8_S1_S4096x3_01_n_1_0.scatterDimsToOperandDims by decide)
  have w0 : scatter_S4096x8_S1_S4096x3_01_n_1_0.window u 0 = (u 0).val := by
    unfold ScatterDims.window
    rw [dif_pos (show (0 : Fin 2) ∈ scatter_S4096x8_S1_S4096x3_01_n_1_0.sKept by decide)]
    rfl
  have w1 : scatter_S4096x8_S1_S4096x3_01_n_1_0.window u 1 = (u 1).val := by
    unfold ScatterDims.window
    rw [dif_pos (show (1 : Fin 2) ∈ scatter_S4096x8_S1_S4096x3_01_n_1_0.sKept by decide)]
    rfl
  rw [s0, s1, w0, w1]
  omega

variable (x0 : S16x4096.Idx → EReal) (idx : IVec S1 32) (r : Fin 16) (c : Fin 4096)

theorem rows3_hit (upd : S3x4096.Idx → EReal) (v : ℕ) (hs : v < 100) (hv : ∀ i, idx i = BitVec.ofNat 32 v) (a : Fin 3) (h : v + a.val = r.val) :
    Host.scatter scatter_S16x4096_S1_S3x4096_01_n_0_0 (fun _ b => b) x0 idx upd (ix2 r c) = upd (ix2 a c) := by
  have hi := StableHlo.Predicate.toInt_ofNat_small v (by omega)
  refine Routing.scatter_set_hit _ x0 idx upd (ix2 r c) _ (fun k hk => ?_) (ix2 a c) ((rows3_lands _ _ _ _ _ hv).mpr ⟨by rw [hi]; show (v : Int) + (a.val : Int) = r.val; omega, rfl⟩)
  have hk := (rows3_lands _ _ _ _ _ hv).mp hk
  rw [hi] at hk
  exact congrArg upd (funext fun b => Fin.ext (match b with
    | ⟨0, _⟩ => (show (k 0).val = a.val by omega)
    | ⟨1, _⟩ => hk.2))
theorem rows3_miss (upd : S3x4096.Idx → EReal) (v : ℕ) (hs : v < 100) (hv : ∀ i, idx i = BitVec.ofNat 32 v) (h : r.val < v ∨ v + 3 ≤ r.val) :
    Host.scatter scatter_S16x4096_S1_S3x4096_01_n_0_0 (fun _ b => b) x0 idx upd (ix2 r c) = x0 (ix2 r c) := by
  refine Routing.scatter_set_miss _ x0 idx upd (ix2 r c) fun k hk => ?_
  have hk := (rows3_lands _ _ _ _ _ hv).mp hk
  rw [StableHlo.Predicate.toInt_ofNat_small v (by omega)] at hk
  have : (k 0).val < 3 := (k 0).isLt
  omega
theorem rows4_hit (upd : S4x4096.Idx → EReal) (v : ℕ) (hs : v < 100) (hv : ∀ i, idx i = BitVec.ofNat 32 v) (a : Fin 4) (h : v + a.val = r.val) :
    Host.scatter scatter_S16x4096_S1_S4x4096_01_n_0_0 (fun _ b => b) x0 idx upd (ix2 r c) = upd (ix2 a c) := by
  have hi := StableHlo.Predicate.toInt_ofNat_small v (by omega)
  refine Routing.scatter_set_hit _ x0 idx upd (ix2 r c) _ (fun k hk => ?_) (ix2 a c) ((rows4_lands _ _ _ _ _ hv).mpr ⟨by rw [hi]; show (v : Int) + (a.val : Int) = r.val; omega, rfl⟩)
  have hk := (rows4_lands _ _ _ _ _ hv).mp hk
  rw [hi] at hk
  exact congrArg upd (funext fun b => Fin.ext (match b with
    | ⟨0, _⟩ => (show (k 0).val = a.val by omega)
    | ⟨1, _⟩ => hk.2))
theorem rows4_miss (upd : S4x4096.Idx → EReal) (v : ℕ) (hs : v < 100) (hv : ∀ i, idx i = BitVec.ofNat 32 v) (h : r.val < v ∨ v + 4 ≤ r.val) :
    Host.scatter scatter_S16x4096_S1_S4x4096_01_n_0_0 (fun _ b => b) x0 idx upd (ix2 r c) = x0 (ix2 r c) := by
  refine Routing.scatter_set_miss _ x0 idx upd (ix2 r c) fun k hk => ?_
  have hk := (rows4_lands _ _ _ _ _ hv).mp hk
  rw [StableHlo.Predicate.toInt_ofNat_small v (by omega)] at hk
  have : (k 0).val < 4 := (k 0).isLt
  omega
theorem row1_hit (upd : S4096.Idx → EReal) (v : ℕ) (hs : v < 100) (hv : ∀ i, idx i = BitVec.ofNat 32 v) (h : v = r.val) :
    Host.scatter scatter_S16x4096_S1_S4096_0_0_0_0 (fun _ b => b) x0 idx upd (ix2 r c) = upd (ix1 c) := by
  have hi := StableHlo.Predicate.toInt_ofNat_small v (by omega)
  refine Routing.scatter_set_hit _ x0 idx upd (ix2 r c) _ (fun k hk => ?_) (ix1 c) ((row1_lands _ _ _ _ _ hv).mpr ⟨by rw [hi]; omega, rfl⟩)
  have hk := (row1_lands _ _ _ _ _ hv).mp hk
  exact congrArg upd (funext fun b => Fin.ext (match b with | ⟨0, _⟩ => hk.2))
theorem row1_miss (upd : S4096.Idx → EReal) (v : ℕ) (hs : v < 100) (hv : ∀ i, idx i = BitVec.ofNat 32 v) (h : v ≠ r.val) :
    Host.scatter scatter_S16x4096_S1_S4096_0_0_0_0 (fun _ b => b) x0 idx upd (ix2 r c) = x0 (ix2 r c) := by
  refine Routing.scatter_set_miss _ x0 idx upd (ix2 r c) fun k hk => ?_
  have hk := (row1_lands _ _ _ _ _ hv).mp hk
  rw [StableHlo.Predicate.toInt_ofNat_small v (by omega)] at hk
  omega

theorem tr3 (p : S4096x3.Idx → EReal) (a : Fin 3) : transpose S3x4096 [1, 0] p transposes_S4096x3_S3x4096_1_0 (ix2 a c) = p (ix2 c a) :=
  transpose_apply [1, 0] p transposes_S4096x3_S3x4096_1_0 (ix2 a c) (ix2 c a) (fun b => match b with | ⟨0, _⟩ => rfl | ⟨1, _⟩ => rfl)
theorem tr4 (p : S4096x4.Idx → EReal) (a : Fin 4) : transpose S4x4096 [1, 0] p transposes_S4096x4_S4x4096_1_0 (ix2 a c) = p (ix2 c a) :=
  transpose_apply [1, 0] p transposes_S4096x4_S4x4096_1_0 (ix2 a c) (ix2 c a) (fun b => match b with | ⟨0, _⟩ => rfl | ⟨1, _⟩ => rfl)
theorem word (v : BitVec 32) (i : S1.Idx) : broadcastInDim S1 ![] bcast_S_S1 (constantI S_ 32 v) i = v :=
  broadcastInDim_apply _ bcast_S_S1 (constantI S_ 32 v) i (fun a => a.elim0) (fun a => a.elim0)

section
variable (p : Vec Ideal S4096x3 .f32) (op : Vec Ideal S4096 .f32) (qu : Vec Ideal S4096x4 .f32) (sc : Vec Ideal S4096x3 .f32)
theorem xin_p (a : Fin 3) : xinOf p op qu sc (ix2 (a.castLE (by decide)) c) = p (ix2 c a) := by
  have ha : a.val < 3 := a.isLt
  have hr : (a.castLE (by decide : 3 ≤ 16)).val = a.val := rfl
  unfold xinOf
  rw [row1_miss _ _ _ _ _ 10 (by omega) (word _) (by omega), rows3_miss _ _ _ _ _ 7 (by omega) (word _) (by omega),
    rows4_miss _ _ _ _ _ 3 (by omega) (word _) (by omega), rows3_hit _ _ _ _ _ 0 (by omega) (word _) a (by omega), tr3]
theorem xin_q (a : Fin 4) : xinOf p op qu sc (ix2 ⟨3 + a.val, by have := a.isLt; omega⟩ c) = qu (ix2 c a) := by
  have ha : a.val < 4 := a.isLt
  unfold xinOf
  rw [row1_miss _ _ _ _ _ 10 (by omega) (word _) (by show 10 ≠ 3 + a.val; omega), rows3_miss _ _ _ _ _ 7 (by omega) (word _) (by show 3 + a.val < 7 ∨ _; omega),
    rows4_hit _ _ _ _ _ 3 (by omega) (word _) a rfl, tr4]
theorem xin_s (a : Fin 3) : xinOf p op qu sc (ix2 ⟨7 + a.val, by have := a.isLt; omega⟩ c) = sc (ix2 c a) := by
  have ha : a.val < 3 := a.isLt
  unfold xinOf
  rw [row1_miss _ _ _ _ _ 10 (by omega) (word _) (by show 10 ≠ 7 + a.val; omega), rows3_hit _ _ _ _ _ 7 (by omega) (word _) a rfl, tr3]
theorem xin_o : xinOf p op qu sc (ix2 10 c) = op (ix1 c) := by
  unfold xinOf
  rw [row1_hit _ _ _ _ _ 10 (by omega) (word _) rfl]
end

theorem rgb8_apply (rgb : Vec Ideal S4096x3 .f32) (a : Fin 3) : rgb8Of rgb (ix2 c (a.castLE (by decide))) = rgb (ix2 c a) := by
  unfold rgb8Of
  have hi := StableHlo.Predicate.toInt_ofNat_small 0 (by omega)
  refine Routing.scatter_set_hit _ _ _ rgb (ix2 c (a.castLE (by decide))) _ (fun k hk => ?_) (ix2 c a) ((cols_lands _ _ _ _ _ (word (BitVec.ofNat 32 0))).mpr ⟨rfl, by rw [hi]; show ((0 : ℕ) : Int) + (a.val : Int) = a.val; omega⟩)
  have hk := (cols_lands _ _ _ _ _ (word (BitVec.ofNat 32 0))).mp hk
  rw [hi] at hk
  have h2 : ((0 : ℕ) : Int) + ((k 1).val : Int) = a.val := hk.2
  exact congrArg rgb (funext fun b => Fin.ext (match b with
    | ⟨0, _⟩ => hk.1
    | ⟨1, _⟩ => (show (k 1).val = a.val by omega)))

theorem ord_apply (x : S4096.Idx → BitVec 32) (j : Fin 8) (k : Fin 512) (h : 512 * j.val + k.val < 4096) :
    shapeCast S8x512 x shapeCasts_S4096_S8x512 (ix2 j k) = x (ix1 ⟨512 * j.val + k.val, h⟩) :=
  shapeCast_apply x shapeCasts_S4096_S8x512 (ix2 j k) (ix1 ⟨512 * j.val + k.val, h⟩)
    (by rewrite [Shape.rowMajor_val_one, Shape.rowMajor_val_two]; show 512 * j.val + k.val = j.val * 512 + k.val; omega)

theorem rot_apply (x : S3x3.Idx → EReal) (i j : Fin 3) (k : Fin 9) (h : k.val = 3 * i.val + j.val) :
    shapeCast S1x9 x shapeCasts_S3x3_S1x9 (ix2 0 k) = x (ix2 i j) :=
  shapeCast_apply x shapeCasts_S3x3_S1x9 (ix2 0 k) (ix2 i j)
    (by rewrite [Shape.rowMajor_val_two, Shape.rowMajor_val_two]; show i.val * 3 + j.val = 0 * 9 + k.val; omega)

theorem rotR_cast (x : S3x3.Idx → EReal) : R0.rotR (shapeCast S1x9 x shapeCasts_S3x3_S1x9) = fun i j => x (ix2 i j) := by
  funext i j
  unfold R0.rotR
  match i, j with
  | 0, 0 => exact rot_apply x 0 0 0 rfl
  | 0, 1 => exact rot_apply x 0 1 1 rfl
  | 0, 2 => exact rot_apply x 0 2 2 rfl
  | 1, 0 => exact rot_apply x 1 0 3 rfl
  | 1, 1 => exact rot_apply x 1 1 4 rfl
  | 1, 2 => exact rot_apply x 1 2 5 rfl
  | 2, 0 => exact rot_apply x 2 0 6 rfl
  | 2, 1 => exact rot_apply x 2 1 7 rfl
  | 2, 2 => exact rot_apply x 2 2 8 rfl

/-- The host's last stretch cuts the picture out of the padded one. -/
theorem out_apply (x : S4096x8.Idx → EReal) (i : S64x64x3.Idx) (p : Fin 4096) (hp : p.val = (i 0).val * 64 + (i 1).val) (q : Fin 3) (hq : q.val = (i 2).val) :
    shapeCast S64x64x3 (extractStridedSlice S4096x3 ![0, 0] x slices_S4096x8_S4096x3_0_0) shapeCasts_S4096x3_S64x64x3 i = x (ix2 p (q.castLE (by decide))) := by
  refine (shapeCast_apply _ shapeCasts_S4096x3_S64x64x3 i (ix2 p q) ?_).trans ?_
  · rewrite [Shape.rowMajor_val_two, Shape.rowMajor_val_three]
    show p.val * 3 + q.val = ((i 0).val * 64 + (i 1).val) * 3 + (i 2).val
    omega
  · exact extractStridedSlice_apply ![0, 0] x slices_S4096x8_S4096x3_0_0 (ix2 p q) (ix2 p (q.castLE (by decide))) (fun a => match a with
      | ⟨0, _⟩ => by show p.val = 0 + p.val; omega
      | ⟨1, _⟩ => by show q.val = 0 + q.val; omega)

end Cert.KernelIdeal.Whole

end
-- ==== Proof.KIR0Val.lean ====
/- What the prologue call leaves point by point: the sorted columns of the splats, and the sorted colours. -/
module

public import proofs.«01_k».proof.Proof.KIR0Words
public import Idealize.ShloMosaic.Lib.WritesUnit

@[expose] public section

set_option maxRecDepth 16384

noncomputable section

namespace Cert.KernelIdeal.R0

open Cert.KernelIdeal.Gen Cert.KernelIdeal Cert.Scene
open Idealize.ShloMosaic Idealize.ShloMosaic.TcCoe Idealize.ShloMosaic.Tactic Idealize.SL.Sem

theorem hz : (![0, 0] : Fin 2 → Nat) = fun _ => 0 := funext fun a => by fin_cases a <;> rfl

section
variable (c : Dev nD) (i : grid0.Coords) (a1 : Memref sig .tc .smem S1x9 .f32) (h1 : a1.IsWhole) (a2 : Memref sig .tc .vmem S16x4096 .f32) (h2 : a2.IsWhole)
  (a3 : Memref sig .tc .vmem S8x512 .i32) (h3 : a3.IsWhole)
  (a4 : Memref sig .tc .vmem S4096x8 .f32) (h4 : a4.IsWhole) (a5 : Memref sig .tc .vmem S8x512 .f32) (h5 : a5.IsWhole)
  (a6 : Memref sig .tc .vmem S512x8 .f32) (h6 : a6.IsWhole) (a7 : Memref sig .tc .vmem S8x4096 .f32) (h7 : a7.IsWhole)
  (x0 : Vec Ideal S1x9 .f32) (x1 : Vec Ideal S16x4096 .f32) (x2 : Vec Ideal S8x512 .i32) (x3 : Vec Ideal S4096x8 .f32) (xs : Vec Ideal S8x4096 .f32)

/-- The row of the order this point sorts by, as the body loads it. -/
abbrev ordRow (i : grid0.Coords) (x2 : Vec Ideal S8x512 .i32) : Vec Ideal S1x512 .i32 :=
  View.ld x2 (Rect.unit (s := S8x512) (k0_off1 i) S1x512.size (k0_off1_inb i))

theorem ordRow_apply (k : Fin 512) : ordRow i x2 (ix2 (0 : Fin 1) k) = x2 (ix2 ⟨(i 0).val, (i 0).isLt⟩ k) := by
  show x2 _ = x2 _
  congr 1
  funext a
  apply Fin.ext
  match a with
  | ⟨0, _⟩ => show k0_off1 i 0 + 1 * 0 = (i 0).val; rw [k0_off1_eq]; rfl
  | ⟨1, _⟩ => show k0_off1 i 1 + 1 * k.val = k.val; rw [k0_off1_eq]; show 0 + 1 * k.val = k.val; omega

theorem out_B4 (hc : ¬cond0_0 i) : out0_B_4 c i a1 h1 a2 h2 a3 h3 a4 h4 a5 h5 a6 h6 a7 h7 hc x0 x1 x2 x3 xs = k0_pay3 (ordRow i x2) xs := by
  unfold out0_B_4
  rw [View.read_writes_eq_canon _ _ _ (cover0_B_4 c i a1 h1 a2 h2 a3 h3 a4 h4 a5 h5 a6 h6 a7 h7 hc x0 x1 x2 x3 xs)]
  unfold kernelRun0_B
  dsimp only
  sl_unfold_words
  rw [View.canon_unit_zero hz]
  simp only [View.readAt_eq_ld, h3.read_unread, h7.read_unread, View.ld_unit_zero (S := S8x4096) hz]
  rfl

theorem out_B5 (hc : ¬cond0_0 i) : out0_B_5 c i a1 h1 a2 h2 a3 h3 a4 h4 a5 h5 a6 h6 a7 h7 hc x0 x1 x2 x3 xs = k0_pay4 (ordRow i x2) x3 := by
  unfold out0_B_5
  rw [View.read_writes_eq_canon _ _ _ (cover0_B_5 c i a1 h1 a2 h2 a3 h3 a4 h4 a5 h5 a6 h6 a7 h7 hc x0 x1 x2 x3 xs)]
  unfold kernelRun0_B
  dsimp only
  sl_unfold_words
  rw [View.canon_unit_zero hz]
  simp only [View.readAt_eq_ld, h3.read_unread, h4.read_unread, View.ld_unit_zero (S := S4096x8) hz]
  rfl

theorem out_A4 (hc : cond0_0 i) : out0_A_4 c i a1 h1 a2 h2 a3 h3 a4 h4 a5 h5 a6 h6 a7 h7 hc x0 x1 x2 x3
    = k0_pay3 (ordRow i x2) (sout0_A_0 c i a1 h1 a2 h2 a3 h3 a4 h4 a5 h5 a6 h6 a7 h7 hc x0 x1 x2 x3) := by
  have hcov := scover0_A_0 c i a1 h1 a2 h2 a3 h3 a4 h4 a5 h5 a6 h6 a7 h7 hc x0 x1 x2 x3
  unfold out0_A_4 sout0_A_0
  rw [View.read_writes_eq_canon _ _ _ (cover0_A_4 c i a1 h1 a2 h2 a3 h3 a4 h4 a5 h5 a6 h6 a7 h7 hc x0 x1 x2 x3), View.read_writes_eq_canon _ _ _ hcov]
  unfold kernelRun0_A at hcov ⊢
  dsimp only at hcov ⊢
  unfold kernelRun0_A.sl.v11
  rw [View.canon_unit_zero hz, View.readCov_eq_canon_ld _ _ _ hcov, View.ld_unit_zero (S := S8x4096) hz]
  simp only [View.readAt_eq_ld, h3.read_unread]

theorem out_A5 (hc : cond0_0 i) : out0_A_5 c i a1 h1 a2 h2 a3 h3 a4 h4 a5 h5 a6 h6 a7 h7 hc x0 x1 x2 x3 = k0_pay4 (ordRow i x2) x3 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h3.read_unread, h4.read_unread, View.ld_unit_zero (S := S4096x8) hz]
  rfl

/-- Eight row stores, read back. -/
theorem rows8 (f) (w0 w1 w2 w3 w4 w5 w6 w7 : S1x4096.Idx → Elt Ideal .f32) (r : Fin 8) (n : Fin 4096) :
    VS0_0.read (Elt Ideal) (VS0_0.writes (Elt Ideal) f
      [⟨Rect.unit (s := S8x4096) ![7, 0] ![1, 4096] inb_S8x4096_S1x4096_7_0, w7⟩, ⟨Rect.unit (s := S8x4096) ![6, 0] S1x4096.size inb_S8x4096_S1x4096_6_0, w6⟩,
        ⟨Rect.unit (s := S8x4096) ![5, 0] S1x4096.size inb_S8x4096_S1x4096_5_0, w5⟩, ⟨Rect.unit (s := S8x4096) ![4, 0] S1x4096.size inb_S8x4096_S1x4096_4_0, w4⟩,
        ⟨Rect.unit (s := S8x4096) ![3, 0] S1x4096.size inb_S8x4096_S1x4096_3_0, w3⟩, ⟨Rect.unit (s := S8x4096) ![2, 0] S1x4096.size inb_S8x4096_S1x4096_2_0, w2⟩,
        ⟨Rect.unit (s := S8x4096) ![1, 0] S1x4096.size inb_S8x4096_S1x4096_1_0, w1⟩, ⟨Rect.unit (s := S8x4096) ![0, 0] S1x4096.size inb_S8x4096_S1x4096_0_0, w0⟩])
      (ix2 r n) = (![w0, w1, w2, w3, w4, w5, w6, w7] : Fin 8 → _) r (ix2 (0 : Fin 1) n) := by
  rw [View.read_writes_cons_rows (d := S8x4096.size) VS0_0 f (off := ![7, 0]) (size := ![1, 4096]) (o := 7) (W := 1) _ _ _ _ rfl rfl rfl,
    View.read_writes_cons_rows (d := S8x4096.size) VS0_0 f (off := ![6, 0]) (size := S1x4096.size) (o := 6) (W := 1) _ _ _ _ rfl rfl rfl,
    View.read_writes_cons_rows (d := S8x4096.size) VS0_0 f (off := ![5, 0]) (size := S1x4096.size) (o := 5) (W := 1) _ _ _ _ rfl rfl rfl,
    View.read_writes_cons_rows (d := S8x4096.size) VS0_0 f (off := ![4, 0]) (size := S1x4096.size) (o := 4) (W := 1) _ _ _ _ rfl rfl rfl,
    View.read_writes_cons_rows (d := S8x4096.size) VS0_0 f (off := ![3, 0]) (size := S1x4096.size) (o := 3) (W := 1) _ _ _ _ rfl rfl rfl,
    View.read_writes_cons_rows (d := S8x4096.size) VS0_0 f (off := ![2, 0]) (size := S1x4096.size) (o := 2) (W := 1) _ _ _ _ rfl rfl rfl,
    View.read_writes_cons_rows (d := S8x4096.size) VS0_0 f (off := ![1, 0]) (size := S1x4096.size) (o := 1) (W := 1) _ _ _ _ rfl rfl rfl,
    View.read_writes_cons_rows (d := S8x4096.size) VS0_0 f (off := ![0, 0]) (size := S1x4096.size) (o := 0) (W := 1) _ _ _ _ rfl rfl rfl]
  have key : ∀ (w : S1x4096.Idx → Elt Ideal .f32) (y : S1x4096.Idx), (y 1).val = n.val → w y = w (ix2 (0 : Fin 1) n) := fun w y hy => by
    congr 1
    funext a
    match a with
    | ⟨0, _⟩ => exact Subsingleton.elim (α := Fin 1) _ _
    | ⟨1, _⟩ => exact Fin.ext hy
  fin_cases r
  · refine (dif_neg (show ¬((7:ℕ) ≤ (0:ℕ) ∧ (0:ℕ) < 7 + 1) by decide)).trans ?_
    refine (dif_neg (show ¬((6:ℕ) ≤ (0:ℕ) ∧ (0:ℕ) < 6 + 1) by decide)).trans ?_
    refine (dif_neg (show ¬((5:ℕ) ≤ (0:ℕ) ∧ (0:ℕ) < 5 + 1) by decide)).trans ?_
    refine (dif_neg (show ¬((4:ℕ) ≤ (0:ℕ) ∧ (0:ℕ) < 4 + 1) by decide)).trans ?_
    refine (dif_neg (show ¬((3:ℕ) ≤ (0:ℕ) ∧ (0:ℕ) < 3 + 1) by decide)).trans ?_
    refine (dif_neg (show ¬((2:ℕ) ≤ (0:ℕ) ∧ (0:ℕ) < 2 + 1) by decide)).trans ?_
    refine (dif_neg (show ¬((1:ℕ) ≤ (0:ℕ) ∧ (0:ℕ) < 1 + 1) by decide)).trans ?_
    exact (dif_pos (show (0:ℕ) ≤ (0:ℕ) ∧ (0:ℕ) < 0 + 1 by decide)).trans (key w0 _ (Nat.sub_zero n.val))
  · refine (dif_neg (show ¬((7:ℕ) ≤ (1:ℕ) ∧ (1:ℕ) < 7 + 1) by decide)).trans ?_
    refine (dif_neg (show ¬((6:ℕ) ≤ (1:ℕ) ∧ (1:ℕ) < 6 + 1) by decide)).trans ?_
    refine (dif_neg (show ¬((5:ℕ) ≤ (1:ℕ) ∧ (1:ℕ) < 5 + 1) by decide)).trans ?_
    refine (dif_neg (show ¬((4:ℕ) ≤ (1:ℕ) ∧ (1:ℕ) < 4 + 1) by decide)).trans ?_
    refine (dif_neg (show ¬((3:ℕ) ≤ (1:ℕ) ∧ (1:ℕ) < 3 + 1) by decide)).trans ?_
    refine (dif_neg (show ¬((2:ℕ) ≤ (1:ℕ) ∧ (1:ℕ) < 2 + 1) by decide)).trans ?_
    exact (dif_pos (show (1:ℕ) ≤ (1:ℕ) ∧ (1:ℕ) < 1 + 1 by decide)).trans (key w1 _ (Nat.sub_zero n.val))
  · refine (dif_neg (show ¬((7:ℕ) ≤ (2:ℕ) ∧ (2:ℕ) < 7 + 1) by decide)).trans ?_
    refine (dif_neg (show ¬((6:ℕ) ≤ (2:ℕ) ∧ (2:ℕ) < 6 + 1) by decide)).trans ?_
    refine (dif_neg (show ¬((5:ℕ) ≤ (2:ℕ) ∧ (2:ℕ) < 5 + 1) by decide)).trans ?_
    refine (dif_neg (show ¬((4:ℕ) ≤ (2:ℕ) ∧ (2:ℕ) < 4 + 1) by decide)).trans ?_
    refine (dif_neg (show ¬((3:ℕ) ≤ (2:ℕ) ∧ (2:ℕ) < 3 + 1) by decide)).trans ?_
    exact (dif_pos (show (2:ℕ) ≤ (2:ℕ) ∧ (2:ℕ) < 2 + 1 by decide)).trans (key w2 _ (Nat.sub_zero n.val))
  · refine (dif_neg (show ¬((7:ℕ) ≤ (3:ℕ) ∧ (3:ℕ) < 7 + 1) by decide)).trans ?_
    refine (dif_neg (show ¬((6:ℕ) ≤ (3:ℕ) ∧ (3:ℕ) < 6 + 1) by decide)).trans ?_
    refine (dif_neg (show ¬((5:ℕ) ≤ (3:ℕ) ∧ (3:ℕ) < 5 + 1) by decide)).trans ?_
    refine (dif_neg (show ¬((4:ℕ) ≤ (3:ℕ) ∧ (3:ℕ) < 4 + 1) by decide)).trans ?_
    exact (dif_pos (show (3:ℕ) ≤ (3:ℕ) ∧ (3:ℕ) < 3 + 1 by decide)).trans (key w3 _ (Nat.sub_zero n.val))
  · refine (dif_neg (show ¬((7:ℕ) ≤ (4:ℕ) ∧ (4:ℕ) < 7 + 1) by decide)).trans ?_
    refine (dif_neg (show ¬((6:ℕ) ≤ (4:ℕ) ∧ (4:ℕ) < 6 + 1) by decide)).trans ?_
    refine (dif_neg (show ¬((5:ℕ) ≤ (4:ℕ) ∧ (4:ℕ) < 5 + 1) by decide)).trans ?_
    exact (dif_pos (show (4:ℕ) ≤ (4:ℕ) ∧ (4:ℕ) < 4 + 1 by decide)).trans (key w4 _ (Nat.sub_zero n.val))
  · refine (dif_neg (show ¬((7:ℕ) ≤ (5:ℕ) ∧ (5:ℕ) < 7 + 1) by decide)).trans ?_
    refine (dif_neg (show ¬((6:ℕ) ≤ (5:ℕ) ∧ (5:ℕ) < 6 + 1) by decide)).trans ?_
    exact (dif_pos (show (5:ℕ) ≤ (5:ℕ) ∧ (5:ℕ) < 5 + 1 by decide)).trans (key w5 _ (Nat.sub_zero n.val))
  · refine (dif_neg (show ¬((7:ℕ) ≤ (6:ℕ) ∧ (6:ℕ) < 7 + 1) by decide)).trans ?_
    exact (dif_pos (show (6:ℕ) ≤ (6:ℕ) ∧ (6:ℕ) < 6 + 1 by decide)).trans (key w6 _ (Nat.sub_zero n.val))
  · exact (dif_pos (show (7:ℕ) ≤ (7:ℕ) ∧ (7:ℕ) < 7 + 1 by decide)).trans (key w7 _ (Nat.sub_zero n.val))

/-- The scratch after the first point holds every splat, unsorted. -/
theorem scr_apply (hc : cond0_0 i) (r : Fin 8) (n : Fin 4096) :
    sout0_A_0 c i a1 h1 a2 h2 a3 h3 a4 h4 a5 h5 a6 h6 a7 h7 hc x0 x1 x2 x3 (ix2 r n) = kRow (rotR x0) (colX x1 n) r := by
  unfold sout0_A_0 kernelRun0_A
  dsimp only
  unfold kernelRun0_A.sl.HS0_8
  refine (rows8 _ _ _ _ _ _ _ _ _ r n).trans ?_
  fin_cases r
  · exact (p81 _ n).trans (r_70_at ..)
  · refine (p82 _ _ n).trans ?_; rw [r_15_at, r_71_at]; rfl
  · exact (p83 _ n).trans (r_67_at ..)
  · exact (p84 _ n).trans (r_68_at ..)
  · exact (p85 _ n).trans (r_69_at ..)
  · refine (p86 _ _ n).trans ?_; rw [r_9_at, r_16_at]; rfl
  · exact p87 n
  · exact (p1 _ n).trans (p88 n)
end

theorem oh_apply (v4 : Vec Ideal S1x512 .i32) (n : Fin 4096) (k : Fin 512) (o : ℕ) (ho : o < 4096) (h : v4 (ix2 (0 : Fin 1) k) = BitVec.ofNat 32 o) :
    (k0_pay2 (F := Ideal) v4 (ix2 n k) : EReal) = if n.val = o then 1 else 0 := by
  pointwise [k0_pay2]
  rw [h]
  have hn := n.isLt
  show (((BitVec.setWidth 32 (BitVec.ofBool (BitVec.ofNat 32 n.val == BitVec.ofNat 32 o))).toInt : ℝ) : EReal) = _
  by_cases e : n.val = o
  · rw [if_pos e, e, beq_self_eq_true, show (BitVec.setWidth 32 (BitVec.ofBool true)).toInt = 1 from by decide]; norm_num
  · rw [if_neg e, beq_eq_false_iff_ne.mpr (fun q => e (by
      have := congrArg BitVec.toNat q
      rw [BitVec.toNat_ofNat, BitVec.toNat_ofNat] at this
      omega))]
    norm_num

theorem pay3_apply (v4 : Vec Ideal S1x512 .i32) (g : Vec Ideal S8x4096 .f32) (r : Fin 8) (k : Fin 512) :
    (k0_pay3 (F := Ideal) v4 g (ix2 r k) : EReal) = ∑ n : Fin 4096, g (ix2 r n) * k0_pay2 (F := Ideal) v4 (ix2 n k) := by
  pointwise [k0_pay3]

theorem pay4_apply (v4 : Vec Ideal S1x512 .i32) (g : Vec Ideal S4096x8 .f32) (q : Fin 8) (k : Fin 512) :
    (k0_pay4 (F := Ideal) v4 g (ix2 k q) : EReal) = ∑ n : Fin 4096, k0_pay2 (F := Ideal) v4 (ix2 n k) * g (ix2 n q) := by
  pointwise [k0_pay4]

end Cert.KernelIdeal.R0

end
-- ==== Proof.KIR0Sum.lean ====
/- The two arrays the prologue call leaves: the splats and the colours, both sorted, over the extended reals. -/
module

public import proofs.«01_k».proof.Proof.KIR0Val

@[expose] public section

set_option maxRecDepth 16384

noncomputable section

namespace Cert.KernelIdeal.R0

open Cert.KernelIdeal.Gen Cert.KernelIdeal Cert.Scene
open Idealize.ShloMosaic Idealize.ShloMosaic.TcCoe Idealize.SL.Sem

variable (V : (c : Dev nD) → (b : Ref sig .tc) → Buf (Elt Ideal) ((c : Thread nD τ).loc b)) (c : Dev nD)

/-- The call's four operands: the rotation, the parameter block, the order, the colours. -/
abbrev rcwArr : Vec Ideal S1x9 .f32 := V c (Pipeline.arrRef spec0 0)
abbrev xinArr : Vec Ideal S16x4096 .f32 := V c (Pipeline.arrRef spec0 1)
abbrev ordArr : Vec Ideal S8x512 .i32 := V c (Pipeline.arrRef spec0 2)
abbrev rgbArr : Vec Ideal S4096x8 .f32 := V c (Pipeline.arrRef spec0 3)

theorem idx_in : ∀ t : Fin cfg0.N, (win0_0.index t (0 : Fin 2) = 0 ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (grid0.coords t 0).val = t.val :=
  (by decide +kernel : ∀ t : Fin grid0.N, _)

theorem iblk0_eq (t : Fin cfg0.N) : (iblk V c 0 t : Vec Ideal S1x9 .f32) = rcwArr V c := by
  obtain ⟨⟨e0, e1⟩, -⟩ := idx_in t
  funext y
  show V c _ _ = V c _ _
  congr 1
  funext a; apply Fin.ext
  match a with
  | ⟨0, _⟩ => show win0_0.index t (0 : Fin 2) * 1 + 1 * (y 0).val = (y 0).val; rw [e0]; omega
  | ⟨1, _⟩ => show win0_0.index t (1 : Fin 2) * 9 + 1 * (y 1).val = (y 1).val; rw [e1]; omega
theorem iblk1_eq (t : Fin cfg0.N) : (iblk V c 1 t : Vec Ideal S16x4096 .f32) = xinArr V c := by
  obtain ⟨-, ⟨e0, e1⟩, -⟩ := idx_in t
  funext y
  show V c _ _ = V c _ _
  congr 1
  funext a; apply Fin.ext
  match a with
  | ⟨0, _⟩ => show win0_1.index t (0 : Fin 2) * 16 + 1 * (y 0).val = (y 0).val; rw [e0]; omega
  | ⟨1, _⟩ => show win0_1.index t (1 : Fin 2) * 4096 + 1 * (y 1).val = (y 1).val; rw [e1]; omega
theorem iblk2_eq (t : Fin cfg0.N) : (iblk V c 2 t : Vec Ideal S8x512 .i32) = ordArr V c := by
  obtain ⟨-, -, ⟨e0, e1⟩, -⟩ := idx_in t
  funext y
  show V c _ _ = V c _ _
  congr 1
  funext a; apply Fin.ext
  match a with
  | ⟨0, _⟩ => show win0_2.index t (0 : Fin 2) * 8 + 1 * (y 0).val = (y 0).val; rw [e0]; omega
  | ⟨1, _⟩ => show win0_2.index t (1 : Fin 2) * 512 + 1 * (y 1).val = (y 1).val; rw [e1]; omega
theorem iblk3_eq (t : Fin cfg0.N) : (iblk V c 3 t : Vec Ideal S4096x8 .f32) = rgbArr V c := by
  obtain ⟨-, -, -, ⟨e0, e1⟩, -⟩ := idx_in t
  funext y
  show V c _ _ = V c _ _
  congr 1
  funext a; apply Fin.ext
  match a with
  | ⟨0, _⟩ => show win0_3.index t (0 : Fin 2) * 4096 + 1 * (y 0).val = (y 0).val; rw [e0]; omega
  | ⟨1, _⟩ => show win0_3.index t (1 : Fin 2) * 8 + 1 * (y 1).val = (y 1).val; rw [e1]; omega

/-- The carried scratch holds every splat after every point. -/
theorem scrAt (k : ℕ) : ∀ hk : k < cfg0.N, ∀ (r : Fin 8) (n : Fin 4096),
    (outsAt0 V c k hk).2.2 (ix2 r n) = kRow (rotR (rcwArr V c)) (colX (xinArr V c) n) r := by
  have hN : cfg0.N = 8 := N_0
  induction k with
  | zero =>
    intro hk r n
    have e := outsAt0_A V c ⟨0, hk⟩ rfl
    dsimp only at e
    rw [e]
    dsimp only
    rw [scr_apply, iblk0_eq, iblk1_eq]
  | succ k ih =>
    intro hk r n
    have h0 : ¬ (k + 1) % 8 = 0 := by omega
    have e := outsAt0_B V c ⟨k + 1, hk⟩ h0
    dsimp only [Nat.add_sub_cancel] at e
    rw [e]
    exact ih (by omega) r n

section
variable (σ : Fin 4096 → Fin 4096)
  (hord : ∀ (j : Fin 8) (k : Fin 512) (h : 512 * j.val + k.val < 4096), ordArr V c (ix2 j k) = BitVec.ofNat 32 (σ ⟨512 * j.val + k.val, h⟩).val)
include hord

theorem sum_pick (f : Fin 4096 → EReal) (o : Fin 4096) : ∑ n : Fin 4096, f n * (if n.val = o.val then 1 else 0) = f o := by
  rw [Finset.sum_eq_single o (fun n _ hn => by rw [if_neg (fun e => hn (Fin.ext e)), mul_zero]) (fun h => absurd (Finset.mem_univ o) h), if_pos rfl, mul_one]

theorem ord_pt (t : Fin cfg0.N) (k : Fin 512) (h : 512 * t.val + k.val < 4096) :
    ordRow (grid0.coords t) (iblk V c 2 t) (ix2 (0 : Fin 1) k) = BitVec.ofNat 32 (σ ⟨512 * t.val + k.val, h⟩).val := by
  have hN : cfg0.N = 8 := N_0
  have ht : t.val < 8 := by have := t.isLt; omega
  rw [ordRow_apply, iblk2_eq]
  have e : (⟨(grid0.coords t 0).val, (grid0.coords t 0).isLt⟩ : Fin 8) = ⟨t.val, ht⟩ := Fin.ext (idx_in t).2.2.2.2
  exact (congrArg (fun j : Fin 8 => ordArr V c (ix2 j k)) e).trans (hord ⟨t.val, ht⟩ k h)

theorem pt4 (t : Fin cfg0.N) (r : Fin 8) (k : Fin 512) (h : 512 * t.val + k.val < 4096) :
    (outsAt0 V c t.val t.isLt).1 (ix2 r k) = kRow (rotR (rcwArr V c)) (colX (xinArr V c) (σ ⟨512 * t.val + k.val, h⟩)) r := by
  have hN : cfg0.N = 8 := N_0
  have ht : t.val < 8 := by have := t.isLt; omega
  have key : ∀ g : Vec Ideal S8x4096 .f32, (∀ n, g (ix2 r n) = kRow (rotR (rcwArr V c)) (colX (xinArr V c) n) r) →
      (k0_pay3 (F := Ideal) (ordRow (grid0.coords t) (iblk V c 2 t)) g (ix2 r k) : EReal)
        = kRow (rotR (rcwArr V c)) (colX (xinArr V c) (σ ⟨512 * t.val + k.val, h⟩)) r := fun g hg => by
    rw [pay3_apply]
    simp only [oh_apply _ _ _ _ (σ ⟨512 * t.val + k.val, h⟩).isLt (ord_pt V c σ hord t k h), hg]
    exact sum_pick V c σ hord (fun n => kRow (rotR (rcwArr V c)) (colX (xinArr V c) n) r) _
  by_cases h0 : t.val % 8 = 0
  · rw [outsAt0_A V c t h0]
    dsimp only
    rw [out_A4]
    exact key _ fun n => by rw [scr_apply, iblk0_eq, iblk1_eq]
  · rw [outsAt0_B V c t h0]
    dsimp only
    rw [out_B4]
    exact key _ fun n => scrAt V c _ _ r n

theorem pt5 (t : Fin cfg0.N) (q : Fin 8) (k : Fin 512) (h : 512 * t.val + k.val < 4096) :
    (outsAt0 V c t.val t.isLt).2.1 (ix2 k q) = rgbArr V c (ix2 (σ ⟨512 * t.val + k.val, h⟩) q) := by
  have key : (k0_pay4 (F := Ideal) (ordRow (grid0.coords t) (iblk V c 2 t)) (iblk V c 3 t) (ix2 k q) : EReal)
        = rgbArr V c (ix2 (σ ⟨512 * t.val + k.val, h⟩) q) := by
    rw [pay4_apply, iblk3_eq]
    simp only [oh_apply _ _ _ _ (σ ⟨512 * t.val + k.val, h⟩).isLt (ord_pt V c σ hord t k h)]
    exact (Finset.sum_congr rfl fun n _ => mul_comm _ _).trans (sum_pick V c σ hord (fun n => rgbArr V c (ix2 n q)) _)
  by_cases h0 : t.val % 8 = 0
  · rw [outsAt0_A V c t h0]
    dsimp only
    rw [out_A5]
    exact key
  · rw [outsAt0_B V c t h0]
    dsimp only
    rw [out_B5]
    exact key

/-- The arrays the call leaves. -/
def gsOut (σ : Fin 4096 → Fin 4096) (i : S8x4096.Idx) : EReal := kRow (rotR (rcwArr V c)) (colX (xinArr V c) (σ (i 1))) (i 0)
def rgbOut (σ : Fin 4096 → Fin 4096) (i : S4096x8.Idx) : EReal := rgbArr V c (ix2 (σ (i 0)) (i 1))

omit hord in
theorem idx_out : ∀ t : Fin cfg0.N, win0_4.index t (0 : Fin 2) = 0 ∧ win0_4.index t (1 : Fin 2) = t.val
    ∧ win0_5.index t (0 : Fin 2) = t.val ∧ win0_5.index t (1 : Fin 2) = 0 :=
  (by decide +kernel : ∀ t : Fin grid0.N, _)

theorem flushed4 (t : Fin cfg0.N) : (dats V 0 c).flushed 4 t = ((cfg0.win 4).blk t).view.read (Elt Ideal) (gsOut V c σ : Vec Ideal S8x4096 .f32) := by
  have hN : cfg0.N = 8 := N_0
  have ht : t.val < 8 := by have := t.isLt; omega
  show (cfg0.win 4).cut (grid0.coords t) ((dats V 0 c).after 4 t) = _
  rw [after0_4]
  obtain ⟨e0, e1, -, -⟩ := idx_out t
  funext y
  have hy0 : (y 0).val < 8 := (y 0).isLt
  have hy1 : (y 1).val < 512 := (y 1).isLt
  have hb0 : (((cfg0.win 4).blk t).view.emb y 0).val = win0_4.index t (0 : Fin 2) * 8 + 1 * (y 0).val := rfl
  have hb1 : (((cfg0.win 4).blk t).view.emb y 1).val = win0_4.index t (1 : Fin 2) * 512 + 1 * (y 1).val := rfl
  have h := pt4 V c σ hord t ⟨(y 0).val, hy0⟩ ⟨(y 1).val, hy1⟩ (by dsimp only; omega)
  refine Eq.trans (Eq.trans (congrArg (outsAt0 V c t.val t.isLt).1 ?_) h) ?_
  · funext a; apply Fin.ext
    match a with
    | ⟨0, _⟩ => rfl
    | ⟨1, _⟩ => rfl
  · show _ = kRow (rotR (rcwArr V c)) (colX (xinArr V c) (σ (((cfg0.win 4).blk t).view.emb y 1))) (((cfg0.win 4).blk t).view.emb y 0)
    rw [show (((cfg0.win 4).blk t).view.emb y 0) = (⟨(y 0).val, hy0⟩ : Fin 8) from Fin.ext (by rw [hb0, e0]; dsimp only; omega),
      show (((cfg0.win 4).blk t).view.emb y 1) = (⟨512 * t.val + (y 1).val, by omega⟩ : Fin 4096) from Fin.ext (by rw [hb1, e1]; dsimp only; omega)]

theorem flushed5 (t : Fin cfg0.N) : (dats V 0 c).flushed 5 t = ((cfg0.win 5).blk t).view.read (Elt Ideal) (rgbOut V c σ : Vec Ideal S4096x8 .f32) := by
  have hN : cfg0.N = 8 := N_0
  have ht : t.val < 8 := by have := t.isLt; omega
  show (cfg0.win 5).cut (grid0.coords t) ((dats V 0 c).after 5 t) = _
  rw [after0_5]
  obtain ⟨-, -, e0, e1⟩ := idx_out t
  funext y
  have hy0 : (y 0).val < 512 := (y 0).isLt
  have hy1 : (y 1).val < 8 := (y 1).isLt
  have hb0 : (((cfg0.win 5).blk t).view.emb y 0).val = win0_5.index t (0 : Fin 2) * 512 + 1 * (y 0).val := rfl
  have hb1 : (((cfg0.win 5).blk t).view.emb y 1).val = win0_5.index t (1 : Fin 2) * 8 + 1 * (y 1).val := rfl
  have h := pt5 V c σ hord t ⟨(y 1).val, hy1⟩ ⟨(y 0).val, hy0⟩ (by dsimp only; omega)
  refine Eq.trans (Eq.trans (congrArg (outsAt0 V c t.val t.isLt).2.1 ?_) h) ?_
  · funext a; apply Fin.ext
    match a with
    | ⟨0, _⟩ => rfl
    | ⟨1, _⟩ => rfl
  · show _ = rgbArr V c (ix2 (σ (((cfg0.win 5).blk t).view.emb y 0)) (((cfg0.win 5).blk t).view.emb y 1))
    rw [show (((cfg0.win 5).blk t).view.emb y 1) = (⟨(y 1).val, hy1⟩ : Fin 8) from Fin.ext (by rw [hb1, e1]; dsimp only; omega),
      show (((cfg0.win 5).blk t).view.emb y 0) = (⟨512 * t.val + (y 0).val, by omega⟩ : Fin 4096) from Fin.ext (by rw [hb0, e0]; dsimp only; omega)]

omit hord in
theorem mem_blk4 (t : Fin cfg0.N) (i : S8x4096.Idx) :
    i ∈ ((cfg0.win 4).blk t).view.set ↔ ∀ a : Fin 2, win0_4.index t a * S8x512.size a ≤ (i a).val ∧ (i a).val < win0_4.index t a * S8x512.size a + S8x512.size a := by
  show i ∈ ((View.whole main_v86_0).slice (win0_4.rect t)).set ↔ _
  rw [View.set_slice_whole, Rect.mem_set_unit]
  exact Iff.rfl

omit hord in
theorem mem_blk5 (t : Fin cfg0.N) (i : S4096x8.Idx) :
    i ∈ ((cfg0.win 5).blk t).view.set ↔ ∀ a : Fin 2, win0_5.index t a * S512x8.size a ≤ (i a).val ∧ (i a).val < win0_5.index t a * S512x8.size a + S512x8.size a := by
  show i ∈ ((View.whole main_v86_1).slice (win0_5.rect t)).set ↔ _
  rw [View.set_slice_whole, Rect.mem_set_unit]
  exact Iff.rfl

theorem final4 : (dats V 0 c).arrAt 4 cfg0.N = (gsOut V c σ : Vec Ideal S8x4096 .f32) :=
  (dats V 0 c).arrAt_eq_of_cover 4 _ (fun t hf => flushed4 V c σ hord t) (fun i => by
    have h0 : (i 0).val < 8 := (i 0).isLt
    have h1 : (i 1).val < 4096 := (i 1).isLt
    have hN : cfg0.N = 8 := N_0
    have hlt : (i 1).val / 512 < cfg0.N := by omega
    obtain ⟨e0, e1, -, -⟩ := idx_out ⟨(i 1).val / 512, hlt⟩
    refine ⟨⟨(i 1).val / 512, hlt⟩, flush0_4 _, (mem_blk4 _ i).2 ?_⟩
    dsimp only at e1
    intro a
    match a with
    | ⟨0, _⟩ => show win0_4.index _ (0 : Fin 2) * 8 ≤ (i 0).val ∧ (i 0).val < win0_4.index _ (0 : Fin 2) * 8 + 8; omega
    | ⟨1, _⟩ => show win0_4.index _ (1 : Fin 2) * 512 ≤ (i 1).val ∧ (i 1).val < win0_4.index _ (1 : Fin 2) * 512 + 512; omega)

theorem final5 : (dats V 0 c).arrAt 5 cfg0.N = (rgbOut V c σ : Vec Ideal S4096x8 .f32) :=
  (dats V 0 c).arrAt_eq_of_cover 5 _ (fun t hf => flushed5 V c σ hord t) (fun i => by
    have h0 : (i 0).val < 4096 := (i 0).isLt
    have h1 : (i 1).val < 8 := (i 1).isLt
    have hN : cfg0.N = 8 := N_0
    have hlt : (i 0).val / 512 < cfg0.N := by omega
    obtain ⟨-, -, e0, e1⟩ := idx_out ⟨(i 0).val / 512, hlt⟩
    refine ⟨⟨(i 0).val / 512, hlt⟩, flush0_5 _, (mem_blk5 _ i).2 ?_⟩
    dsimp only at e0
    intro a
    match a with
    | ⟨0, _⟩ => show win0_5.index _ (0 : Fin 2) * 512 ≤ (i 0).val ∧ (i 0).val < win0_5.index _ (0 : Fin 2) * 512 + 512; omega
    | ⟨1, _⟩ => show win0_5.index _ (1 : Fin 2) * 8 ≤ (i 1).val ∧ (i 1).val < win0_5.index _ (1 : Fin 2) * 8 + 8; omega)
end

end Cert.KernelIdeal.R0

end
-- ==== Proof.KIR1Val.lean ====
/- What each point of the splat call leaves, as terms over the blocks. -/
module

public import proofs.«01_k».proof.Proof.KIR1RunB
public import Idealize.ShloMosaic.Lib.Claim
public import proofs.«01_k».proof.Proof.KIR1Frame
public import Idealize.ShloMosaic.Lib.Pipeline.Value
public import Idealize.ShloMosaic.Lib.Tactic

@[expose] public section

set_option maxRecDepth 16384

noncomputable section

namespace Cert.KernelIdeal.R1

open Cert.KernelIdeal.Gen Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

theorem hz : (![0, 0] : Fin 2 → Nat) = fun _ => 0 := funext fun a => by fin_cases a <;> rfl

/-- Row `r` of the parameter block, as the body loads it. -/
abbrev prow (x0 : Vec F S8x512 .f32) (r : ℕ) (inb : ∀ a : Fin 2, (![r, 0] : Fin 2 → ℕ) a + S1x512.size a ≤ S8x512.size a) : Vec F S1x512 .f32 :=
  shapeCast S1x512 (View.ld x0 (Rect.unit (s := S8x512) ![r, 0] S1x512.size inb)) shapeCasts_S1x512_S1x512

/-- The quadratic form of every pixel of the tile and every Gaussian of the chunk. -/
def quadB (i : grid1.Coords) (x0 : Vec F S8x512 .f32) : FVec F S1024x512 .f32 :=
  k1_pay13 (prow x0 0 inb_S8x512_S1x512_0_0) (prow x0 1 inb_S8x512_S1x512_1_0) (prow x0 2 inb_S8x512_S1x512_2_0)
    (prow x0 3 inb_S8x512_S1x512_3_0) (prow x0 4 inb_S8x512_S1x512_4_0) (k1_pay11 i) (k1_pay12 i)

/-- The opacities, and the running products along the chunk of what each Gaussian lets through. -/
def alphaB (i : grid1.Coords) (x0 : Vec F S8x512 .f32) : FVec F S1024x512 .f32 :=
  k1_pay15 (prow x0 5 inb_S8x512_S1x512_5_0) (quadB i x0) k1_pay14
def scanB (i : grid1.Coords) (x0 : Vec F S8x512 .f32) : FVec F S1024x512 .f32 :=
  k1_pay16 (prow x0 5 inb_S8x512_S1x512_5_0) (quadB i x0) k1_pay14

section
variable (c : Dev nD) (i : grid1.Coords) (a2 : Memref sig .tc .vmem S8x512 .f32) (h2 : a2.IsWhole) (a3 : Memref sig .tc .vmem S512x8 .f32) (h3 : a3.IsWhole)
  (a4 : Memref sig .tc .vmem S1024x8 .f32) (h4 : a4.IsWhole) (a5 : Memref sig .tc .vmem S1024x1 .f32) (h5 : a5.IsWhole)
  (x0 : Vec F S8x512 .f32) (x1 : Vec F S512x8 .f32) (xo : Vec F S1024x8 .f32) (xs : Vec F S1024x1 .f32)

theorem out_B (hc : ¬cond0_0 i) : out0_B_2 c i a2 h2 a3 h3 a4 h4 a5 h5 hc x0 x1 xo xs = k1_pay1 (alphaB i x0) (scanB i x0) k1_pay17 xs xo x1 := by
  unfold out0_B_2
  rw [View.read_writes_eq_canon _ _ _ (cover0_B_2 c i a2 h2 a3 h3 a4 h4 a5 h5 hc x0 x1 xo xs)]
  unfold kernelRun0_B
  dsimp only
  sl_unfold_words
  rw [View.canon_unit_zero hz]
  unfold alphaB scanB quadB prow
  simp only [View.readAt_eq_ld, h2.read_unread, h3.read_unread, h4.read_unread, h5.read_unread, View.ld_unit_zero (S := S1024x8) hz,
    View.ld_unit_zero (S := S512x8) hz, View.ld_unit_zero (S := S1024x1) hz, k1_pay5, k1_pay6, k1_pay7, k1_pay8, k1_pay9, k1_pay10]

theorem sout_B (hc : ¬cond0_0 i) : sout0_B_0 c i a2 h2 a3 h3 a4 h4 a5 h5 hc x0 x1 xo xs = k1_pay2 (scanB i x0) xs := by
  unfold sout0_B_0
  rw [View.read_writes_eq_canon _ _ _ (scover0_B_0 c i a2 h2 a3 h3 a4 h4 a5 h5 hc x0 x1 xo xs)]
  unfold kernelRun0_B
  dsimp only
  sl_unfold_words
  rw [View.canon_unit_zero hz]
  unfold scanB quadB prow
  simp only [View.readAt_eq_ld, h2.read_unread, h3.read_unread, h4.read_unread, h5.read_unread, View.ld_unit_zero (S := S1024x8) hz,
    View.ld_unit_zero (S := S512x8) hz, View.ld_unit_zero (S := S1024x1) hz, k1_pay5, k1_pay6, k1_pay7, k1_pay8, k1_pay9, k1_pay10]

theorem out_A (hc : cond0_0 i) : out0_A_2 c i a2 h2 a3 h3 a4 h4 a5 h5 hc x0 x1 = k1_pay1 (alphaB i x0) (scanB i x0) k1_pay17 k1_pay3 k1_pay4 x1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1024x8) hz, View.readCov_unit_zero (S := S1024x8) _ hz, View.readCov_unit_zero (S := S1024x1) _ hz]
  unfold alphaB scanB quadB prow
  simp only [View.readAt_eq_ld, h2.read_unread, h3.read_unread, View.ld_unit_zero (S := S1024x8) hz,
    View.ld_unit_zero (S := S512x8) hz, View.ld_unit_zero (S := S1024x1) hz, k1_pay5, k1_pay6, k1_pay7, k1_pay8, k1_pay9, k1_pay10]

theorem sout_A (hc : cond0_0 i) : sout0_A_0 c i a2 h2 a3 h3 a4 h4 a5 h5 hc x0 x1 = k1_pay2 (scanB i x0) k1_pay3 := by
  unfold sout0_A_0
  rw [View.read_writes_eq_canon _ _ _ (scover0_A_0 c i a2 h2 a3 h3 a4 h4 a5 h5 hc x0 x1)]
  unfold kernelRun0_A
  dsimp only
  sl_unfold_words
  rw [View.canon_cons_unit_zero (S := S1024x1) hz, View.readCov_unit_zero (S := S1024x1) _ hz]
  unfold scanB quadB prow
  simp only [View.readAt_eq_ld, h2.read_unread, h3.read_unread, View.ld_unit_zero (S := S1024x8) hz,
    View.ld_unit_zero (S := S512x8) hz, View.ld_unit_zero (S := S1024x1) hz, k1_pay5, k1_pay6, k1_pay7, k1_pay8, k1_pay9, k1_pay10]
end

end Cert.KernelIdeal.R1

end
-- ==== Proof.KIR1Math.lean ====
/- The splat call's block terms at an index, over the extended reals. -/
module

public import proofs.«01_k».proof.Proof.KIR1Val
public import proofs.«01_k».proof.Proof.Scene
public import Idealize.ShloMosaic.Lib.Pointwise

@[expose] public section

set_option maxRecDepth 16384

noncomputable section

namespace Cert.KernelIdeal.R1

open Cert.KernelIdeal.Gen Cert.KernelIdeal Cert.Scene
open Idealize.ShloMosaic Idealize.ShloMosaic.TcCoe Idealize.SL.Sem

theorem prow_apply (x0 : Vec Ideal S8x512 .f32) (r : Fin 8) (inb) (k : Fin 512) :
    prow x0 r.val inb (ix2 (0 : Fin 1) k) = x0 (ix2 r k) := by
  refine (congrFun (shapeCast_self (s := S1x512) (View.ld x0 (Rect.unit (s := S8x512) ![r.val, 0] S1x512.size inb)) _) _).trans ?_
  show x0 _ = x0 _
  congr 1
  funext a
  fin_cases a <;> apply Fin.ext <;> simp

/-- The pixel's number, as the body counts it. -/
theorem pay11_apply (i : grid1.Coords) (p : Fin 1024) : k1_pay11 i (ix2 p (0 : Fin 1)) = BitVec.ofNat 32 ((i 0).val * 1024 + p.val) := by
  pointwise [k1_pay11]
  simp only [Scalar.muli, IntOp.addi, IntOp.muli, BitVec.ofNat_add, BitVec.ofNat_mul]
  try rfl

theorem col_word : ∀ n : Fin 4096, (Scalar.select
        (IntOp.andi
          (IntOp.xori (IntOp.cmpi CmpIPredicate.slt (IntOp.remsi ArithUnit.vector (BitVec.ofNat 32 n.val) (Scalar.select (Scalar.cmpi .eq 64#32 0#32) 1#32 64#32)) 0#32)
            (Scalar.cmpi .slt (Scalar.select (Scalar.cmpi .eq 64#32 0#32) 1#32 64#32) 0#32))
          (IntOp.cmpi CmpIPredicate.ne (IntOp.remsi ArithUnit.vector (BitVec.ofNat 32 n.val) (Scalar.select (Scalar.cmpi .eq 64#32 0#32) 1#32 64#32)) 0#32))
        (IntOp.addi (IntOp.remsi ArithUnit.vector (BitVec.ofNat 32 n.val) (Scalar.select (Scalar.cmpi .eq 64#32 0#32) 1#32 64#32)) (Scalar.select (Scalar.cmpi .eq 64#32 0#32) 1#32 64#32))
        (IntOp.remsi ArithUnit.vector (BitVec.ofNat 32 n.val) (Scalar.select (Scalar.cmpi .eq 64#32 0#32) 1#32 64#32))) = BitVec.ofNat 32 (n.val % 64) := by
  decide +kernel

theorem row_word : ∀ n : Fin 4096, (Scalar.select
        (IntOp.andi
          (IntOp.cmpi CmpIPredicate.ne
            (IntOp.subi
              (BitVec.setWidth 32 (IntOp.cmpi CmpIPredicate.sgt (BitVec.ofNat 32 n.val) 0#32))
              (BitVec.setWidth 32 (IntOp.cmpi CmpIPredicate.slt (BitVec.ofNat 32 n.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 n.val) 64#32) 0#32))
        (IntOp.subi (IntOp.divsi ArithUnit.vector (BitVec.ofNat 32 n.val) 64#32) 1#32)
        (IntOp.divsi ArithUnit.vector (BitVec.ofNat 32 n.val) 64#32)) = BitVec.ofNat 32 (n.val / 64) := by
  decide +kernel

/-- A small word read as a signed number. -/
theorem sitofp_small (n : ℕ) (h : n < 4096) : (FloatOps.sitofp (F := Ideal) FTy.f32 (BitVec.ofNat 32 n) : EReal) = ((n : ℝ) : EReal) := by
  show (((BitVec.ofNat 32 n).toInt : ℝ) : EReal) = _
  rw [show (BitVec.ofNat 32 n).toInt = (n : ℤ) from by
    rw [BitVec.toInt_eq_toNat_of_lt (by rw [BitVec.toNat_ofNat]; omega), BitVec.toNat_ofNat]; omega]
  norm_cast

theorem pay12_apply (i : grid1.Coords) (p : Fin 1024) :
    k1_pay12 (F := Ideal) i (ix2 p (0 : Fin 1)) = ((((i 0).val * 1024 + p.val) % 64 : ℕ) : ℝ) := by
  have hi : (i 0).val < 4 := (i 0).isLt
  have hn : (i 0).val * 1024 + p.val < 4096 := by have := p.isLt; omega
  pointwise [k1_pay12]
  simp only [pay11_apply]
  refine (congrArg (FloatOps.sitofp (F := Ideal) FTy.f32) (col_word ⟨_, hn⟩)).trans ?_
  exact sitofp_small _ (by show _ % 64 < _; omega)

theorem pay13_apply (v4 v6 v8 v10 v12 : FVec Ideal S1x512 .f32) (v18 : IVec S1024x1 32) (v35 : FVec Ideal S1024x1 .f32) (p : Fin 1024) (k : Fin 512)
    (n : ℕ) (hn : n < 4096) (h18 : v18 (ix2 p (0 : Fin 1)) = BitVec.ofNat 32 n) (h35 : v35 (ix2 p (0 : Fin 1)) = (((n % 64 : ℕ) : ℝ) : EReal)) :
    k1_pay13 v4 v6 v8 v10 v12 v18 v35 (ix2 p k) = quad (v8 (ix2 0 k)) (v10 (ix2 0 k)) (v12 (ix2 0 k)) (pixX n - v4 (ix2 0 k)) (pixY n - v6 (ix2 0 k)) := by
  have hr := congrArg (FloatOps.sitofp (F := Ideal) FTy.f32) (row_word ⟨n, hn⟩)
  rw [sitofp_small _ (by show n / 64 < _; omega)] at hr
  pointwise [k1_pay13]
  simp only [h18, h35]
  dsimp only at hr
  rw [hr]
  rfl

theorem alphaB_apply (i : grid1.Coords) (x0 : Vec Ideal S8x512 .f32) (p : Fin 1024) (k : Fin 512) :
    alphaB i x0 (ix2 p k) = alpha (x0 (ix2 0 k)) (x0 (ix2 1 k)) (x0 (ix2 2 k)) (x0 (ix2 3 k)) (x0 (ix2 4 k)) (x0 (ix2 5 k)) ((i 0).val * 1024 + p.val) := by
  have hi : (i 0).val < 4 := (i 0).isLt
  have hn : (i 0).val * 1024 + p.val < 4096 := by have := p.isLt; omega
  unfold alphaB
  pointwise [k1_pay15, k1_pay14]
  unfold quadB
  rw [pay13_apply _ _ _ _ _ _ _ p k _ hn (pay11_apply i p) (pay12_apply i p),
    show prow x0 0 inb_S8x512_S1x512_0_0 (ix2 (0 : Fin 1) k) = x0 (ix2 (0 : Fin 8) k) from prow_apply x0 0 _ k,
    show prow x0 1 inb_S8x512_S1x512_1_0 (ix2 (0 : Fin 1) k) = x0 (ix2 (1 : Fin 8) k) from prow_apply x0 1 _ k,
    show prow x0 2 inb_S8x512_S1x512_2_0 (ix2 (0 : Fin 1) k) = x0 (ix2 (2 : Fin 8) k) from prow_apply x0 2 _ k,
    show prow x0 3 inb_S8x512_S1x512_3_0 (ix2 (0 : Fin 1) k) = x0 (ix2 (3 : Fin 8) k) from prow_apply x0 3 _ k,
    show prow x0 4 inb_S8x512_S1x512_4_0 (ix2 (0 : Fin 1) k) = x0 (ix2 (4 : Fin 8) k) from prow_apply x0 4 _ k]
  rfl

/-- The factor a doubling step multiplies by. -/
def lag (s : ℕ) (c : ℕ → EReal) (k : ℕ) : EReal := if k < s then 1 else c (k - s)

/-- A window product, doubled. -/
theorem lag_step (u c : ℕ → EReal) (s : ℕ) (hc : ∀ k, c k = ∏ j ∈ Finset.Ico (k + 1 - s) (k + 1), u j) (hs : 0 < s) (k : ℕ) :
    c k * lag s c k = ∏ j ∈ Finset.Ico (k + 1 - 2 * s) (k + 1), u j := by
  unfold lag
  split_ifs with h
  · rw [hc, mul_one, show k + 1 - 2 * s = 0 by omega, show k + 1 - s = 0 by omega]
  · rw [hc, hc, mul_comm, show k - s + 1 - s = k + 1 - 2 * s by omega, show k - s + 1 = k + 1 - s by omega,
      Finset.prod_Ico_consecutive _ (by omega) (by omega)]

/-- A row of a block as a function of the column's number, one beyond its end. -/
def rowF (v : FVec Ideal S1024x512 .f32) (p : Fin 1024) (k : ℕ) : EReal := if h : k < 512 then v (ix2 p ⟨k, h⟩) else 1

end Cert.KernelIdeal.R1
end
-- ==== Proof.KIR1Scan.lean ====
/- The splat call's running products along a chunk, and its two stores, at an index, over the extended reals. -/
module

public import proofs.«01_k».proof.Proof.KIR1Math

@[expose] public section

set_option maxRecDepth 16384

noncomputable section

namespace Cert.KernelIdeal.R1

open Cert.KernelIdeal.Gen Cert.KernelIdeal Cert.Scene
open Idealize.ShloMosaic Idealize.ShloMosaic.TcCoe Idealize.SL.Sem

/-- Row `p` of `v` holds the products of `u` over windows of length `s`. -/
def Win (u : ℕ → EReal) (s : ℕ) (v : FVec Ideal S1024x512 .f32) (p : Fin 1024) : Prop :=
  ∀ k : Fin 512, v (ix2 p k) = ∏ j ∈ Finset.Ico (k.val + 1 - s) (k.val + 1), u j

/-- A doubling step doubles the windows. -/
theorem Win.step {u : ℕ → EReal} {s : ℕ} {v w : FVec Ideal S1024x512 .f32} {p : Fin 1024} (hv : Win u s v p) (hs : 0 < s)
    (hw : ∀ k : Fin 512, w (ix2 p k) = v (ix2 p k) * (if h : k.val < s then 1 else v (ix2 p ⟨k.val - s, by omega⟩))) : Win u (2 * s) w p := by
  intro k
  rw [hw, hv k]
  split_ifs with h
  · rw [mul_one, show k.val + 1 - 2 * s = k.val + 1 - s by omega]
  · rw [hv, mul_comm]
    dsimp only
    rw [show k.val - s + 1 - s = k.val + 1 - 2 * s by omega, show k.val - s + 1 = k.val + 1 - s by omega,
      Finset.prod_Ico_consecutive _ (by omega) (by omega)]

def st1 (v : FVec Ideal S1024x512 .f32) : FVec Ideal S1024x512 .f32 :=
  mulf v (concatenate S1024x512 1 [⟨S1024x1, broadcast S1024x1 (Scalar.ofBits .f32 0x3F800000#32 : Ideal .f32)⟩,
    ⟨S1024x511, extractStridedSlice S1024x511 ![0, 0] v slices_S1024x512_o0_0_S1024x511⟩] concatenates_S1024x1_S1024x511_S1024x512_d1)
theorem Win.st1 {u : ℕ → EReal} {v : FVec Ideal S1024x512 .f32} {p : Fin 1024} (hv : Win u 1 v p) : Win u 2 (st1 v) p :=
  hv.step (by norm_num) fun k => by
    pointwise [R1.st1]

def st2 (v : FVec Ideal S1024x512 .f32) : FVec Ideal S1024x512 .f32 :=
  mulf v (concatenate S1024x512 1 [⟨S1024x2, broadcast S1024x2 (Scalar.ofBits .f32 0x3F800000#32 : Ideal .f32)⟩,
    ⟨S1024x510, extractStridedSlice S1024x510 ![0, 0] v slices_S1024x512_o0_0_S1024x510⟩] concatenates_S1024x2_S1024x510_S1024x512_d1)
theorem Win.st2 {u : ℕ → EReal} {v : FVec Ideal S1024x512 .f32} {p : Fin 1024} (hv : Win u 2 v p) : Win u 4 (st2 v) p :=
  hv.step (by norm_num) fun k => by
    pointwise [R1.st2]

def st4 (v : FVec Ideal S1024x512 .f32) : FVec Ideal S1024x512 .f32 :=
  mulf v (concatenate S1024x512 1 [⟨S1024x4, broadcast S1024x4 (Scalar.ofBits .f32 0x3F800000#32 : Ideal .f32)⟩,
    ⟨S1024x508, extractStridedSlice S1024x508 ![0, 0] v slices_S1024x512_o0_0_S1024x508⟩] concatenates_S1024x4_S1024x508_S1024x512_d1)
theorem Win.st4 {u : ℕ → EReal} {v : FVec Ideal S1024x512 .f32} {p : Fin 1024} (hv : Win u 4 v p) : Win u 8 (st4 v) p :=
  hv.step (by norm_num) fun k => by
    pointwise [R1.st4]

def st8 (v : FVec Ideal S1024x512 .f32) : FVec Ideal S1024x512 .f32 :=
  mulf v (concatenate S1024x512 1 [⟨S1024x8, broadcast S1024x8 (Scalar.ofBits .f32 0x3F800000#32 : Ideal .f32)⟩,
    ⟨S1024x504, extractStridedSlice S1024x504 ![0, 0] v slices_S1024x512_o0_0_S1024x504⟩] concatenates_S1024x8_S1024x504_S1024x512_d1)
theorem Win.st8 {u : ℕ → EReal} {v : FVec Ideal S1024x512 .f32} {p : Fin 1024} (hv : Win u 8 v p) : Win u 16 (st8 v) p :=
  hv.step (by norm_num) fun k => by
    pointwise [R1.st8]

def st16 (v : FVec Ideal S1024x512 .f32) : FVec Ideal S1024x512 .f32 :=
  mulf v (concatenate S1024x512 1 [⟨S1024x16, broadcast S1024x16 (Scalar.ofBits .f32 0x3F800000#32 : Ideal .f32)⟩,
    ⟨S1024x496, extractStridedSlice S1024x496 ![0, 0] v slices_S1024x512_o0_0_S1024x496⟩] concatenates_S1024x16_S1024x496_S1024x512_d1)
theorem Win.st16 {u : ℕ → EReal} {v : FVec Ideal S1024x512 .f32} {p : Fin 1024} (hv : Win u 16 v p) : Win u 32 (st16 v) p :=
  hv.step (by norm_num) fun k => by
    pointwise [R1.st16]

def st32 (v : FVec Ideal S1024x512 .f32) : FVec Ideal S1024x512 .f32 :=
  mulf v (concatenate S1024x512 1 [⟨S1024x32, broadcast S1024x32 (Scalar.ofBits .f32 0x3F800000#32 : Ideal .f32)⟩,
    ⟨S1024x480, extractStridedSlice S1024x480 ![0, 0] v slices_S1024x512_o0_0_S1024x480⟩] concatenates_S1024x32_S1024x480_S1024x512_d1)
theorem Win.st32 {u : ℕ → EReal} {v : FVec Ideal S1024x512 .f32} {p : Fin 1024} (hv : Win u 32 v p) : Win u 64 (st32 v) p :=
  hv.step (by norm_num) fun k => by
    pointwise [R1.st32]

def st64 (v : FVec Ideal S1024x512 .f32) : FVec Ideal S1024x512 .f32 :=
  mulf v (concatenate S1024x512 1 [⟨S1024x64, broadcast S1024x64 (Scalar.ofBits .f32 0x3F800000#32 : Ideal .f32)⟩,
    ⟨S1024x448, extractStridedSlice S1024x448 ![0, 0] v slices_S1024x512_o0_0_S1024x448⟩] concatenates_S1024x64_S1024x448_S1024x512_d1)
theorem Win.st64 {u : ℕ → EReal} {v : FVec Ideal S1024x512 .f32} {p : Fin 1024} (hv : Win u 64 v p) : Win u 128 (st64 v) p :=
  hv.step (by norm_num) fun k => by
    pointwise [R1.st64]

def st128 (v : FVec Ideal S1024x512 .f32) : FVec Ideal S1024x512 .f32 :=
  mulf v (concatenate S1024x512 1 [⟨S1024x128, broadcast S1024x128 (Scalar.ofBits .f32 0x3F800000#32 : Ideal .f32)⟩,
    ⟨S1024x384, extractStridedSlice S1024x384 ![0, 0] v slices_S1024x512_o0_0_S1024x384⟩] concatenates_S1024x128_S1024x384_S1024x512_d1)
theorem Win.st128 {u : ℕ → EReal} {v : FVec Ideal S1024x512 .f32} {p : Fin 1024} (hv : Win u 128 v p) : Win u 256 (st128 v) p :=
  hv.step (by norm_num) fun k => by
    pointwise [R1.st128]

def st256 (v : FVec Ideal S1024x512 .f32) : FVec Ideal S1024x512 .f32 :=
  mulf v (concatenate S1024x512 1 [⟨S1024x256, broadcast S1024x256 (Scalar.ofBits .f32 0x3F800000#32 : Ideal .f32)⟩,
    ⟨S1024x256, extractStridedSlice S1024x256 ![0, 0] v slices_S1024x512_o0_0_S1024x256⟩] concatenates_S1024x256_S1024x256_S1024x512_d1)
theorem Win.st256 {u : ℕ → EReal} {v : FVec Ideal S1024x512 .f32} {p : Fin 1024} (hv : Win u 256 v p) : Win u 512 (st256 v) p :=
  hv.step (by norm_num) fun k => by
    pointwise [R1.st256]

/-- What the chunk's Gaussians let through. -/
def thruB (i : grid1.Coords) (x0 : Vec Ideal S8x512 .f32) : FVec Ideal S1024x512 .f32 :=
  addf (subf (broadcast S1024x512 (Scalar.ofBits .f32 0x3F800000#32 : Ideal .f32)) (alphaB i x0)) (broadcast S1024x512 (Scalar.ofBits .f32 0x2EDBE6FF#32 : Ideal .f32))

theorem scanB_eq (i : grid1.Coords) (x0 : Vec Ideal S8x512 .f32) :
    scanB i x0 = st256 (st128 (st64 (st32 (st16 (st8 (st4 (st2 (st1 (thruB i x0))))))))) := rfl

theorem scanB_apply (i : grid1.Coords) (x0 : Vec Ideal S8x512 .f32) (p : Fin 1024) (u : ℕ → EReal)
    (hu : ∀ k : Fin 512, thru (alphaB i x0 (ix2 p k)) = u k.val) (k : Fin 512) :
    scanB i x0 (ix2 p k) = ∏ j ∈ Finset.range (k.val + 1), u j := by
  have h1 : Win u 1 (thruB i x0) p := fun k => by
    rw [show k.val + 1 - 1 = k.val by omega, Nat.Ico_succ_singleton, Finset.prod_singleton, ← hu k]
    rfl
  rw [scanB_eq, h1.st1.st2.st4.st8.st16.st32.st64.st128.st256 k, show k.val + 1 - 512 = 0 by omega, Finset.range_eq_Ico]

theorem pay1_apply (al sc : FVec Ideal S1024x512 .f32) (xs : Vec Ideal S1024x1 .f32) (xo : Vec Ideal S1024x8 .f32) (x1 : Vec Ideal S512x8 .f32)
    (p : Fin 1024) (q : Fin 8) :
    k1_pay1 al sc k1_pay17 xs xo x1 (ix2 p q)
      = xo (ix2 p q) + ∑ k : Fin 512, xs (ix2 p (0 : Fin 1)) * (if h : k.val < 1 then 1 else sc (ix2 p ⟨k.val - 1, by omega⟩)) * al (ix2 p k) * x1 (ix2 k q) := by
  pointwise [k1_pay1, k1_pay17]

theorem pay2_apply (sc : FVec Ideal S1024x512 .f32) (xs : Vec Ideal S1024x1 .f32) (p : Fin 1024) :
    k1_pay2 sc xs (ix2 p (0 : Fin 1)) = xs (ix2 p (0 : Fin 1)) * sc (ix2 p (511 : Fin 512)) := by
  pointwise [k1_pay2]

theorem pay3_apply (p : Fin 1024) : k1_pay3 (F := Ideal) (ix2 p (0 : Fin 1)) = 1 := by
  pointwise [k1_pay3]

theorem pay4_apply (p : Fin 1024) (q : Fin 8) : k1_pay4 (F := Ideal) (ix2 p q) = 0 := by
  pointwise [k1_pay4]

end Cert.KernelIdeal.R1

end
-- ==== Proof.KIR1Sum.lean ====
/- What the splat call leaves in its carry and its output block, point by point, over the extended reals. -/
module

public import proofs.«01_k».proof.Proof.KIR1Scan

@[expose] public section

set_option maxRecDepth 16384

noncomputable section

namespace Cert.KernelIdeal.R1

open Cert.KernelIdeal.Gen Cert.KernelIdeal Cert.Scene
open Idealize.ShloMosaic Idealize.ShloMosaic.TcCoe Idealize.SL.Sem

variable (V : (c : Dev nD) → (b : Ref sig .tc) → Buf (Elt Ideal) ((c : Thread nD τ).loc b)) (c : Dev nD)

/-- The sorted Gaussians and their colours, the call's two operands. -/
abbrev gArr : Vec Ideal S8x4096 .f32 := V c (Pipeline.arrRef spec1 0)
abbrev rArr : Vec Ideal S4096x8 .f32 := V c (Pipeline.arrRef spec1 1)

/-- The opacity of Gaussian `s` at pixel `n`, and its brightness in colour `q`. -/
def aF (n : ℕ) (s : ℕ) : EReal :=
  if h : s < 4096 then
    alpha (gArr V c (ix2 0 ⟨s, h⟩)) (gArr V c (ix2 1 ⟨s, h⟩)) (gArr V c (ix2 2 ⟨s, h⟩)) (gArr V c (ix2 3 ⟨s, h⟩)) (gArr V c (ix2 4 ⟨s, h⟩)) (gArr V c (ix2 5 ⟨s, h⟩)) n
  else 0
def rF (q : Fin 8) (s : ℕ) : EReal := if h : s < 4096 then rArr V c (ix2 ⟨s, h⟩ q) else 0

theorem idx_in : ∀ t : Fin cfg1.N, win1_0.index t (0 : Fin 2) = 0 ∧ win1_0.index t (1 : Fin 2) = t.val % 8
    ∧ win1_1.index t (0 : Fin 2) = t.val % 8 ∧ win1_1.index t (1 : Fin 2) = 0 ∧ (grid1.coords t 0).val = t.val / 8 :=
  (by decide +kernel : ∀ t : Fin grid1.N, _)

theorem iblk0_apply (t : Fin cfg1.N) (r : Fin 8) (k : Fin 512) (h : 512 * (t.val % 8) + k.val < 4096) :
    (iblk V c 0 t : Vec Ideal S8x512 .f32) (ix2 r k) = gArr V c (ix2 r ⟨512 * (t.val % 8) + k.val, h⟩) := by
  obtain ⟨e0, e1, -, -, -⟩ := idx_in t
  show V c _ _ = V c _ _
  congr 1
  funext a; apply Fin.ext
  match a with
  | ⟨0, _⟩ => show win1_0.index t (0 : Fin 2) * 8 + 1 * r.val = r.val; rw [e0]; omega
  | ⟨1, _⟩ => show win1_0.index t (1 : Fin 2) * 512 + 1 * k.val = 512 * (t.val % 8) + k.val; rw [e1]; omega

theorem iblk1_apply (t : Fin cfg1.N) (q : Fin 8) (k : Fin 512) (h : 512 * (t.val % 8) + k.val < 4096) :
    (iblk V c 1 t : Vec Ideal S512x8 .f32) (ix2 k q) = rArr V c (ix2 ⟨512 * (t.val % 8) + k.val, h⟩ q) := by
  obtain ⟨-, -, e0, e1, -⟩ := idx_in t
  show V c _ _ = V c _ _
  congr 1
  funext a; apply Fin.ext
  match a with
  | ⟨0, _⟩ => show win1_1.index t (0 : Fin 2) * 512 + 1 * k.val = 512 * (t.val % 8) + k.val; rw [e0]; omega
  | ⟨1, _⟩ => show win1_1.index t (1 : Fin 2) * 8 + 1 * q.val = q.val; rw [e1]; omega

/-- A chunk's opacities and running products. -/
theorem alphaB_pt (t : Fin cfg1.N) (p : Fin 1024) (k : Fin 512) :
    alphaB (grid1.coords t) (iblk V c 0 t) (ix2 p k) = aF V c (t.val / 8 * 1024 + p.val) (512 * (t.val % 8) + k.val) := by
  have h : 512 * (t.val % 8) + k.val < 4096 := by omega
  rw [alphaB_apply, (idx_in t).2.2.2.2]
  unfold aF
  rw [dif_pos h]
  simp only [iblk0_apply V c t _ k h]

theorem scanB_pt (t : Fin cfg1.N) (p : Fin 1024) (k : Fin 512) :
    scanB (grid1.coords t) (iblk V c 0 t) (ix2 p k)
      = ∏ j ∈ Finset.range (k.val + 1), thru (aF V c (t.val / 8 * 1024 + p.val) (512 * (t.val % 8) + j)) :=
  scanB_apply _ _ p (fun j => thru (aF V c (t.val / 8 * 1024 + p.val) (512 * (t.val % 8) + j))) (fun k => by rw [alphaB_pt]) k

/-- One point's step of the pair: from what is left and lit before the chunk to what is after it. -/
theorem carry_pt (t : Fin cfg1.N) (p : Fin 1024) (xs : Vec Ideal S1024x1 .f32)
    (hxs : xs (ix2 p (0 : Fin 1)) = left (aF V c (t.val / 8 * 1024 + p.val)) (512 * (t.val % 8))) :
    k1_pay2 (scanB (grid1.coords t) (iblk V c 0 t)) xs (ix2 p (0 : Fin 1)) = left (aF V c (t.val / 8 * 1024 + p.val)) (512 * (t.val % 8 + 1)) := by
  rw [pay2_apply, hxs, scanB_pt, show 512 * (t.val % 8 + 1) = 512 * (t.val % 8) + 512 by omega, left_add]
  rfl

theorem out_pt (t : Fin cfg1.N) (p : Fin 1024) (q : Fin 8) (xs : Vec Ideal S1024x1 .f32) (xo : Vec Ideal S1024x8 .f32)
    (hxs : xs (ix2 p (0 : Fin 1)) = left (aF V c (t.val / 8 * 1024 + p.val)) (512 * (t.val % 8)))
    (hxo : xo (ix2 p q) = lit (aF V c (t.val / 8 * 1024 + p.val)) (rF V c q) (512 * (t.val % 8))) :
    k1_pay1 (alphaB (grid1.coords t) (iblk V c 0 t)) (scanB (grid1.coords t) (iblk V c 0 t)) k1_pay17 xs xo (iblk V c 1 t) (ix2 p q)
      = lit (aF V c (t.val / 8 * 1024 + p.val)) (rF V c q) (512 * (t.val % 8 + 1)) := by
  rw [pay1_apply, hxo, hxs, show 512 * (t.val % 8 + 1) = 512 * (t.val % 8) + 512 by omega, lit_add]
  congr 1
  rw [Finset.sum_range]
  refine Finset.sum_congr rfl fun k _ => ?_
  have h : 512 * (t.val % 8) + k.val < 4096 := by omega
  rw [alphaB_pt, iblk1_apply V c t q k h, left_add]
  congr 1
  · congr 2
    split_ifs with hk
    · rw [show k.val = 0 by omega, Finset.range_zero, Finset.prod_empty]
    · rw [scanB_pt]; dsimp only; rw [show k.val - 1 + 1 = k.val by omega]
  · unfold rF; rw [dif_pos h]

/-- After point `t` of tile `t / 8`. -/
theorem outsAt0_apply (n : ℕ) : ∀ hn : n < cfg1.N, ∀ (p : Fin 1024),
    (outsAt0 V c n hn).2 (ix2 p (0 : Fin 1)) = left (aF V c (n / 8 * 1024 + p.val)) (512 * (n % 8 + 1))
    ∧ ∀ q : Fin 8, (outsAt0 V c n hn).1 (ix2 p q) = lit (aF V c (n / 8 * 1024 + p.val)) (rF V c q) (512 * (n % 8 + 1)) := by
  induction n with
  | zero =>
    intro hn p
    have e := outsAt0_A V c ⟨0, hn⟩ rfl
    dsimp only at e
    rw [e, out_A, sout_A]
    have hc : k1_pay3 (F := Ideal) (ix2 p (0 : Fin 1)) = left (aF V c (0 / 8 * 1024 + p.val)) (512 * (0 % 8)) := by
      rw [pay3_apply]; rfl
    exact ⟨carry_pt V c ⟨0, hn⟩ p _ hc, fun q => out_pt V c ⟨0, hn⟩ p q _ _ hc (by rw [pay4_apply]; rfl)⟩
  | succ n ih =>
    intro hn p
    by_cases h0 : (n + 1) % 8 = 0
    · have e := outsAt0_A V c ⟨n + 1, hn⟩ h0
      dsimp only at e
      rw [e, out_A, sout_A]
      have hc : k1_pay3 (F := Ideal) (ix2 p (0 : Fin 1)) = left (aF V c ((n + 1) / 8 * 1024 + p.val)) (512 * ((n + 1) % 8)) := by
        rw [pay3_apply, h0]; rfl
      exact ⟨carry_pt V c ⟨n + 1, hn⟩ p _ hc, fun q => out_pt V c ⟨n + 1, hn⟩ p q _ _ hc (by dsimp only; rw [pay4_apply, h0]; rfl)⟩
    · have e := outsAt0_B V c ⟨n + 1, hn⟩ h0
      obtain ⟨i1, i2⟩ := ih (by omega) p
      rw [show n / 8 = (n + 1) / 8 by omega, show n % 8 + 1 = (n + 1) % 8 by omega] at i1 i2
      dsimp only [Nat.add_sub_cancel] at e
      rw [e, out_B, sout_B]
      exact ⟨carry_pt V c ⟨n + 1, hn⟩ p _ i1, fun q => out_pt V c ⟨n + 1, hn⟩ p q _ _ i1 (i2 q)⟩

/-- The array the call leaves. -/
def img (i : S4096x8.Idx) : EReal := lit (aF V c (i 0).val) (rF V c (i 1)) 4096

theorem idx_out : ∀ t : Fin cfg1.N, win1_2.index t (0 : Fin 2) = t.val / 8 ∧ win1_2.index t (1 : Fin 2) = 0 :=
  (by decide +kernel : ∀ t : Fin grid1.N, _)

theorem flushed_eq (t : Fin cfg1.N) (hf : (cfg1.win 2).flush t = true) :
    (dats V 0 c).flushed 2 t = ((cfg1.win 2).blk t).view.read (Elt Ideal) (img V c : Vec Ideal S4096x8 .f32) := by
  show (cfg1.win 2).cut (grid1.coords t) ((dats V 0 c).after 2 t) = _
  rw [after0_2]
  have hm : t.val % 8 = 7 := (flush1_2 t).mp hf
  obtain ⟨e0, e1⟩ := idx_out t
  funext y
  have hy0 : (y 0).val < 1024 := (y 0).isLt
  have hy1 : (y 1).val < 8 := (y 1).isLt
  have hb0 : (((cfg1.win 2).blk t).view.emb y 0).val = win1_2.index t (0 : Fin 2) * 1024 + 1 * (y 0).val := rfl
  have hb1 : (((cfg1.win 2).blk t).view.emb y 1).val = win1_2.index t (1 : Fin 2) * 8 + 1 * (y 1).val := rfl
  have h := (outsAt0_apply V c t.val t.isLt ⟨(y 0).val, hy0⟩).2 ⟨(y 1).val, hy1⟩
  refine Eq.trans (Eq.trans (congrArg (outsAt0 V c t.val t.isLt).1 ?_) h) ?_
  · funext a; apply Fin.ext
    match a with
    | ⟨0, _⟩ => rfl
    | ⟨1, _⟩ => rfl
  · show _ = lit (aF V c (((cfg1.win 2).blk t).view.emb y 0).val) (rF V c (((cfg1.win 2).blk t).view.emb y 1)) 4096
    rw [hb0, e0, hm, one_mul, show (((cfg1.win 2).blk t).view.emb y 1) = (⟨(y 1).val, hy1⟩ : Fin 8) from Fin.ext (by rw [hb1, e1]; dsimp only; omega)]

theorem mem_blk (t : Fin cfg1.N) (i : S4096x8.Idx) :
    i ∈ ((cfg1.win 2).blk t).view.set ↔ ∀ a : Fin 2, win1_2.index t a * S1024x8.size a ≤ (i a).val ∧ (i a).val < win1_2.index t a * S1024x8.size a + S1024x8.size a := by
  show i ∈ ((View.whole main_v87).slice (win1_2.rect t)).set ↔ _
  rw [View.set_slice_whole, Rect.mem_set_unit]
  exact Iff.rfl

theorem final : (dats V 0 c).arrAt 2 cfg1.N = (img V c : Vec Ideal S4096x8 .f32) :=
  (dats V 0 c).arrAt_eq_of_cover 2 _ (fun t hf => flushed_eq V c t hf) (fun i => by
    have h0 : (i 0).val < 4096 := (i 0).isLt
    have h1 : (i 1).val < 8 := (i 1).isLt
    have hN : cfg1.N = 32 := N_1
    have hlt : 8 * ((i 0).val / 1024) + 7 < cfg1.N := by omega
    obtain ⟨e0, e1⟩ := idx_out ⟨8 * ((i 0).val / 1024) + 7, hlt⟩
    refine ⟨⟨8 * ((i 0).val / 1024) + 7, hlt⟩, (flush1_2 _).mpr (by dsimp only; omega), (mem_blk _ i).2 ?_⟩
    dsimp only at e0
    intro a
    match a with
    | ⟨0, _⟩ => show win1_2.index _ (0 : Fin 2) * 1024 ≤ (i 0).val ∧ (i 0).val < win1_2.index _ (0 : Fin 2) * 1024 + 1024; omega
    | ⟨1, _⟩ => show win1_2.index _ (1 : Fin 2) * 8 ≤ (i 1).val ∧ (i 1).val < win1_2.index _ (1 : Fin 2) * 8 + 8; omega)

end Cert.KernelIdeal.R1

end
-- ==== Proof.RefVal.lean ====
/- The reference's values for one Gaussian, read at its number. -/
module

public import proofs.«01_k».proof.Proof.Gen.ReferenceIdeal.Read
public import proofs.«01_k».proof.Proof.Scene

@[expose] public section

set_option maxRecDepth 1024

noncomputable section

namespace Cert.RefVal

open Idealize.ShloMosaic Cert.Scene
open Idealize.ShloMosaic.ValueIdx hiding ix0 ix1 ix2 ix3 ix4 ix5
open Cert.ReferenceIdeal Cert.ReferenceIdeal.Gen Cert.ReferenceIdeal.Read

variable (x0 x1 : Vec Ideal S4096x3 .f32) (x2 : Vec Ideal S4096 .f32) (x3 : Vec Ideal S4096x4 .f32) (x4 : Vec Ideal S4096x3 .f32)
  (x5 : Vec Ideal S4 .f32) (x6 : Vec Ideal S3 .f32) (n : Fin 4096)

theorem r67 : val_main_v67 (F := Ideal) x0 x5 x6 (ix1 n) = val_main_v65 (F := Ideal) x0 x5 x6 (ix2 n 0) := by
  rw [val_main_v67_apply, val_main_v66_apply]
  exact congrArg (val_main_v65 (F := Ideal) x0 x5 x6) (funext fun a => Fin.ext (match a with | ⟨0, _⟩ => Nat.div_one _ | ⟨1, _⟩ => rfl))
theorem r69 : val_main_v69 (F := Ideal) x0 x5 x6 (ix1 n) = val_main_v65 (F := Ideal) x0 x5 x6 (ix2 n 1) := by
  rw [val_main_v69_apply, val_main_v68_apply]
  exact congrArg (val_main_v65 (F := Ideal) x0 x5 x6) (funext fun a => Fin.ext (match a with | ⟨0, _⟩ => Nat.div_one _ | ⟨1, _⟩ => rfl))
theorem r71 : val_main_v71 (F := Ideal) x0 x5 x6 (ix1 n) = val_main_v65 (F := Ideal) x0 x5 x6 (ix2 n 2) := by
  rw [val_main_v71_apply, val_main_v70_apply]
  exact congrArg (val_main_v65 (F := Ideal) x0 x5 x6) (funext fun a => Fin.ext (match a with | ⟨0, _⟩ => Nat.div_one _ | ⟨1, _⟩ => rfl))
theorem r90 : val_main_v90 (F := Ideal) x3 (ix1 n) = val_main_v88 (F := Ideal) x3 (ix2 n 0) := by
  rw [val_main_v90_apply, val_main_v89_apply]
  exact congrArg (val_main_v88 (F := Ideal) x3) (funext fun a => Fin.ext (match a with | ⟨0, _⟩ => Nat.div_one _ | ⟨1, _⟩ => rfl))
theorem r92 : val_main_v92 (F := Ideal) x3 (ix1 n) = val_main_v88 (F := Ideal) x3 (ix2 n 1) := by
  rw [val_main_v92_apply, val_main_v91_apply]
  exact congrArg (val_main_v88 (F := Ideal) x3) (funext fun a => Fin.ext (match a with | ⟨0, _⟩ => Nat.div_one _ | ⟨1, _⟩ => rfl))
theorem r94 : val_main_v94 (F := Ideal) x3 (ix1 n) = val_main_v88 (F := Ideal) x3 (ix2 n 2) := by
  rw [val_main_v94_apply, val_main_v93_apply]
  exact congrArg (val_main_v88 (F := Ideal) x3) (funext fun a => Fin.ext (match a with | ⟨0, _⟩ => Nat.div_one _ | ⟨1, _⟩ => rfl))
theorem r96 : val_main_v96 (F := Ideal) x3 (ix1 n) = val_main_v88 (F := Ideal) x3 (ix2 n 3) := by
  rw [val_main_v96_apply, val_main_v95_apply]
  exact congrArg (val_main_v88 (F := Ideal) x3) (funext fun a => Fin.ext (match a with | ⟨0, _⟩ => Nat.div_one _ | ⟨1, _⟩ => rfl))

/-- The reference's number for a Gaussian: depth, unit quaternion, sigmoid. -/
def rZ (z : EReal) : EReal := max z cTiny
def rQ (q : Fin 4 → EReal) (j : Fin 4) : EReal := Ideal.div (q j) (Ideal.sqrt (0 + ∑ k : Fin 4, q k * q k))
def sig (x : EReal) : EReal := Ideal.div cOne (cOne + Ideal.exp (-x))

theorem r73 : val_main_v73 (F := Ideal) x0 x5 x6 (ix1 n) = rZ (val_main_v65 (F := Ideal) x0 x5 x6 (ix2 n 2)) := by
  rw [val_main_v73_apply, r71, val_main_v72_apply, val_main_cst_11_apply]; rfl

theorem zbits : Ideal.ofBits .f32 0x00000000#32 = 0 := Ideal.ofBits_zero_f32

theorem r88 (j : Fin 4) : val_main_v88 (F := Ideal) x3 (ix2 n j) = rQ (fun k => x3 (ix2 n k)) j := by
  rw [val_main_v88_apply, val_main_v87_apply, val_main_v86_apply, val_main_call1_v2_apply, val_main_call1_v1_apply]
  show Ideal.div _ (Ideal.sqrt (Ideal.ofBits .f32 0x00000000#32 + _)) = _
  rw [zbits]
  refine congrArg (fun t => Ideal.div (x3 (ix2 n j)) (Ideal.sqrt (0 + t))) (Finset.sum_congr rfl fun k _ => ?_)
  rw [val_main_call1_v0_apply, show idx_main_call1_v1 (idx_main_call1_v2 (idx_main_v87 (ix2 n j))) k = ix2 n k from funext fun a => match a with | ⟨0, _⟩ => rfl | ⟨1, _⟩ => rfl]
  rfl

theorem r164 (j : Fin 3) : val_main_v164 (F := Ideal) x4 (ix2 n j) = sig (x4 (ix2 n j)) := by
  rw [val_main_v164_apply, val_main_v163_apply, val_main_v162_apply, val_main_v161_apply, val_main_v160_apply, val_main_v159_apply, val_main_cst_27_apply, val_main_cst_28_apply]
  rfl
theorem r249 : val_main_v249 (F := Ideal) x2 (ix1 n) = sig (x2 (ix1 n)) := by
  rw [val_main_v249_apply, val_main_v248_apply, val_main_v247_apply, val_main_v246_apply, val_main_v245_apply, val_main_v244_apply, val_main_cst_45_apply, val_main_cst_46_apply]
  rfl

/-- Nine columns, or three, joined. -/
theorem cat9 (f : Fin 9 → S4096x1.Idx → EReal) (h : Shape.Concatenates ((List.ofFn fun j : Fin 9 => (⟨S4096x1, f j⟩ : (s : Shape) × (s.Idx → EReal))).map (·.1)) S4096x9 1) (k : Fin 9) :
    concatenate S4096x9 1 [⟨S4096x1, f 0⟩, ⟨S4096x1, f 1⟩, ⟨S4096x1, f 2⟩, ⟨S4096x1, f 3⟩, ⟨S4096x1, f 4⟩, ⟨S4096x1, f 5⟩, ⟨S4096x1, f 6⟩, ⟨S4096x1, f 7⟩, ⟨S4096x1, f 8⟩] h (ix2 n k)
      = f k (ix2 n 0) :=
  concatenate_ofFn_unit_apply 1 f h rfl rfl (ix2 n k) k rfl (ix2 n 0) (fun b hb => match b with | ⟨0, _⟩ => rfl | ⟨1, _⟩ => (hb rfl).elim)
theorem cat3 (f : Fin 3 → S4096x1.Idx → EReal) (h : Shape.Concatenates ((List.ofFn fun j : Fin 3 => (⟨S4096x1, f j⟩ : (s : Shape) × (s.Idx → EReal))).map (·.1)) S4096x3 1) (k : Fin 3) :
    concatenate S4096x3 1 [⟨S4096x1, f 0⟩, ⟨S4096x1, f 1⟩, ⟨S4096x1, f 2⟩] h (ix2 n k) = f k (ix2 n 0) :=
  concatenate_ofFn_unit_apply 1 f h rfl rfl (ix2 n k) k rfl (ix2 n 0) (fun b hb => match b with | ⟨0, _⟩ => rfl | ⟨1, _⟩ => (hb rfl).elim)

theorem pair3_0 (f g : S4096x1x3.Idx → EReal) (h : Shape.Concatenates [S4096x1x3, S4096x1x3] S4096x2x3 1) (k : Fin 3) :
    concatenate S4096x2x3 1 [⟨S4096x1x3, f⟩, ⟨S4096x1x3, g⟩] h (ix3 n 0 k) = f (ix3 n 0 k) :=
  concatenate_pair_apply_left (t := S4096x2x3) 1 f g h (ix3 n 0 k) rfl (ix3 n 0 k) (fun b => match b with | ⟨0, _⟩ => rfl | ⟨1, _⟩ => rfl | ⟨2, _⟩ => rfl)
theorem pair3_1 (f g : S4096x1x3.Idx → EReal) (h : Shape.Concatenates [S4096x1x3, S4096x1x3] S4096x2x3 1) (k : Fin 3) :
    concatenate S4096x2x3 1 [⟨S4096x1x3, f⟩, ⟨S4096x1x3, g⟩] h (ix3 n 1 k) = g (ix3 n 0 k) :=
  concatenate_pair_apply_right (t := S4096x2x3) 1 f g h (ix3 n 1 k) rfl rfl (ix3 n 0 k)
    (fun b hb => match b with | ⟨0, _⟩ => rfl | ⟨1, _⟩ => (hb rfl).elim | ⟨2, _⟩ => rfl) rfl
theorem pair2_0 (f g : S4096x1.Idx → EReal) (h : Shape.Concatenates [S4096x1, S4096x1] S4096x2 1) :
    concatenate S4096x2 1 [⟨S4096x1, f⟩, ⟨S4096x1, g⟩] h (ix2 n 0) = f (ix2 n 0) :=
  concatenate_pair_apply_left (t := S4096x2) 1 f g h (ix2 n 0) rfl (ix2 n 0) (fun b => match b with | ⟨0, _⟩ => rfl | ⟨1, _⟩ => rfl)
theorem pair2_1 (f g : S4096x1.Idx → EReal) (h : Shape.Concatenates [S4096x1, S4096x1] S4096x2 1) :
    concatenate S4096x2 1 [⟨S4096x1, f⟩, ⟨S4096x1, g⟩] h (ix2 n 1) = g (ix2 n 0) :=
  concatenate_pair_apply_right (t := S4096x2) 1 f g h (ix2 n 1) rfl rfl (ix2 n 0) (fun b hb => match b with | ⟨0, _⟩ => rfl | ⟨1, _⟩ => (hb rfl).elim) rfl

/-- The columns of the rotation, each read at the Gaussian. -/
def rRot (w x y z : EReal) : Fin 9 → EReal :=
  ![cOne - cTwo * (y * y + z * z), cTwo * (x * y - w * z), cTwo * (x * z + w * y),
    cTwo * (x * y + w * z), cOne - cTwo * (x * x + z * z), cTwo * (y * z - w * x),
    cTwo * (x * z - w * y), cTwo * (y * z + w * x), cOne - cTwo * (x * x + y * y)]
theorem e103 : val_main_v103 (F := Ideal) x3 (ix1 n) = rRot (val_main_v88 (F := Ideal) x3 (ix2 n 0)) (val_main_v88 (F := Ideal) x3 (ix2 n 1)) (val_main_v88 (F := Ideal) x3 (ix2 n 2)) (val_main_v88 (F := Ideal) x3 (ix2 n 3)) 0 := by
  simp only [val_main_v97_apply, val_main_v98_apply, val_main_v99_apply, val_main_v100_apply, val_main_v101_apply, val_main_v102_apply, val_main_v103_apply, val_main_v104_apply, val_main_v105_apply, val_main_v106_apply, val_main_v107_apply, val_main_v108_apply, val_main_v109_apply, val_main_v110_apply, val_main_v111_apply, val_main_v112_apply, val_main_v113_apply, val_main_v114_apply, val_main_v115_apply, val_main_v116_apply, val_main_v117_apply, val_main_v118_apply, val_main_v119_apply, val_main_v120_apply, val_main_v121_apply, val_main_v122_apply, val_main_v123_apply, val_main_v124_apply, val_main_v125_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_v139_apply, val_main_v140_apply, val_main_v141_apply, val_main_v142_apply, val_main_v143_apply, val_main_v144_apply, val_main_v145_apply, val_main_v146_apply, val_main_v147_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply, val_main_cst_26_apply, r90, r92, r94, r96]; rfl
theorem e108 : val_main_v108 (F := Ideal) x3 (ix1 n) = rRot (val_main_v88 (F := Ideal) x3 (ix2 n 0)) (val_main_v88 (F := Ideal) x3 (ix2 n 1)) (val_main_v88 (F := Ideal) x3 (ix2 n 2)) (val_main_v88 (F := Ideal) x3 (ix2 n 3)) 1 := by
  simp only [val_main_v97_apply, val_main_v98_apply, val_main_v99_apply, val_main_v100_apply, val_main_v101_apply, val_main_v102_apply, val_main_v103_apply, val_main_v104_apply, val_main_v105_apply, val_main_v106_apply, val_main_v107_apply, val_main_v108_apply, val_main_v109_apply, val_main_v110_apply, val_main_v111_apply, val_main_v112_apply, val_main_v113_apply, val_main_v114_apply, val_main_v115_apply, val_main_v116_apply, val_main_v117_apply, val_main_v118_apply, val_main_v119_apply, val_main_v120_apply, val_main_v121_apply, val_main_v122_apply, val_main_v123_apply, val_main_v124_apply, val_main_v125_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_v139_apply, val_main_v140_apply, val_main_v141_apply, val_main_v142_apply, val_main_v143_apply, val_main_v144_apply, val_main_v145_apply, val_main_v146_apply, val_main_v147_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply, val_main_cst_26_apply, r90, r92, r94, r96]; rfl
theorem e113 : val_main_v113 (F := Ideal) x3 (ix1 n) = rRot (val_main_v88 (F := Ideal) x3 (ix2 n 0)) (val_main_v88 (F := Ideal) x3 (ix2 n 1)) (val_main_v88 (F := Ideal) x3 (ix2 n 2)) (val_main_v88 (F := Ideal) x3 (ix2 n 3)) 2 := by
  simp only [val_main_v97_apply, val_main_v98_apply, val_main_v99_apply, val_main_v100_apply, val_main_v101_apply, val_main_v102_apply, val_main_v103_apply, val_main_v104_apply, val_main_v105_apply, val_main_v106_apply, val_main_v107_apply, val_main_v108_apply, val_main_v109_apply, val_main_v110_apply, val_main_v111_apply, val_main_v112_apply, val_main_v113_apply, val_main_v114_apply, val_main_v115_apply, val_main_v116_apply, val_main_v117_apply, val_main_v118_apply, val_main_v119_apply, val_main_v120_apply, val_main_v121_apply, val_main_v122_apply, val_main_v123_apply, val_main_v124_apply, val_main_v125_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_v139_apply, val_main_v140_apply, val_main_v141_apply, val_main_v142_apply, val_main_v143_apply, val_main_v144_apply, val_main_v145_apply, val_main_v146_apply, val_main_v147_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply, val_main_cst_26_apply, r90, r92, r94, r96]; rfl
theorem e118 : val_main_v118 (F := Ideal) x3 (ix1 n) = rRot (val_main_v88 (F := Ideal) x3 (ix2 n 0)) (val_main_v88 (F := Ideal) x3 (ix2 n 1)) (val_main_v88 (F := Ideal) x3 (ix2 n 2)) (val_main_v88 (F := Ideal) x3 (ix2 n 3)) 3 := by
  simp only [val_main_v97_apply, val_main_v98_apply, val_main_v99_apply, val_main_v100_apply, val_main_v101_apply, val_main_v102_apply, val_main_v103_apply, val_main_v104_apply, val_main_v105_apply, val_main_v106_apply, val_main_v107_apply, val_main_v108_apply, val_main_v109_apply, val_main_v110_apply, val_main_v111_apply, val_main_v112_apply, val_main_v113_apply, val_main_v114_apply, val_main_v115_apply, val_main_v116_apply, val_main_v117_apply, val_main_v118_apply, val_main_v119_apply, val_main_v120_apply, val_main_v121_apply, val_main_v122_apply, val_main_v123_apply, val_main_v124_apply, val_main_v125_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_v139_apply, val_main_v140_apply, val_main_v141_apply, val_main_v142_apply, val_main_v143_apply, val_main_v144_apply, val_main_v145_apply, val_main_v146_apply, val_main_v147_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply, val_main_cst_26_apply, r90, r92, r94, r96]; rfl
theorem e125 : val_main_v125 (F := Ideal) x3 (ix1 n) = rRot (val_main_v88 (F := Ideal) x3 (ix2 n 0)) (val_main_v88 (F := Ideal) x3 (ix2 n 1)) (val_main_v88 (F := Ideal) x3 (ix2 n 2)) (val_main_v88 (F := Ideal) x3 (ix2 n 3)) 4 := by
  simp only [val_main_v97_apply, val_main_v98_apply, val_main_v99_apply, val_main_v100_apply, val_main_v101_apply, val_main_v102_apply, val_main_v103_apply, val_main_v104_apply, val_main_v105_apply, val_main_v106_apply, val_main_v107_apply, val_main_v108_apply, val_main_v109_apply, val_main_v110_apply, val_main_v111_apply, val_main_v112_apply, val_main_v113_apply, val_main_v114_apply, val_main_v115_apply, val_main_v116_apply, val_main_v117_apply, val_main_v118_apply, val_main_v119_apply, val_main_v120_apply, val_main_v121_apply, val_main_v122_apply, val_main_v123_apply, val_main_v124_apply, val_main_v125_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_v139_apply, val_main_v140_apply, val_main_v141_apply, val_main_v142_apply, val_main_v143_apply, val_main_v144_apply, val_main_v145_apply, val_main_v146_apply, val_main_v147_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply, val_main_cst_26_apply, r90, r92, r94, r96]; rfl
theorem e130 : val_main_v130 (F := Ideal) x3 (ix1 n) = rRot (val_main_v88 (F := Ideal) x3 (ix2 n 0)) (val_main_v88 (F := Ideal) x3 (ix2 n 1)) (val_main_v88 (F := Ideal) x3 (ix2 n 2)) (val_main_v88 (F := Ideal) x3 (ix2 n 3)) 5 := by
  simp only [val_main_v97_apply, val_main_v98_apply, val_main_v99_apply, val_main_v100_apply, val_main_v101_apply, val_main_v102_apply, val_main_v103_apply, val_main_v104_apply, val_main_v105_apply, val_main_v106_apply, val_main_v107_apply, val_main_v108_apply, val_main_v109_apply, val_main_v110_apply, val_main_v111_apply, val_main_v112_apply, val_main_v113_apply, val_main_v114_apply, val_main_v115_apply, val_main_v116_apply, val_main_v117_apply, val_main_v118_apply, val_main_v119_apply, val_main_v120_apply, val_main_v121_apply, val_main_v122_apply, val_main_v123_apply, val_main_v124_apply, val_main_v125_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_v139_apply, val_main_v140_apply, val_main_v141_apply, val_main_v142_apply, val_main_v143_apply, val_main_v144_apply, val_main_v145_apply, val_main_v146_apply, val_main_v147_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply, val_main_cst_26_apply, r90, r92, r94, r96]; rfl
theorem e135 : val_main_v135 (F := Ideal) x3 (ix1 n) = rRot (val_main_v88 (F := Ideal) x3 (ix2 n 0)) (val_main_v88 (F := Ideal) x3 (ix2 n 1)) (val_main_v88 (F := Ideal) x3 (ix2 n 2)) (val_main_v88 (F := Ideal) x3 (ix2 n 3)) 6 := by
  simp only [val_main_v97_apply, val_main_v98_apply, val_main_v99_apply, val_main_v100_apply, val_main_v101_apply, val_main_v102_apply, val_main_v103_apply, val_main_v104_apply, val_main_v105_apply, val_main_v106_apply, val_main_v107_apply, val_main_v108_apply, val_main_v109_apply, val_main_v110_apply, val_main_v111_apply, val_main_v112_apply, val_main_v113_apply, val_main_v114_apply, val_main_v115_apply, val_main_v116_apply, val_main_v117_apply, val_main_v118_apply, val_main_v119_apply, val_main_v120_apply, val_main_v121_apply, val_main_v122_apply, val_main_v123_apply, val_main_v124_apply, val_main_v125_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_v139_apply, val_main_v140_apply, val_main_v141_apply, val_main_v142_apply, val_main_v143_apply, val_main_v144_apply, val_main_v145_apply, val_main_v146_apply, val_main_v147_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply, val_main_cst_26_apply, r90, r92, r94, r96]; rfl
theorem e140 : val_main_v140 (F := Ideal) x3 (ix1 n) = rRot (val_main_v88 (F := Ideal) x3 (ix2 n 0)) (val_main_v88 (F := Ideal) x3 (ix2 n 1)) (val_main_v88 (F := Ideal) x3 (ix2 n 2)) (val_main_v88 (F := Ideal) x3 (ix2 n 3)) 7 := by
  simp only [val_main_v97_apply, val_main_v98_apply, val_main_v99_apply, val_main_v100_apply, val_main_v101_apply, val_main_v102_apply, val_main_v103_apply, val_main_v104_apply, val_main_v105_apply, val_main_v106_apply, val_main_v107_apply, val_main_v108_apply, val_main_v109_apply, val_main_v110_apply, val_main_v111_apply, val_main_v112_apply, val_main_v113_apply, val_main_v114_apply, val_main_v115_apply, val_main_v116_apply, val_main_v117_apply, val_main_v118_apply, val_main_v119_apply, val_main_v120_apply, val_main_v121_apply, val_main_v122_apply, val_main_v123_apply, val_main_v124_apply, val_main_v125_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_v139_apply, val_main_v140_apply, val_main_v141_apply, val_main_v142_apply, val_main_v143_apply, val_main_v144_apply, val_main_v145_apply, val_main_v146_apply, val_main_v147_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply, val_main_cst_26_apply, r90, r92, r94, r96]; rfl
theorem e147 : val_main_v147 (F := Ideal) x3 (ix1 n) = rRot (val_main_v88 (F := Ideal) x3 (ix2 n 0)) (val_main_v88 (F := Ideal) x3 (ix2 n 1)) (val_main_v88 (F := Ideal) x3 (ix2 n 2)) (val_main_v88 (F := Ideal) x3 (ix2 n 3)) 8 := by
  simp only [val_main_v97_apply, val_main_v98_apply, val_main_v99_apply, val_main_v100_apply, val_main_v101_apply, val_main_v102_apply, val_main_v103_apply, val_main_v104_apply, val_main_v105_apply, val_main_v106_apply, val_main_v107_apply, val_main_v108_apply, val_main_v109_apply, val_main_v110_apply, val_main_v111_apply, val_main_v112_apply, val_main_v113_apply, val_main_v114_apply, val_main_v115_apply, val_main_v116_apply, val_main_v117_apply, val_main_v118_apply, val_main_v119_apply, val_main_v120_apply, val_main_v121_apply, val_main_v122_apply, val_main_v123_apply, val_main_v124_apply, val_main_v125_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_v139_apply, val_main_v140_apply, val_main_v141_apply, val_main_v142_apply, val_main_v143_apply, val_main_v144_apply, val_main_v145_apply, val_main_v146_apply, val_main_v147_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply, val_main_cst_26_apply, r90, r92, r94, r96]; rfl

theorem r157 (k : Fin 9) : val_main_v157 (F := Ideal) x3 (ix2 n k)
    = rRot (val_main_v88 (F := Ideal) x3 (ix2 n 0)) (val_main_v88 (F := Ideal) x3 (ix2 n 1)) (val_main_v88 (F := Ideal) x3 (ix2 n 2)) (val_main_v88 (F := Ideal) x3 (ix2 n 3)) k := by
  unfold val_main_v157
  refine (cat9 n ![val_main_v148 (F := Ideal) x3, val_main_v149 (F := Ideal) x3, val_main_v150 (F := Ideal) x3, val_main_v151 (F := Ideal) x3, val_main_v152 (F := Ideal) x3, val_main_v153 (F := Ideal) x3, val_main_v154 (F := Ideal) x3, val_main_v155 (F := Ideal) x3, val_main_v156 (F := Ideal) x3] _ k).trans ?_
  match k with
  | ⟨0, _⟩ => exact (val_main_v148_apply (F := Ideal) x3 _).trans (e103 x3 n)
  | ⟨1, _⟩ => exact (val_main_v149_apply (F := Ideal) x3 _).trans (e108 x3 n)
  | ⟨2, _⟩ => exact (val_main_v150_apply (F := Ideal) x3 _).trans (e113 x3 n)
  | ⟨3, _⟩ => exact (val_main_v151_apply (F := Ideal) x3 _).trans (e118 x3 n)
  | ⟨4, _⟩ => exact (val_main_v152_apply (F := Ideal) x3 _).trans (e125 x3 n)
  | ⟨5, _⟩ => exact (val_main_v153_apply (F := Ideal) x3 _).trans (e130 x3 n)
  | ⟨6, _⟩ => exact (val_main_v154_apply (F := Ideal) x3 _).trans (e135 x3 n)
  | ⟨7, _⟩ => exact (val_main_v155_apply (F := Ideal) x3 _).trans (e140 x3 n)
  | ⟨8, _⟩ => exact (val_main_v156_apply (F := Ideal) x3 _).trans (e147 x3 n)

theorem r158 (i j : Fin 3) : val_main_v158 (F := Ideal) x3 (ix3 n i j)
    = rRot (rQ (fun k => x3 (ix2 n k)) 0) (rQ (fun k => x3 (ix2 n k)) 1) (rQ (fun k => x3 (ix2 n k)) 2) (rQ (fun k => x3 (ix2 n k)) 3) ⟨3 * i.val + j.val, by omega⟩ := by
  rw [val_main_v158_apply]
  rw [show idx_main_v158 (ix3 n i j) = ix2 n ⟨3 * i.val + j.val, by omega⟩ from funext fun a => Fin.ext (match a with
    | ⟨0, _⟩ => by show ((n.val * 3 + i.val) * 3 + j.val) / 9 = n.val; omega
    | ⟨1, _⟩ => by show ((n.val * 3 + i.val) * 3 + j.val) % 9 = 3 * i.val + j.val; omega)]
  rw [r157, r88, r88, r88, r88]

/-- The reference's covariance of a Gaussian, turned to the camera. -/
def rMat (q : Fin 4 → EReal) (s : Fin 3 → EReal) (i j : Fin 3) : EReal :=
  rRot (rQ q 0) (rQ q 1) (rQ q 2) (rQ q 3) ⟨3 * i.val + j.val, by omega⟩ * sig (s j)
def rCov (R : Fin 3 → Fin 3 → EReal) (q : Fin 4 → EReal) (s : Fin 3 → EReal) (j l : Fin 3) : EReal :=
  ∑ k : Fin 3, (∑ m : Fin 3, (∑ t : Fin 3, rMat q s m t * rMat q s k t) * R j m) * R l k

theorem r167 (i j : Fin 3) : val_main_v167 (F := Ideal) x3 x4 (ix3 n i j) = rMat (fun k => x3 (ix2 n k)) (fun k => x4 (ix2 n k)) i j := by
  rw [val_main_v167_apply, r158, val_main_v166_apply, val_main_v165_apply]
  show _ * _ = _
  rw [show idx_main_v165 (idx_main_v166 (ix3 n i j)) = ix2 n j from funext fun a => match a with | ⟨0, _⟩ => rfl | ⟨1, _⟩ => rfl, r164]
  rfl

theorem i3 (i j : Fin 3) (f : S4096x3x3.Idx) (h0 : (f 0).val = n.val) (h1 : (f 1).val = i.val) (h2 : (f 2).val = j.val) : f = ix3 n i j :=
  funext fun a => Fin.ext (match a with | ⟨0, _⟩ => h0 | ⟨1, _⟩ => h1 | ⟨2, _⟩ => h2)
theorem i33 (i j : Fin 3) (f : S3x3.Idx) (h0 : (f 0).val = i.val) (h1 : (f 1).val = j.val) : f = ix2 i j :=
  funext fun a => Fin.ext (match a with | ⟨0, _⟩ => h0 | ⟨1, _⟩ => h1)

theorem r169 (i j : Fin 3) : val_main_v169 (F := Ideal) x3 x4 (ix3 n i j)
    = ∑ t : Fin 3, rMat (fun k => x3 (ix2 n k)) (fun k => x4 (ix2 n k)) i t * rMat (fun k => x3 (ix2 n k)) (fun k => x4 (ix2 n k)) j t := by
  rw [val_main_v169_apply]
  refine Finset.sum_congr rfl fun t _ => ?_
  rw [val_main_v168_apply, i3 n i t (lidx_main_v169 (ix3 n i j) t) rfl rfl rfl, i3 n j t (idx_main_v168 (ridx_main_v169 (ix3 n i j) t)) rfl rfl rfl, r167, r167]

theorem r171 (j l : Fin 3) : val_main_v171 (F := Ideal) x3 x4 x5 (ix3 n j l)
    = rCov (fun a b => val_main_v60 (F := Ideal) x5 (ix2 a b)) (fun k => x3 (ix2 n k)) (fun k => x4 (ix2 n k)) j l := by
  rw [val_main_v171_apply]
  refine Finset.sum_congr rfl fun k _ => ?_
  rw [val_main_v170_apply, i33 l k (ridx_main_v171 (ix3 n j l) k) rfl rfl]
  refine congrArg (· * _) (Finset.sum_congr rfl fun m _ => ?_)
  rw [i33 j m (ridx_main_v170 (lidx_main_v171 (ix3 n j l) k) m) rfl rfl, i3 n m k (lidx_main_v170 (lidx_main_v171 (ix3 n j l) k) m) rfl rfl rfl, r169]

/-- The Jacobian of the projection, and the covariance on the image. -/
def rJac (p : Fin 3 → EReal) : Fin 2 → Fin 3 → EReal :=
  ![![Ideal.div cFocal (rZ (p 2)), 0, Ideal.div (cNegFocal * p 0) (rZ (p 2) * rZ (p 2))],
    ![0, Ideal.div cFocal (rZ (p 2)), Ideal.div (cNegFocal * p 1) (rZ (p 2) * rZ (p 2))]]
def rEye : Fin 2 → Fin 2 → EReal := ![![cNear * 1, cNear * 0], ![cNear * 0, cNear * 1]]
def rFlat (C : Fin 3 → Fin 3 → EReal) (J : Fin 2 → Fin 3 → EReal) (a b : Fin 2) : EReal :=
  (∑ k : Fin 3, (∑ m : Fin 3, C m k * J a m) * J b k) + rEye a b

theorem r174 : val_main_v174 (F := Ideal) x0 x5 x6 (ix1 n) = Ideal.div cFocal (rZ (val_main_v65 (F := Ideal) x0 x5 x6 (ix2 n 2))) := by
  simp only [val_main_v174_apply, val_main_v173_apply, val_main_cst_30_apply, r73]; rfl
theorem r184 : val_main_v184 (F := Ideal) x0 x5 x6 (ix1 n) = Ideal.div cFocal (rZ (val_main_v65 (F := Ideal) x0 x5 x6 (ix2 n 2))) := by
  simp only [val_main_v184_apply, val_main_v183_apply, val_main_cst_32_apply, r73]; rfl
theorem r178 : val_main_v178 (F := Ideal) x0 x5 x6 (ix1 n) = Ideal.div (cNegFocal * val_main_v65 (F := Ideal) x0 x5 x6 (ix2 n 0)) (rZ (val_main_v65 (F := Ideal) x0 x5 x6 (ix2 n 2)) * rZ (val_main_v65 (F := Ideal) x0 x5 x6 (ix2 n 2))) := by
  simp only [val_main_v178_apply, val_main_v177_apply, val_main_v176_apply, val_main_v175_apply, val_main_cst_31_apply, r73, r67]; rfl
theorem r188 : val_main_v188 (F := Ideal) x0 x5 x6 (ix1 n) = Ideal.div (cNegFocal * val_main_v65 (F := Ideal) x0 x5 x6 (ix2 n 1)) (rZ (val_main_v65 (F := Ideal) x0 x5 x6 (ix2 n 2)) * rZ (val_main_v65 (F := Ideal) x0 x5 x6 (ix2 n 2))) := by
  simp only [val_main_v188_apply, val_main_v187_apply, val_main_v186_apply, val_main_v185_apply, val_main_cst_33_apply, r73, r69]; rfl
theorem r172 (i : S4096.Idx) : val_main_v172 (F := Ideal) i = (0 : EReal) := by
  simp only [val_main_v172_apply, val_main_cst_29_apply]; exact zbits
theorem r182 (k : Fin 3) : val_main_v182 (F := Ideal) x0 x5 x6 (ix2 n k) = rJac (fun j => val_main_v65 (F := Ideal) x0 x5 x6 (ix2 n j)) 0 k := by
  unfold val_main_v182
  refine (cat3 n ![val_main_v179 (F := Ideal) x0 x5 x6, val_main_v180 (F := Ideal), val_main_v181 (F := Ideal) x0 x5 x6] _ k).trans ?_
  match k with
  | ⟨0, _⟩ => exact (val_main_v179_apply (F := Ideal) x0 x5 x6 _).trans (r174 x0 x5 x6 n)
  | ⟨1, _⟩ => exact (val_main_v180_apply (F := Ideal) (ix2 n 0)).trans (r172 _)
  | ⟨2, _⟩ => exact (val_main_v181_apply (F := Ideal) x0 x5 x6 _).trans (r178 x0 x5 x6 n)
theorem r192 (k : Fin 3) : val_main_v192 (F := Ideal) x0 x5 x6 (ix2 n k) = rJac (fun j => val_main_v65 (F := Ideal) x0 x5 x6 (ix2 n j)) 1 k := by
  unfold val_main_v192
  refine (cat3 n ![val_main_v189 (F := Ideal), val_main_v190 (F := Ideal) x0 x5 x6, val_main_v191 (F := Ideal) x0 x5 x6] _ k).trans ?_
  match k with
  | ⟨0, _⟩ => exact (val_main_v189_apply (F := Ideal) (ix2 n 0)).trans (r172 _)
  | ⟨1, _⟩ => exact (val_main_v190_apply (F := Ideal) x0 x5 x6 _).trans (r184 x0 x5 x6 n)
  | ⟨2, _⟩ => exact (val_main_v191_apply (F := Ideal) x0 x5 x6 _).trans (r188 x0 x5 x6 n)

theorem r195 (a : Fin 2) (k : Fin 3) : val_main_v195 (F := Ideal) x0 x5 x6 (ix3 n a k) = rJac (fun j => val_main_v65 (F := Ideal) x0 x5 x6 (ix2 n j)) a k := by
  unfold val_main_v195
  match a with
  | ⟨0, _⟩ =>
    refine (pair3_0 n _ _ _ k).trans ?_
    rw [val_main_v193_apply, show idx_main_v193 (ix3 n 0 k) = ix2 n k from funext fun a => match a with | ⟨0, _⟩ => rfl | ⟨1, _⟩ => rfl]
    exact r182 x0 x5 x6 n k
  | ⟨1, _⟩ =>
    refine (pair3_1 n _ _ _ k).trans ?_
    rw [val_main_v194_apply, show idx_main_v194 (ix3 n 0 k) = ix2 n k from funext fun a => match a with | ⟨0, _⟩ => rfl | ⟨1, _⟩ => rfl]
    exact r192 x0 x5 x6 n k

theorem i23 (a : Fin 2) (j : Fin 3) (f : S4096x2x3.Idx) (h0 : (f 0).val = n.val) (h1 : (f 1).val = a.val) (h2 : (f 2).val = j.val) : f = ix3 n a j :=
  funext fun a => Fin.ext (match a with | ⟨0, _⟩ => h0 | ⟨1, _⟩ => h1 | ⟨2, _⟩ => h2)

theorem r207 (a b : Fin 2) : val_main_v207 (F := Ideal) (ix3 n a b) = rEye a b := by
  simp only [val_main_v207_apply, val_main_v206_apply, val_main_v205_apply, val_main_v204_apply, val_main_v203_apply, val_main_v202_apply, val_main_v201_apply, val_main_v200_apply, val_main_v199_apply, val_main_v198_apply, val_main_c_apply, val_main_cst_34_apply]
  show cNear * FloatOps.uitofp (F := Ideal) .f32 (IntOp.cmpi .eq (IntOp.addi (BitVec.ofNat 32 a.val) 0#32) (BitVec.ofNat 32 b.val)) = _
  match a, b with
  | ⟨0, _⟩, ⟨0, _⟩ => exact congrArg (cNear * ·) (by show ((((1 : ℕ) : ℝ)) : EReal) = 1; norm_num)
  | ⟨0, _⟩, ⟨1, _⟩ => exact congrArg (cNear * ·) (by show ((((0 : ℕ) : ℝ)) : EReal) = 0; norm_num)
  | ⟨1, _⟩, ⟨0, _⟩ => exact congrArg (cNear * ·) (by show ((((0 : ℕ) : ℝ)) : EReal) = 0; norm_num)
  | ⟨1, _⟩, ⟨1, _⟩ => exact congrArg (cNear * ·) (by show ((((1 : ℕ) : ℝ)) : EReal) = 1; norm_num)

theorem r208 (a b : Fin 2) : val_main_v208 (F := Ideal) x0 x3 x4 x5 x6 (ix3 n a b)
    = rFlat (rCov (fun a b => val_main_v60 (F := Ideal) x5 (ix2 a b)) (fun k => x3 (ix2 n k)) (fun k => x4 (ix2 n k)))
        (rJac (fun j => val_main_v65 (F := Ideal) x0 x5 x6 (ix2 n j))) a b := by
  rw [val_main_v208_apply, r207, val_main_v197_apply]
  refine congrArg (· + rEye a b) (Finset.sum_congr rfl fun k _ => ?_)
  rw [val_main_v196_apply, i23 n b k (ridx_main_v197 (ix3 n a b) k) rfl rfl rfl, r195]
  refine congrArg (· * _) (Finset.sum_congr rfl fun m _ => ?_)
  rw [i23 n a m (ridx_main_v196 (lidx_main_v197 (ix3 n a b) k) m) rfl rfl rfl, r195, i3 n m k (lidx_main_v196 (lidx_main_v197 (ix3 n a b) k) m) rfl rfl rfl, r171]

/-- Where it lands on the image, and whether it is seen. -/
def rMu (p z : EReal) : EReal := Ideal.div (cFocal * p) (rZ z) + cMid
theorem r213 : val_main_v213 (F := Ideal) x0 x5 x6 (ix1 n) = rMu (val_main_v65 (F := Ideal) x0 x5 x6 (ix2 n 0)) (val_main_v65 (F := Ideal) x0 x5 x6 (ix2 n 2)) := by
  simp only [val_main_v213_apply, val_main_v212_apply, val_main_v211_apply, val_main_v210_apply, val_main_v209_apply, val_main_cst_35_apply, val_main_cst_36_apply, r73, r67]; rfl
theorem r218 : val_main_v218 (F := Ideal) x0 x5 x6 (ix1 n) = rMu (val_main_v65 (F := Ideal) x0 x5 x6 (ix2 n 1)) (val_main_v65 (F := Ideal) x0 x5 x6 (ix2 n 2)) := by
  simp only [val_main_v218_apply, val_main_v217_apply, val_main_v216_apply, val_main_v215_apply, val_main_v214_apply, val_main_cst_37_apply, val_main_cst_38_apply, r73, r69]; rfl
theorem r221 (a : Fin 2) : val_main_v221 (F := Ideal) x0 x5 x6 (ix2 n a)
    = rMu (val_main_v65 (F := Ideal) x0 x5 x6 (ix2 n (a.castLE (by decide)))) (val_main_v65 (F := Ideal) x0 x5 x6 (ix2 n 2)) := by
  unfold val_main_v221
  match a with
  | ⟨0, _⟩ =>
    refine (pair2_0 n _ _ _).trans ?_
    exact (val_main_v219_apply (F := Ideal) x0 x5 x6 (ix2 n 0)).trans (r213 x0 x5 x6 n)
  | ⟨1, _⟩ =>
    refine (pair2_1 n _ _ _).trans ?_
    exact (val_main_v220_apply (F := Ideal) x0 x5 x6 (ix2 n 0)).trans (r218 x0 x5 x6 n)

def rVis (p : Fin 3 → EReal) : BitVec 1 :=
  IntOp.andi (IntOp.andi (BitVec.ofBool (decide (cNear < p 2))) (BitVec.ofBool (decide (FloatOps.absf (F := Ideal) (φ := .f32) (Ideal.div (p 0) (rZ (p 2))) < cEdge))))
    (BitVec.ofBool (decide (FloatOps.absf (F := Ideal) (φ := .f32) (Ideal.div (p 1) (rZ (p 2))) < cEdge)))
theorem r85 : val_main_v85 (F := Ideal) x0 x5 x6 (ix1 n) = rVis (fun j => val_main_v65 (F := Ideal) x0 x5 x6 (ix2 n j)) := by
  simp only [val_main_v85_apply, val_main_v84_apply, val_main_v83_apply, val_main_v82_apply, val_main_v81_apply, val_main_v80_apply, val_main_v79_apply, val_main_v78_apply, val_main_v77_apply, val_main_v76_apply, val_main_v75_apply, val_main_v74_apply, val_main_cst_12_apply, val_main_cst_13_apply, val_main_cst_14_apply, r73, r67, r69, r71]
  rfl

end Cert.RefVal

end
-- ==== Proof.RefSum.lean ====
/- The reference's picture, read at a pixel. -/
module

public import proofs.«01_k».proof.Proof.RefVal
public import Idealize.ShloMosaic.Lib.Routing.OpsSet
public import Idealize.ShloMosaic.Lib.Routing.OpsPair

@[expose] public section

set_option maxRecDepth 1024

noncomputable section

namespace Cert.RefVal

open Idealize.ShloMosaic Cert.Scene
open Cert.ReferenceIdeal Cert.ReferenceIdeal.Gen Cert.ReferenceIdeal.Read

/-- The order the depths are sorted into is a list of Gaussians. -/
theorem sorted {α : Type} (cmp : α × BitVec 32 → α × BitVec 32 → BitVec 1) (x : S4096.Idx → α) :
    ∃ σ : Fin 4096 → Fin 4096, ∀ j : Fin 4096, (Host.sort2 S4096 0 cmp x (iotaInDim S4096 32 0)).2 (ix1 j) = BitVec.ofNat 32 (σ j).val := by
  have h : ∀ j : Fin 4096, ∃ i : S4096.Idx, (Host.sort2 S4096 0 cmp x (iotaInDim S4096 32 0)).2 (ix1 j) = iotaInDim S4096 32 0 i := by
    intro j
    unfold Host.sort2
    rw [dif_pos (show 0 < S4096.rank by decide)]
    exact ⟨_, rfl⟩
  choose i hi using h
  exact ⟨fun j => i j 0, fun j => (hi j).trans rfl⟩

variable (x0 x1 : Vec Ideal S4096x3 .f32) (x2 : Vec Ideal S4096 .f32) (x3 : Vec Ideal S4096x4 .f32) (x4 : Vec Ideal S4096x3 .f32)
  (x5 : Vec Ideal S4 .f32) (x6 : Vec Ideal S3 .f32) (σ : Fin 4096 → Fin 4096)
  (hσ : ∀ j : Fin 4096, val_main_v222 (F := Ideal) x0 x5 x6 (ix1 j) = BitVec.ofNat 32 (σ j).val) (p n : Fin 4096)

theorem word_lt (k : Fin 4096) : (BitVec.ofNat 32 k.val).toNat < 2 ^ (32 - 1) := by
  rw [BitVec.toNat_ofNat]; have := k.isLt; omega
theorem i1 (f : S4096.Idx) (h : (f 0).val = n.val) : f = ix1 n := funext fun a => Fin.ext (match a with | ⟨0, _⟩ => h)
theorem i2 {b : ℕ} (k : Fin b) (f : (⟨2, ![4096, b]⟩ : Shape).Idx) (h : (f 0).val = n.val) (h1 : (f 1).val = k.val) : f = ix2 n k :=
  funext fun a => Fin.ext (match a with | ⟨0, _⟩ => h | ⟨1, _⟩ => h1)
theorem i22 (a b : Fin 2) (f : S4096x2x2.Idx) (h0 : (f 0).val = n.val) (h1 : (f 1).val = a.val) (h2 : (f 2).val = b.val) : f = ix3 n a b :=
  funext fun a => Fin.ext (match a with | ⟨0, _⟩ => h0 | ⟨1, _⟩ => h1 | ⟨2, _⟩ => h2)

section
include hσ
theorem r228 : val_main_v228 (F := Ideal) x0 x5 x6 (ix2 n 0) = BitVec.ofNat 32 (σ n).val := by
  rw [val_main_v228_apply, i1 n (idx_main_v228 (ix2 n 0)) rfl, val_main_v227_apply, val_main_v224_apply, val_main_v223_apply, val_main_c_39_apply, hσ]
  exact Routing.wrap_of_lt _ _ (word_lt _)
theorem r235 : val_main_v235 (F := Ideal) x0 x5 x6 (ix2 n 0) = BitVec.ofNat 32 (σ n).val := by
  rw [val_main_v235_apply, i1 n (idx_main_v235 (ix2 n 0)) rfl, val_main_v234_apply, val_main_v231_apply, val_main_v230_apply, val_main_c_41_apply, hσ]
  exact Routing.wrap_of_lt _ _ (word_lt _)
theorem r242 : val_main_v242 (F := Ideal) x0 x5 x6 (ix2 n 0) = BitVec.ofNat 32 (σ n).val := by
  rw [val_main_v242_apply, i1 n (idx_main_v242 (ix2 n 0)) rfl, val_main_v241_apply, val_main_v238_apply, val_main_v237_apply, val_main_c_43_apply, hσ]
  exact Routing.wrap_of_lt _ _ (word_lt _)
theorem r255 : val_main_v255 (F := Ideal) x0 x5 x6 (ix2 n 0) = BitVec.ofNat 32 (σ n).val := by
  rw [val_main_v255_apply, i1 n (idx_main_v255 (ix2 n 0)) rfl, val_main_v254_apply, val_main_v251_apply, val_main_v250_apply, val_main_c_47_apply, hσ]
  exact Routing.wrap_of_lt _ _ (word_lt _)
theorem r262 : val_main_v262 (F := Ideal) x0 x5 x6 (ix2 n 0) = BitVec.ofNat 32 (σ n).val := by
  rw [val_main_v262_apply, i1 n (idx_main_v262 (ix2 n 0)) rfl, val_main_v261_apply, val_main_v258_apply, val_main_v257_apply, val_main_c_49_apply, hσ]
  exact Routing.wrap_of_lt _ _ (word_lt _)

theorem r229 (a : Fin 2) : val_main_v229 (F := Ideal) x0 x5 x6 (ix2 n a)
    = rMu (val_main_v65 (F := Ideal) x0 x5 x6 (ix2 (σ n) (a.castLE (by decide)))) (val_main_v65 (F := Ideal) x0 x5 x6 (ix2 (σ n) 2)) := by
  unfold val_main_v229
  exact (Routing.gather_row gather_S4096x2_S4096x1_S4096x2_1_0_n_n_0_1_12 rfl rfl rfl rfl rfl _ _ n a (σ n) (r228 x0 x5 x6 σ hσ n) (by decide)).trans (r221 x0 x5 x6 (σ n) a)
theorem r243 (q : Fin 3) : val_main_v243 (F := Ideal) x0 x1 x5 x6 (ix2 n q) = x1 (ix2 (σ n) q) := by
  unfold val_main_v243
  exact Routing.gather_row gather_S4096x3_S4096x1_S4096x3_1_0_n_n_0_1_13 rfl rfl rfl rfl rfl _ _ n q (σ n) (r242 x0 x5 x6 σ hσ n) (by decide)
theorem r256 : val_main_v256 (F := Ideal) x0 x2 x5 x6 (ix1 n) = sig (x2 (ix1 (σ n))) := by
  unfold val_main_v256
  exact (Routing.gather_take1 gather_S4096_S4096x1_S4096_n_0_n_n_0_1_1 rfl rfl rfl rfl _ _ n (σ n) (r255 x0 x5 x6 σ hσ n) (by decide)).trans (r249 x2 (σ n))
theorem r263 : val_main_v263 (F := Ideal) x0 x5 x6 (ix1 n) = rVis (fun j => val_main_v65 (F := Ideal) x0 x5 x6 (ix2 (σ n) j)) := by
  unfold val_main_v263
  exact (Routing.gather_take1 gather_S4096_S4096x1_S4096_n_0_n_n_0_1_1 rfl rfl rfl rfl _ _ n (σ n) (r262 x0 x5 x6 σ hσ n) (by decide)).trans (r85 x0 x5 x6 (σ n))
end

theorem take22 {α : Type} (x : S4096x2x2.Idx → α) (idx : IVec S4096x1 32) (b : Fin 4096) (h : idx (ix2 n 0) = BitVec.ofNat 32 b.val) (i j : Fin 2) :
    Host.gather gather_S4096x2x2_S4096x1_S4096x2x2_12_0_n_n_0_1_122 x idx (ix3 n i j) = x (ix3 b i j) := by
  unfold Host.gather
  refine congrArg x (funext fun a => Fin.ext ?_)
  show gather_S4096x2x2_S4096x1_S4096x2x2_12_0_n_n_0_1_122.start (ix3 n i j) idx a + gather_S4096x2x2_S4096x1_S4096x2x2_12_0_n_n_0_1_122.batchCoord (ix3 n i j) a
      + gather_S4096x2x2_S4096x1_S4096x2x2_12_0_n_n_0_1_122.offCoord (ix3 n i j) a = _
  match a with
  | ⟨0, _⟩ =>
    show _ = b.val
    rw [GatherDims.batchCoord_eq_zero _ _ _ List.not_mem_nil, GatherDims.offCoord_eq_zero _ _ _ (fun h => ((GatherDims.mem_sKept _ _).mp h).1 (List.mem_singleton.mpr rfl))]
    simp -implicitDefEqProofs only [Nat.add_zero]
    unfold GatherDims.start
    rw [dif_pos (show (⟨0, by decide⟩ : Fin 3) ∈ gather_S4096x2x2_S4096x1_S4096x2x2_12_0_n_n_0_1_122.startIndexMap from List.mem_singleton.mpr rfl)]
    rw [show gather_S4096x2x2_S4096x1_S4096x2x2_12_0_n_n_0_1_122.siIdx (ix3 n i j) _ = ix2 n 0 from funext fun b => Fin.ext (match b with | ⟨0, _⟩ => rfl | ⟨1, _⟩ => rfl), h]
    show min (BitVec.ofNat 32 b.val).toInt.toNat 4095 = b.val
    rw [StableHlo.Predicate.toInt_ofNat_small _ (by omega)]
    omega
  | ⟨1, _⟩ =>
    show _ = i.val
    rw [GatherDims.batchCoord_eq_zero _ _ _ List.not_mem_nil]
    unfold GatherDims.start GatherDims.offCoord
    rw [dif_neg (show (⟨1, by decide⟩ : Fin 3) ∉ gather_S4096x2x2_S4096x1_S4096x2x2_12_0_n_n_0_1_122.startIndexMap from by decide),
      dif_pos (show (⟨1, by decide⟩ : Fin 3) ∈ gather_S4096x2x2_S4096x1_S4096x2x2_12_0_n_n_0_1_122.sKept from (GatherDims.mem_sKept _ _).mpr ⟨by decide, by decide⟩)]
    simp -implicitDefEqProofs only [Nat.zero_add]
    rfl
  | ⟨2, _⟩ =>
    show _ = j.val
    rw [GatherDims.batchCoord_eq_zero _ _ _ List.not_mem_nil]
    unfold GatherDims.start GatherDims.offCoord
    rw [dif_neg (show (⟨2, by decide⟩ : Fin 3) ∉ gather_S4096x2x2_S4096x1_S4096x2x2_12_0_n_n_0_1_122.startIndexMap from by decide),
      dif_pos (show (⟨2, by decide⟩ : Fin 3) ∈ gather_S4096x2x2_S4096x1_S4096x2x2_12_0_n_n_0_1_122.sKept from (GatherDims.mem_sKept _ _).mpr ⟨by decide, by decide⟩)]
    simp -implicitDefEqProofs only [Nat.zero_add]
    rfl

theorem kDet (a b c : EReal) : FloatOps.maximumf (F := Ideal) (φ := .f32) (FloatOps.subf (F := Ideal) (φ := .f32) (FloatOps.mulf (F := Ideal) (φ := .f32) a c) (FloatOps.mulf (F := Ideal) (φ := .f32) b b))
    (FloatOps.ofBits (F := Ideal) .f32 0x322BCC77#32) = max (a * c - b * b) cDet := rfl
theorem kQuad (a b c x y : EReal) : FloatOps.mulf (F := Ideal) (φ := .f32) (FloatOps.ofBits (F := Ideal) .f32 0xBF000000#32)
    (FloatOps.addf (F := Ideal) (φ := .f32) (FloatOps.addf (F := Ideal) (φ := .f32) (FloatOps.mulf (F := Ideal) (φ := .f32) (FloatOps.mulf (F := Ideal) (φ := .f32) a x) x)
      (FloatOps.mulf (F := Ideal) (φ := .f32) (FloatOps.mulf (F := Ideal) (φ := .f32) (FloatOps.mulf (F := Ideal) (φ := .f32) (FloatOps.ofBits (F := Ideal) .f32 0x40000000#32) b) x) y))
      (FloatOps.mulf (F := Ideal) (φ := .f32) (FloatOps.mulf (F := Ideal) (φ := .f32) c y) y)) = cNegHalf * quad a b c x y := rfl
theorem kAlpha (o e v : EReal) : FloatOps.minimumf (F := Ideal) (φ := .f32) (FloatOps.ofBits (F := Ideal) .f32 0x3F7FBE77#32) (FloatOps.maximumf (F := Ideal) (φ := .f32) (FloatOps.ofBits (F := Ideal) .f32 0x00000000#32)
    (FloatOps.mulf (F := Ideal) (φ := .f32) (FloatOps.mulf (F := Ideal) (φ := .f32) o (FloatOps.hostUnary (F := Ideal) (φ := .f32) .exp e)) v)) = min cCap (max 0 (o * Ideal.exp e * v)) := by
  rw [show FloatOps.ofBits (F := Ideal) .f32 0x00000000#32 = (0 : EReal) from Ideal.ofBits_zero_f32]; rfl

/-- What the reference makes of a Gaussian: its conic and its share of a pixel. -/
def rC (R : Fin 3 → Fin 3 → EReal) (P : Fin 3 → EReal) (q : Fin 4 → EReal) (s : Fin 3 → EReal) : Fin 2 → Fin 2 → EReal := rFlat (rCov R q s) (rJac P)
def rDet (C : Fin 2 → Fin 2 → EReal) : EReal := max (C 0 0 * C 1 1 - C 0 1 * C 0 1) cDet
def rPow (R : Fin 3 → Fin 3 → EReal) (P : Fin 3 → EReal) (q : Fin 4 → EReal) (s : Fin 3 → EReal) (m : ℕ) : EReal :=
  cNegHalf * quad (Ideal.div (rC R P q s 1 1) (rDet (rC R P q s))) (Ideal.div (-(rC R P q s 0 1)) (rDet (rC R P q s))) (Ideal.div (rC R P q s 0 0) (rDet (rC R P q s)))
    (pixX m - rMu (P 0) (P 2)) (pixY m - rMu (P 1) (P 2))
def rAlpha (R : Fin 3 → Fin 3 → EReal) (P : Fin 3 → EReal) (q : Fin 4 → EReal) (s : Fin 3 → EReal) (o : EReal) (m : ℕ) : EReal :=
  min cCap (max 0 (sig o * Ideal.exp (rPow R P q s m) * FloatOps.uitofp (F := Ideal) .f32 (rVis P)))

section
include hσ
theorem r236 (a b : Fin 2) : val_main_v236 (F := Ideal) x0 x3 x4 x5 x6 (ix3 n a b)
    = rC (fun a b => val_main_v60 (F := Ideal) x5 (ix2 a b)) (fun j => val_main_v65 (F := Ideal) x0 x5 x6 (ix2 (σ n) j)) (fun k => x3 (ix2 (σ n) k)) (fun k => x4 (ix2 (σ n) k)) a b := by
  unfold val_main_v236
  exact (take22 n _ _ (σ n) (r235 x0 x5 x6 σ hσ n) a b).trans (r208 x0 x3 x4 x5 x6 (σ n) a b)
theorem r266 : val_main_v266 (F := Ideal) x0 x3 x4 x5 x6 (ix1 n)
    = rC (fun a b => val_main_v60 (F := Ideal) x5 (ix2 a b)) (fun j => val_main_v65 (F := Ideal) x0 x5 x6 (ix2 (σ n) j)) (fun k => x3 (ix2 (σ n) k)) (fun k => x4 (ix2 (σ n) k)) 0 0 := by
  rw [val_main_v266_apply, val_main_v265_apply, i22 n 0 0 (idx_main_v265 (idx_main_v266 (ix1 n))) (Nat.div_one _) rfl rfl, r236 x0 x3 x4 x5 x6 σ hσ]
theorem r268 : val_main_v268 (F := Ideal) x0 x3 x4 x5 x6 (ix1 n)
    = rC (fun a b => val_main_v60 (F := Ideal) x5 (ix2 a b)) (fun j => val_main_v65 (F := Ideal) x0 x5 x6 (ix2 (σ n) j)) (fun k => x3 (ix2 (σ n) k)) (fun k => x4 (ix2 (σ n) k)) 0 1 := by
  rw [val_main_v268_apply, val_main_v267_apply, i22 n 0 1 (idx_main_v267 (idx_main_v268 (ix1 n))) (Nat.div_one _) rfl rfl, r236 x0 x3 x4 x5 x6 σ hσ]
theorem r270 : val_main_v270 (F := Ideal) x0 x3 x4 x5 x6 (ix1 n)
    = rC (fun a b => val_main_v60 (F := Ideal) x5 (ix2 a b)) (fun j => val_main_v65 (F := Ideal) x0 x5 x6 (ix2 (σ n) j)) (fun k => x3 (ix2 (σ n) k)) (fun k => x4 (ix2 (σ n) k)) 1 1 := by
  rw [val_main_v270_apply, val_main_v269_apply, i22 n 1 1 (idx_main_v269 (idx_main_v270 (ix1 n))) (Nat.div_one _) rfl rfl, r236 x0 x3 x4 x5 x6 σ hσ]
theorem r275 : val_main_v275 (F := Ideal) x0 x3 x4 x5 x6 (ix1 n) = rDet (rC (fun a b => val_main_v60 (F := Ideal) x5 (ix2 a b)) (fun j => val_main_v65 (F := Ideal) x0 x5 x6 (ix2 (σ n) j)) (fun k => x3 (ix2 (σ n) k)) (fun k => x4 (ix2 (σ n) k))) := by
  simp -implicitDefEqProofs only [val_main_v275_apply, val_main_v274_apply, val_main_v273_apply, val_main_v272_apply, val_main_v271_apply, val_main_cst_51_apply, r266 x0 x3 x4 x5 x6 σ hσ, r268 x0 x3 x4 x5 x6 σ hσ, r270 x0 x3 x4 x5 x6 σ hσ]
  unfold rDet
  exact kDet _ _ _
theorem r276 : val_main_v276 (F := Ideal) x0 x3 x4 x5 x6 (ix1 n) = Ideal.div ((rC (fun a b => val_main_v60 (F := Ideal) x5 (ix2 a b)) (fun j => val_main_v65 (F := Ideal) x0 x5 x6 (ix2 (σ n) j)) (fun k => x3 (ix2 (σ n) k)) (fun k => x4 (ix2 (σ n) k))) 1 1) (rDet (rC (fun a b => val_main_v60 (F := Ideal) x5 (ix2 a b)) (fun j => val_main_v65 (F := Ideal) x0 x5 x6 (ix2 (σ n) j)) (fun k => x3 (ix2 (σ n) k)) (fun k => x4 (ix2 (σ n) k)))) := by
  rw [val_main_v276_apply, r270 x0 x3 x4 x5 x6 σ hσ, r275 x0 x3 x4 x5 x6 σ hσ]; rfl
theorem r278 : val_main_v278 (F := Ideal) x0 x3 x4 x5 x6 (ix1 n) = Ideal.div (-((rC (fun a b => val_main_v60 (F := Ideal) x5 (ix2 a b)) (fun j => val_main_v65 (F := Ideal) x0 x5 x6 (ix2 (σ n) j)) (fun k => x3 (ix2 (σ n) k)) (fun k => x4 (ix2 (σ n) k))) 0 1)) (rDet (rC (fun a b => val_main_v60 (F := Ideal) x5 (ix2 a b)) (fun j => val_main_v65 (F := Ideal) x0 x5 x6 (ix2 (σ n) j)) (fun k => x3 (ix2 (σ n) k)) (fun k => x4 (ix2 (σ n) k)))) := by
  rw [val_main_v278_apply, val_main_v277_apply, r268 x0 x3 x4 x5 x6 σ hσ, r275 x0 x3 x4 x5 x6 σ hσ]; rfl
theorem r279 : val_main_v279 (F := Ideal) x0 x3 x4 x5 x6 (ix1 n) = Ideal.div ((rC (fun a b => val_main_v60 (F := Ideal) x5 (ix2 a b)) (fun j => val_main_v65 (F := Ideal) x0 x5 x6 (ix2 (σ n) j)) (fun k => x3 (ix2 (σ n) k)) (fun k => x4 (ix2 (σ n) k))) 0 0) (rDet (rC (fun a b => val_main_v60 (F := Ideal) x5 (ix2 a b)) (fun j => val_main_v65 (F := Ideal) x0 x5 x6 (ix2 (σ n) j)) (fun k => x3 (ix2 (σ n) k)) (fun k => x4 (ix2 (σ n) k)))) := by
  rw [val_main_v279_apply, r266 x0 x3 x4 x5 x6 σ hσ, r275 x0 x3 x4 x5 x6 σ hσ]; rfl
end

theorem fl (k : ℕ) (h : k < 64) : FloatOps.sitofp (F := Ideal) .f32 (BitVec.ofNat 32 k) = ((k : ℝ) : EReal) := by
  show ((((BitVec.ofNat 32 k).toInt : ℤ) : ℝ) : EReal) = _
  rw [StableHlo.Predicate.toInt_ofNat_small _ (by omega)]
  push_cast; rfl
theorem r288 : val_main_v288 (F := Ideal) (ix1 p) = pixX p.val := by
  rw [val_main_v288_apply, val_main_v287_apply, val_main_v282_apply, val_main_v281_apply, val_main_cst_52_apply]
  exact congrArg (· + cHalf) (fl (p.val % 64) (Nat.mod_lt _ (by decide)))
theorem r289 : val_main_v289 (F := Ideal) (ix1 p) = pixY p.val := by
  rw [val_main_v289_apply, val_main_v286_apply, val_main_v285_apply, val_main_v284_apply, val_main_cst_53_apply]
  exact congrArg (· + cHalf) (fl (p.val / 64) (by have := p.isLt; omega))
theorem r292 (a : Fin 2) : val_main_v292 (F := Ideal) (ix2 p a) = (if a = 0 then pixX p.val else pixY p.val) := by
  unfold val_main_v292
  match a with
  | ⟨0, _⟩ =>
    refine (pair2_0 p _ _ _).trans ?_
    rw [val_main_v290_apply, i1 p (idx_main_v290 (ix2 p 0)) rfl, r288]; rfl
  | ⟨1, _⟩ =>
    refine (pair2_1 p _ _ _).trans ?_
    rw [val_main_v291_apply, i1 p (idx_main_v291 (ix2 p 0)) rfl, r289]; rfl

section
include hσ
theorem r301 : val_main_v301 (F := Ideal) x0 x5 x6 (ix2 p n)
    = pixX p.val - rMu (val_main_v65 (F := Ideal) x0 x5 x6 (ix2 (σ n) 0)) (val_main_v65 (F := Ideal) x0 x5 x6 (ix2 (σ n) 2)) := by
  rw [val_main_v301_apply, val_main_v299_apply, val_main_v295_apply, val_main_v294_apply, val_main_v293_apply,
    i2 p (0 : Fin 2) (idx_main_v293 (idx_main_v294 (idx_main_v295 (idx_main_v299 (ix2 p n))))) (Nat.div_one _) rfl, r292,
    val_main_v300_apply, val_main_v298_apply, val_main_v297_apply, val_main_v296_apply,
    i2 n (0 : Fin 2) (idx_main_v296 (idx_main_v297 (idx_main_v298 (idx_main_v300 (ix2 p n))))) (Nat.div_one _) rfl, r229 x0 x5 x6 σ hσ]
  rfl
theorem r310 : val_main_v310 (F := Ideal) x0 x5 x6 (ix2 p n)
    = pixY p.val - rMu (val_main_v65 (F := Ideal) x0 x5 x6 (ix2 (σ n) 1)) (val_main_v65 (F := Ideal) x0 x5 x6 (ix2 (σ n) 2)) := by
  rw [val_main_v310_apply, val_main_v308_apply, val_main_v304_apply, val_main_v303_apply, val_main_v302_apply,
    i2 p (1 : Fin 2) (idx_main_v302 (idx_main_v303 (idx_main_v304 (idx_main_v308 (ix2 p n))))) (Nat.div_one _) rfl, r292,
    val_main_v309_apply, val_main_v307_apply, val_main_v306_apply, val_main_v305_apply,
    i2 n (1 : Fin 2) (idx_main_v305 (idx_main_v306 (idx_main_v307 (idx_main_v309 (ix2 p n))))) (Nat.div_one _) rfl, r229 x0 x5 x6 σ hσ]
  rfl

theorem r328 : val_main_v328 (F := Ideal) x0 x3 x4 x5 x6 (ix2 p n) = rPow (fun a b => val_main_v60 (F := Ideal) x5 (ix2 a b)) (fun j => val_main_v65 (F := Ideal) x0 x5 x6 (ix2 (σ n) j)) (fun k => x3 (ix2 (σ n) k)) (fun k => x4 (ix2 (σ n) k)) p.val := by
  simp -implicitDefEqProofs only [val_main_v328_apply, val_main_v327_apply, val_main_v326_apply, val_main_v325_apply, val_main_v324_apply, val_main_v323_apply, val_main_v322_apply, val_main_v321_apply, val_main_v320_apply, val_main_v319_apply, val_main_v318_apply, val_main_v317_apply, val_main_v316_apply, val_main_v315_apply, val_main_v314_apply, val_main_v313_apply, val_main_v312_apply, val_main_v311_apply, val_main_cst_54_apply, val_main_cst_55_apply]
  rw [i1 n (idx_main_v311 (idx_main_v312 (ix2 p n))) rfl, i1 n (idx_main_v315 (idx_main_v318 (ix2 p n))) rfl, i1 n (idx_main_v322 (idx_main_v323 (ix2 p n))) rfl, r301 x0 x5 x6 σ hσ, r310 x0 x5 x6 σ hσ, r276 x0 x3 x4 x5 x6 σ hσ, r278 x0 x3 x4 x5 x6 σ hσ, r279 x0 x3 x4 x5 x6 σ hσ]
  unfold rPow
  exact kQuad _ _ _ _ _
theorem r336 : val_main_v336 (F := Ideal) x0 x2 x3 x4 x5 x6 (ix2 p n) = rAlpha (fun a b => val_main_v60 (F := Ideal) x5 (ix2 a b)) (fun j => val_main_v65 (F := Ideal) x0 x5 x6 (ix2 (σ n) j)) (fun k => x3 (ix2 (σ n) k)) (fun k => x4 (ix2 (σ n) k)) (x2 (ix1 (σ n))) p.val := by
  simp -implicitDefEqProofs only [val_main_v336_apply, val_main_call3_v4_apply, val_main_call3_v3_apply, val_main_call3_v2_apply, val_main_call3_v1_apply, val_main_call3_v0_apply, val_main_v335_apply, val_main_v334_apply, val_main_v333_apply, val_main_v332_apply, val_main_v331_apply, val_main_v330_apply, val_main_v329_apply, val_main_cst_56_apply, val_main_cst_57_apply]
  rw [i1 n (idx_main_v329 (idx_main_v331 (ix2 p n))) rfl, i1 n (idx_main_v333 (idx_main_v334 (ix2 p n))) rfl, val_main_v264_apply, r263 x0 x5 x6 σ hσ, r256 x0 x2 x5 x6 σ hσ, r328 x0 x3 x4 x5 x6 σ hσ]
  unfold rAlpha
  exact kAlpha _ _ _
end

theorem foldAdd {β : Type} (f : EReal → β → EReal) (g : β → EReal) (h : ∀ r n, f r n = r + g n) : ∀ (l : List β) (r : EReal), l.foldl f r = r + (l.map g).sum
  | [], r => by simp
  | n :: l, r => by rw [List.foldl_cons, foldAdd f g h l, h, List.map_cons, List.sum_cons, add_assoc]

theorem windowSum (f : ℕ → EReal) (j : ℕ) (hj : j < 4096) :
    ∑ w ∈ Finset.range 4096, (if 4095 ≤ j + w then f (j + w - 4095) else 0) = ∑ i ∈ Finset.range (j + 1), f i := by
  rw [show 4096 = (4095 - j) + (j + 1) by omega, Finset.sum_range_add, Finset.sum_eq_zero (fun w hw => if_neg (by have := Finset.mem_range.mp hw; omega)), zero_add]
  exact Finset.sum_congr rfl fun i hi => by rw [if_pos (by omega), show j + (4095 - j + i) - 4095 = i by omega]

theorem symmRow {N : ℕ} (n : Fin (⟨2, ![1, N]⟩ : Shape).numel) : ((⟨2, ![1, N]⟩ : Shape).rowMajor.symm n 0).val = 0 ∧ ((⟨2, ![1, N]⟩ : Shape).rowMajor.symm n 1).val = n.val := by
  rw [Routing.symm2]; exact ⟨rfl, rfl⟩

/-- The window sum over every earlier element of a row is the running sum. -/
theorem runningSum (x : S4096x4096.Idx → EReal) (f : ℕ → EReal) (p : Fin 4096) (hx : ∀ i : Fin 4096, x (ix2 p i) = f i.val) (init : S_.Idx → EReal) (hv : ∀ i, init i = 0)
    (h : S4096x4096.ReduceWindows ![1, 4096] ![1, 1] ![0, 4095] ![0, 0] S4096x4096) (hu : 0 < S_.numel) (j : Fin 4096) :
    Host.reduceWindow (· + ·) ![1, 4096] ![1, 1] ![0, 4095] ![0, 0] x init h hu (ix2 p j) = ∑ i ∈ Finset.range (j.val + 1), f i := by
  unfold Host.reduceWindow
  rw [← windowSum f j.val j.isLt]
  refine (foldAdd _ (fun n : Fin (⟨2, ![1, 4096]⟩ : Shape).numel => if 4095 ≤ j.val + n.val then f (j.val + n.val - 4095) else 0) (fun r n => ?_) _ _).trans ?_
  · obtain ⟨h0, h1⟩ := symmRow n
    have hn : n.val < 4096 := (n.cast (Routing.numel2 _)).isLt
    have hj := j.isLt
    dsimp only
    refine congrArg (r + ·) ?_
    split
    · next hin =>
      have hw := hin 1
      change 4095 ≤ j.val * 1 + ((⟨2, ![1, 4096]⟩ : Shape).rowMajor.symm n 1).val ∧ j.val * 1 + ((⟨2, ![1, 4096]⟩ : Shape).rowMajor.symm n 1).val - 4095 < 4096 at hw
      rw [h1] at hw
      rw [if_pos (by omega)]
      refine (congrArg x (funext fun a => Fin.ext ?_)).trans (hx ⟨j.val + n.val - 4095, by omega⟩)
      match a with
      | ⟨0, _⟩ =>
        show p.val * 1 + ((⟨2, ![1, 4096]⟩ : Shape).rowMajor.symm n 0).val - 0 = p.val
        rw [h0]; omega
      | ⟨1, _⟩ =>
        show j.val * 1 + ((⟨2, ![1, 4096]⟩ : Shape).rowMajor.symm n 1).val - 4095 = j.val + n.val - 4095
        rw [h1]; omega
    · next hin =>
      rw [if_neg fun hle => hin fun a => by
        match a with
        | ⟨0, _⟩ =>
          show 0 ≤ p.val * 1 + ((⟨2, ![1, 4096]⟩ : Shape).rowMajor.symm n 0).val ∧ p.val * 1 + ((⟨2, ![1, 4096]⟩ : Shape).rowMajor.symm n 0).val - 0 < 4096
          rw [h0]; have := p.isLt; omega
        | ⟨1, _⟩ =>
          show 4095 ≤ j.val * 1 + ((⟨2, ![1, 4096]⟩ : Shape).rowMajor.symm n 1).val ∧ j.val * 1 + ((⟨2, ![1, 4096]⟩ : Shape).rowMajor.symm n 1).val - 4095 < 4096
          rw [h1]; omega]
      exact hv _
  · rw [hv, zero_add, Routing.map_finRange_val _ (fun w => if 4095 ≤ j.val + w then f (j.val + w - 4095) else 0), Routing.numel2]
    simp only [Finset.sum_eq_multiset_sum, Finset.range_val, Multiset.range, Multiset.map_coe, Multiset.sum_coe]

/-- What light the earlier Gaussians of a pixel let through, as the reference adds it up: the exponential of a sum of logarithms. -/
def through (a : ℕ → EReal) (k : ℕ) : EReal := if k = 0 then cOne else Ideal.exp (∑ i ∈ Finset.range k, Ideal.log (cOne - a i + cEps))

theorem wide_0 (f : S4096x1.Idx → EReal) (g : S4096x4095.Idx → EReal) (h : Shape.Concatenates [S4096x1, S4096x4095] S4096x4096 1) (e : n.val = 0) :
    concatenate S4096x4096 1 [⟨S4096x1, f⟩, ⟨S4096x4095, g⟩] h (ix2 p n) = f (ix2 p 0) :=
  concatenate_pair_apply_left (t := S4096x4096) 1 f g h (ix2 p n) rfl (ix2 p 0) (fun b => match b with | ⟨0, _⟩ => rfl | ⟨1, _⟩ => e.symm)
theorem wide_1 (f : S4096x1.Idx → EReal) (g : S4096x4095.Idx → EReal) (h : Shape.Concatenates [S4096x1, S4096x4095] S4096x4096 1) (m : Fin 4095) (e : m.val + 1 = n.val) :
    concatenate S4096x4096 1 [⟨S4096x1, f⟩, ⟨S4096x4095, g⟩] h (ix2 p n) = g (ix2 p m) :=
  concatenate_pair_apply_right (t := S4096x4096) 1 f g h (ix2 p n) rfl rfl (ix2 p m) (fun b hb => match b with | ⟨0, _⟩ => rfl | ⟨1, _⟩ => (hb rfl).elim) e

section
variable (a : ℕ → EReal) (ha : ∀ i : Fin 4096, val_main_v336 (F := Ideal) x0 x2 x3 x4 x5 x6 (ix2 p i) = a i.val)
include ha
theorem r341 : val_main_v341 (F := Ideal) x0 x2 x3 x4 x5 x6 (ix2 p n) = Ideal.log (cOne - a n.val + cEps) := by
  rw [val_main_v341_apply, val_main_v340_apply, val_main_v338_apply, val_main_v337_apply, val_main_cst_58_apply, val_main_v339_apply, val_main_cst_59_apply, ha]; rfl
theorem r342 : val_main_v342 (F := Ideal) x0 x2 x3 x4 x5 x6 (ix2 p n) = ∑ i ∈ Finset.range (n.val + 1), Ideal.log (cOne - a i + cEps) := by
  unfold val_main_v342 Host.reduceWindowAdd
  have hz : val_main_call4_call0_v0 (F := Ideal) (Shape.Idx.first h_S_) = (0 : EReal) :=
    (val_main_call4_call0_v0_apply _).trans ((val_main_call4_call0_cst_apply _).trans Ideal.ofBits_zero_f32)
  rw [Ideal.hostReduceWindowAdd_def, hz]
  unfold Ideal.hostReduceWindowAdd
  exact runningSum (val_main_v341 (F := Ideal) x0 x2 x3 x4 x5 x6) (fun i => Ideal.log (cOne - a i + cEps)) p (fun i => r341 x0 x2 x3 x4 x5 x6 p i a ha) _ (fun _ => rfl) _ _ n
theorem r346 : val_main_v346 (F := Ideal) x0 x2 x3 x4 x5 x6 (ix2 p n) = through a n.val := by
  unfold val_main_v346 through
  by_cases h : n.val = 0
  · rw [if_pos h]
    refine (wide_0 p n _ _ _ h).trans ?_
    rw [val_main_v344_apply, val_main_cst_60_apply]; rfl
  · rw [if_neg h]
    have hn : n.val - 1 < 4095 := by have := n.isLt; omega
    have e1 : n.val - 1 + 1 = n.val := by omega
    refine (wide_1 p n _ _ _ ⟨n.val - 1, hn⟩ e1).trans ?_
    have e : idx_main_v345 (ix2 p ⟨n.val - 1, hn⟩) = ix2 p ⟨n.val - 1, by omega⟩ := funext fun a => match a with | ⟨0, _⟩ => rfl | ⟨1, _⟩ => rfl
    rw [val_main_v345_apply, val_main_v343_apply, e, r342 x0 x2 x3 x4 x5 x6 p _ a ha]
    show Ideal.exp (∑ i ∈ Finset.range (n.val - 1 + 1), _) = _
    rw [e1]
include hσ
/-- The reference's picture. -/
theorem r349 (i : S64x64x3.Idx) (q : Fin 3) (hq : q.val = (i 2).val) (hp : p.val = (i 0).val * 64 + (i 1).val) (r : ℕ → EReal) (hr : ∀ s : Fin 4096, x1 (ix2 (σ s) q) = r s.val) :
    val_main_v349 (F := Ideal) x0 x1 x2 x3 x4 x5 x6 i = ∑ s ∈ Finset.range 4096, through a s * a s * r s := by
  have h2 : (i 2).val < 3 := (i 2).isLt
  rw [val_main_v349_apply, i2 p q (idx_main_v349 i) (show (((i 0).val * 64 + (i 1).val) * 3 + (i 2).val) / 3 = p.val by omega)
    (show (((i 0).val * 64 + (i 1).val) * 3 + (i 2).val) % 3 = q.val by omega), val_main_v348_apply, Finset.sum_range]
  refine Finset.sum_congr rfl fun s _ => ?_
  have el : lidx_main_v348 (ix2 p q) s = ix2 p s := funext fun a => match a with | ⟨0, _⟩ => rfl | ⟨1, _⟩ => rfl
  have er : ridx_main_v348 (ix2 p q) s = ix2 s q := funext fun a => match a with | ⟨0, _⟩ => rfl | ⟨1, _⟩ => rfl
  rw [el, er, val_main_v347_apply, r346 x0 x2 x3 x4 x5 x6 p s a ha, ha, r243 x0 x1 x5 x6 σ hσ s q, hr]
  rfl
end

end Cert.RefVal

end
-- ==== Proof.Splat.lean ====
/- One Gaussian, and one pixel: what the kernel makes of them is what the reference makes of them. -/
module

public import proofs.«01_k».proof.Proof.RefSum
public import Mathlib.Tactic.Ring
public import Mathlib.Tactic.Linarith
public import Mathlib.Tactic.Positivity
public import Mathlib.Tactic.FinCases
public import Mathlib.Tactic.NormNum

@[expose] public section

set_option maxRecDepth 1024

noncomputable section

namespace Cert.Splat

open Idealize.ShloMosaic Cert.Scene Cert.RefVal

theorem vTwo : cTwo = ((2 : ℝ) : EReal) := by simp [cTwo, Ideal.ofBits, Ideal.ieee, -EReal.coe_mul]; norm_num
theorem vOne : cOne = ((1 : ℝ) : EReal) := by simp [cOne, Ideal.ofBits, Ideal.ieee, -EReal.coe_mul]; norm_num
theorem vCap : cCap = ((16760439 / 16777216 : ℝ) : EReal) := by simp [cCap, Ideal.ofBits, Ideal.ieee, -EReal.coe_mul]; norm_num
theorem vEps : ∃ r : ℝ, 0 < r ∧ cEps = (r : EReal) := by
  refine ⟨14411519 * 2 ^ (-57 : ℤ), by positivity, ?_⟩
  simp [cEps, Ideal.ofBits, Ideal.ieee, -EReal.coe_mul]
theorem vTiny : ∃ r : ℝ, 0 < r ∧ cTiny = (r : EReal) := by
  refine ⟨8796093 * 2 ^ (-43 : ℤ), by positivity, ?_⟩
  simp [cTiny, Ideal.ofBits, Ideal.ieee, -EReal.coe_mul]
theorem vDet : ∃ r : ℝ, 0 < r ∧ cDet = (r : EReal) := by
  refine ⟨11258999 * 2 ^ (-50 : ℤ), by positivity, ?_⟩
  simp [cDet, Ideal.ofBits, Ideal.ieee, -EReal.coe_mul]
theorem vNear : ∃ r : ℝ, 0 < r ∧ cNear = (r : EReal) := by
  refine ⟨10066330 * 2 ^ (-25 : ℤ), by positivity, ?_⟩
  simp [cNear, Ideal.ofBits, Ideal.ieee, -EReal.coe_mul]
theorem vEdge : ∃ r : ℝ, cEdge = (r : EReal) := by
  refine ⟨10066330 * 2 ^ (-24 : ℤ), ?_⟩
  simp [cEdge, Ideal.ofBits, Ideal.ieee, -EReal.coe_mul]
theorem vFocal : cFocal = ((64 : ℝ) : EReal) := by simp [cFocal, Ideal.ofBits, Ideal.ieee, -EReal.coe_mul]; norm_num
theorem vNegFocal : cNegFocal = ((-64 : ℝ) : EReal) := by simp [cNegFocal, Ideal.ofBits, Ideal.ieee, -EReal.coe_mul, -EReal.coe_neg]; norm_num

theorem div_top (x : EReal) : Ideal.div x ⊤ = 0 := by rw [Ideal.div, if_neg (by simp), EReal.inv_top, mul_zero]

/-- A quaternion that is not all zeros is normalised to reals, whichever way it is done. -/
theorem unit (q : Fin 4 → EReal) (hq : ∃ k, q k ≠ 0) : ∃ r : Fin 4 → ℝ, ∀ j, rQ q j = (r j : EReal) ∧
    q j * Ideal.rsqrt (q 0 * q 0 + q 1 * q 1 + q 2 * q 2 + q 3 * q 3) = (r j : EReal) := by
  have hs : q 0 * q 0 + q 1 * q 1 + q 2 * q 2 + q 3 * q 3 = ∑ k : Fin 4, q k * q k := (Fin.sum_univ_four (fun k => q k * q k)).symm
  by_cases h : ∀ j, ∃ x : ℝ, q j = (x : EReal)
  · choose x hx using h
    have hS : (∑ k : Fin 4, q k * q k) = ((x 0 * x 0 + x 1 * x 1 + x 2 * x 2 + x 3 * x 3 : ℝ) : EReal) := by
      rw [Fin.sum_univ_four]; simp only [hx]; push_cast; rfl
    have hpos : 0 < x 0 * x 0 + x 1 * x 1 + x 2 * x 2 + x 3 * x 3 := by
      obtain ⟨k, hk⟩ := hq
      have hk' : x k ≠ 0 := fun e => hk (by rw [hx, e]; rfl)
      have h0 := mul_self_nonneg (x 0); have h1 := mul_self_nonneg (x 1); have h2 := mul_self_nonneg (x 2); have h3 := mul_self_nonneg (x 3)
      have hp := mul_self_pos.mpr hk'
      match k with
      | 0 => linarith
      | 1 => linarith
      | 2 => linarith
      | 3 => linarith
    refine ⟨fun j => x j * (Real.sqrt (x 0 * x 0 + x 1 * x 1 + x 2 * x 2 + x 3 * x 3))⁻¹, fun j => ⟨?_, ?_⟩⟩
    · unfold rQ
      rw [zero_add, hS, Ideal.sqrt_coe, if_neg (not_lt.mpr hpos.le), Ideal.div_coe (Real.sqrt_pos.mpr hpos).ne', hx, one_div, ← EReal.coe_mul]
    · rw [hs, hS, Ideal.rsqrt_coe, if_neg (not_lt.mpr hpos.le), if_neg hpos.ne', hx, ← EReal.coe_mul]
  · have hn : ∀ k, 0 ≤ q k * q k := fun k => by
      generalize q k = y
      induction y using EReal.rec with
      | bot => simp
      | top => simp
      | coe r => rw [← EReal.coe_mul]; exact_mod_cast mul_self_nonneg r
    obtain ⟨j, hj⟩ := not_forall.mp h
    have ht : q j * q j = ⊤ := by
      generalize q j = y at hj
      induction y using EReal.rec with
      | bot => simp
      | top => simp
      | coe r => exact (hj ⟨r, rfl⟩).elim
    have hS : (∑ k : Fin 4, q k * q k) = ⊤ := top_le_iff.mp (ht ▸ Finset.single_le_sum (f := fun k => q k * q k) (fun k _ => hn k) (Finset.mem_univ j))
    refine ⟨fun _ => 0, fun k => ⟨?_, ?_⟩⟩
    · unfold rQ
      rw [zero_add, hS, Ideal.sqrt_top, div_top]; rfl
    · rw [hs, hS, Ideal.rsqrt_top, mul_zero]; rfl

theorem sig_eq (x : EReal) : sig x = Ideal.logistic x := by
  unfold sig Ideal.logistic
  rw [vOne]; rfl
theorem logistic_real (x : EReal) : ∃ r : ℝ, 0 ≤ r ∧ Ideal.logistic x = (r : EReal) := by
  induction x using EReal.rec with
  | bot => exact ⟨0, le_rfl, by simp⟩
  | top => exact ⟨1, zero_le_one, by simp⟩
  | coe r => exact ⟨_, by positivity, Ideal.logistic_coe r⟩

/-- The rotation of a real quaternion. -/
def rrot (w x y z : ℝ) : Fin 3 → Fin 3 → ℝ :=
  ![![1 - 2 * (y * y + z * z), 2 * (x * y - w * z), 2 * (x * z + w * y)],
    ![2 * (x * y + w * z), 1 - 2 * (x * x + z * z), 2 * (y * z - w * x)],
    ![2 * (x * z - w * y), 2 * (y * z + w * x), 1 - 2 * (x * x + y * y)]]

theorem rot_coe (w x y z : ℝ) (i j : Fin 3) : rot w x y z i j = (rrot w x y z i j : EReal) := by
  unfold rot rrot
  rw [vTwo]
  match i, j with
  | 0, 0 => show (1 : EReal) - _ = _; norm_cast
  | 0, 1 => show ((2 : ℝ) : EReal) * _ = _; norm_cast
  | 0, 2 => show ((2 : ℝ) : EReal) * _ = _; norm_cast
  | 1, 0 => show ((2 : ℝ) : EReal) * _ = _; norm_cast
  | 1, 1 => show (1 : EReal) - _ = _; norm_cast
  | 1, 2 => show ((2 : ℝ) : EReal) * _ = _; norm_cast
  | 2, 0 => show ((2 : ℝ) : EReal) * _ = _; norm_cast
  | 2, 1 => show ((2 : ℝ) : EReal) * _ = _; norm_cast
  | 2, 2 => show (1 : EReal) - _ = _; norm_cast

theorem rRot_eq (w x y z : EReal) (i j : Fin 3) : rRot w x y z ⟨3 * i.val + j.val, by omega⟩ = rot w x y z i j := by
  unfold rot rRot
  rw [vOne]
  match i, j with
  | 0, 0 => rfl
  | 0, 1 => rfl
  | 0, 2 => rfl
  | 1, 0 => rfl
  | 1, 1 => rfl
  | 1, 2 => rfl
  | 2, 0 => rfl
  | 2, 1 => rfl
  | 2, 2 => rfl

section
variable (R : Fin 3 → Fin 3 → EReal) (X : Fin 16 → EReal) (P : Fin 3 → EReal) (q : Fin 4 → EReal) (s : Fin 3 → EReal) (o : EReal)

/-- The kernel's column of the parameter block holds the Gaussian's parameters. -/
structure Holds : Prop where
  p0 : X 0 = P 0
  p1 : X 1 = P 1
  p2 : X 2 = P 2
  q0 : X 3 = q 0
  q1 : X 4 = q 1
  q2 : X 5 = q 2
  q3 : X 6 = q 3
  s0 : X 7 = s 0
  s1 : X 8 = s 1
  s2 : X 9 = s 2
  o0 : X 10 = o

variable (h : Holds X P q s o) (hq : ∃ k, q k ≠ 0)
include h hq

theorem mat_real : ∃ M : Fin 3 → Fin 3 → ℝ, ∀ i j, kMat X i j = (M i j : EReal) ∧ rMat q s i j = (M i j : EReal) := by
  obtain ⟨r, hr⟩ := unit q hq
  choose t ht0 ht using fun j : Fin 3 => logistic_real (s j)
  refine ⟨fun i j => rrot (r 0) (r 1) (r 2) (r 3) i j * t j, fun i j => ⟨?_, ?_⟩⟩
  · unfold kMat scaled kNorm
    rw [h.q0, h.q1, h.q2, h.q3, (hr 0).2, (hr 1).2, (hr 2).2, (hr 3).2, rot_coe, h.s0, h.s1, h.s2, ht 0, ht 1, ht 2, EReal.coe_mul]
    refine congrArg _ ?_
    match j with
    | 0 => rfl
    | 1 => rfl
    | 2 => rfl
  · unfold rMat
    rw [rRot_eq, (hr 0).1, (hr 1).1, (hr 2).1, (hr 3).1, rot_coe, sig_eq, ht, EReal.coe_mul]

theorem cov_real (hR : ∀ i j, ∃ r : ℝ, R i j = (r : EReal)) :
    ∃ V : Fin 3 → Fin 3 → ℝ, (∀ i j, V i j = V j i) ∧ ∀ i j, kCov R X i j = (V i j : EReal) ∧ rCov R q s i j = (V i j : EReal) := by
  obtain ⟨M, hM⟩ := mat_real X P q s o h hq
  choose r hr using hR
  refine ⟨fun i l => ∑ k : Fin 3, (∑ m : Fin 3, (∑ t : Fin 3, M m t * M k t) * r i m) * r l k, fun i j => ?_, fun i j => ⟨?_, ?_⟩⟩
  · simp only [Fin.sum_univ_three]; ring
  · unfold kCov conj mulT gram
    simp only [(hM _ _).1, hr, Fin.sum_univ_three]
    norm_cast
    ring
  · unfold rCov
    simp only [(hM _ _).2, hr, Fin.sum_univ_three]
    norm_cast
end

/-- A depth in view is a positive real or infinite. -/
theorem depth (z : EReal) (hz : cNear < z) : rZ z = ⊤ ∨ ∃ r : ℝ, 0 < r ∧ rZ z = (r : EReal) := by
  obtain ⟨t, ht, et⟩ := vTiny
  obtain ⟨n, hn, en⟩ := vNear
  unfold rZ
  rw [et]
  rw [en] at hz
  induction z using EReal.rec with
  | bot => exact absurd hz (by simp)
  | top => left; simp
  | coe r => right; exact ⟨max r t, lt_max_of_lt_right ht, (EReal.coe_strictMono.monotone.map_max).symm⟩

/-- A slope below the edge is a real, and so is what it is the slope of. -/
theorem slope (x : EReal) (r : ℝ) (hr : 0 < r) (hx : FloatOps.absf (F := Ideal) (φ := .f32) (Ideal.div x (r : EReal)) < cEdge) : ∃ y : ℝ, x = (y : EReal) := by
  obtain ⟨e, he⟩ := vEdge
  rw [he, Ideal.div_coe hr.ne'] at hx
  have hr' : 0 < 1 / r := by positivity
  change max (x * ((1 / r : ℝ) : EReal)) (-(x * ((1 / r : ℝ) : EReal))) < (e : EReal) at hx
  induction x using EReal.rec with
  | bot => rw [EReal.bot_mul_coe_of_pos hr'] at hx; simp at hx
  | top => rw [EReal.top_mul_coe_of_pos hr'] at hx; simp at hx
  | coe y => exact ⟨y, rfl⟩

theorem centre (x z : EReal) (hz : cNear < z) : cFocal * Ideal.div x (rZ z) + cMid = rMu x z := by
  unfold rMu
  rcases depth z hz with e | ⟨r, hr, e⟩
  · rw [e, div_top, div_top, mul_zero]
  · rw [e, Ideal.div_coe hr.ne', Ideal.div_coe hr.ne', mul_assoc]

theorem jac (x z : EReal) (hz : cNear < z) (hx : FloatOps.absf (F := Ideal) (φ := .f32) (Ideal.div x (rZ z)) < cEdge) :
    ∃ j : ℝ, Ideal.div (cNegFocal * x) (rZ z * rZ z) = (j : EReal) := by
  rcases depth z hz with e | ⟨r, hr, e⟩
  · exact ⟨0, by rw [e, EReal.top_mul_top, div_top]; rfl⟩
  · rw [e] at hx ⊢
    obtain ⟨y, rfl⟩ := slope x r hr hx
    rw [vNegFocal, ← EReal.coe_mul, ← EReal.coe_mul, Ideal.div_coe (mul_pos hr hr).ne', ← EReal.coe_mul]
    exact ⟨_, rfl⟩

theorem focal (z : EReal) (hz : cNear < z) : ∃ f : ℝ, Ideal.div cFocal (rZ z) = (f : EReal) := by
  rcases depth z hz with e | ⟨r, hr, e⟩
  · exact ⟨0, by rw [e, div_top]; rfl⟩
  · rw [e, vFocal, Ideal.div_coe hr.ne', ← EReal.coe_mul]
    exact ⟨_, rfl⟩

theorem bit (b : Bool) (h : BitVec.ofBool b = 1#1) : b = true := by cases b <;> simp_all
theorem bits (a b c : Bool) (h : IntOp.andi (IntOp.andi (BitVec.ofBool a) (BitVec.ofBool b)) (BitVec.ofBool c) = 1#1) : a = true ∧ b = true ∧ c = true := by
  revert h; cases a <;> cases b <;> cases c <;> decide

section
variable (R : Fin 3 → Fin 3 → EReal) (X : Fin 16 → EReal) (P : Fin 3 → EReal) (q : Fin 4 → EReal) (s : Fin 3 → EReal) (o : EReal)
variable (h : Holds X P q s o)
include h

theorem vis_eq : kVis X = rVis P := by
  unfold kVis rVis kZ rZ
  rw [h.p0, h.p1, h.p2]

variable (hq : ∃ k, q k ≠ 0) (hR : ∀ i j, ∃ r : ℝ, R i j = (r : EReal))
include hq hR

/-- The flattened covariance of a Gaussian in view: real, and the same for both. -/
theorem flat (hv : rVis P = 1#1) : ∃ a b c : ℝ, kA R X = (a : EReal) ∧ kB R X = (b : EReal) ∧ kC R X = (c : EReal)
    ∧ rC R P q s 0 0 = (a : EReal) ∧ rC R P q s 0 1 = (b : EReal) ∧ rC R P q s 1 1 = (c : EReal) := by
  obtain ⟨hz, hx, hy⟩ := bits _ _ _ hv
  have hz := of_decide_eq_true hz
  have hx := of_decide_eq_true hx
  have hy := of_decide_eq_true hy
  obtain ⟨V, hs, hV⟩ := cov_real R X P q s o h hq hR
  obtain ⟨f, hf⟩ := focal _ hz
  obtain ⟨j, hj⟩ := jac _ _ hz hx
  obtain ⟨k, hk⟩ := jac _ _ hz hy
  obtain ⟨n, _, hn⟩ := vNear
  have hf' : kF X = (f : EReal) := by unfold kF kZ; rw [h.p2]; exact hf
  have hj' : kJx X = (j : EReal) := by unfold kJx kZ; rw [h.p2, h.p0]; exact hj
  have hk' : kJy X = (k : EReal) := by unfold kJy kZ; rw [h.p2, h.p1]; exact hk
  have hJ : rJac P = ![![(f : EReal), 0, (j : EReal)], ![0, (f : EReal), (k : EReal)]] := by unfold rJac; rw [hf, hj, hk]
  refine ⟨f * f * V 0 0 + 2 * f * j * V 0 2 + j * j * V 2 2 + n, f * f * V 0 1 + f * k * V 0 2 + j * f * V 1 2 + j * k * V 2 2,
    f * f * V 1 1 + 2 * f * k * V 1 2 + k * k * V 2 2 + n, ?_, ?_, ?_, ?_, ?_, ?_⟩
  · unfold kA
    rw [hf', hj', vTwo, hn, (hV 0 0).1, (hV 0 2).1, (hV 2 2).1]; norm_cast
  · unfold kB
    rw [hf', hj', hk', (hV 0 1).1, (hV 0 2).1, (hV 1 2).1, (hV 2 2).1]; norm_cast
  · unfold kC
    rw [hf', hk', vTwo, hn, (hV 1 1).1, (hV 1 2).1, (hV 2 2).1]; norm_cast
  · show (∑ k : Fin 3, (∑ m : Fin 3, rCov R q s m k * rJac P 0 m) * rJac P 0 k) + cNear * 1 = _
    simp only [hJ, (hV _ _).2, Fin.sum_univ_three, hn, Matrix.cons_val_zero, Matrix.cons_val_one, Matrix.cons_val, mul_zero, add_zero, zero_add, mul_one]
    norm_cast
    rw [hs 2 0]; ring
  · show (∑ k : Fin 3, (∑ m : Fin 3, rCov R q s m k * rJac P 0 m) * rJac P 1 k) + cNear * 0 = _
    simp only [hJ, (hV _ _).2, Fin.sum_univ_three, hn, Matrix.cons_val_zero, Matrix.cons_val_one, Matrix.cons_val, mul_zero, add_zero, zero_add, mul_one]
    norm_cast
    rw [hs 2 1]; ring
  · show (∑ k : Fin 3, (∑ m : Fin 3, rCov R q s m k * rJac P 1 m) * rJac P 1 k) + cNear * 1 = _
    simp only [hJ, (hV _ _).2, Fin.sum_univ_three, hn, Matrix.cons_val_zero, Matrix.cons_val_one, Matrix.cons_val, mul_zero, add_zero, zero_add, mul_one]
    norm_cast
    rw [hs 2 1]; ring

/-- The kernel's opacity of a Gaussian at a pixel is the reference's. -/
theorem alpha_eq (m : ℕ) : alpha (kRow R X 0) (kRow R X 1) (kRow R X 2) (kRow R X 3) (kRow R X 4) (kRow R X 5) m = rAlpha R P q s o m := by
  have hcap : (0 : EReal) ≤ cCap := by rw [vCap]; exact_mod_cast (by norm_num : (0 : ℝ) ≤ 16760439 / 16777216)
  have hb : rVis P = 0#1 ∨ rVis P = 1#1 := by generalize rVis P = b; revert b; decide
  unfold alpha rAlpha
  rcases hb with hv | hv
  · have e5 : kRow R X 5 = 0 := by
      show Ideal.logistic (X 10) * FloatOps.sitofp (F := Ideal) .f32 (BitVec.setWidth 32 (kVis X)) = 0
      rw [vis_eq X P q s o h, hv]
      show Ideal.logistic (X 10) * (((BitVec.setWidth 32 (0#1)).toInt : ℝ) : EReal) = 0
      simp
    have e : FloatOps.uitofp (F := Ideal) .f32 (rVis P) = (0 : EReal) := by
      rw [hv]; show (((0#1).toNat : ℝ) : EReal) = 0; simp
    rw [e5, e, zero_mul, mul_zero, max_self, min_eq_left hcap, min_eq_right hcap]
  · have e5 : kRow R X 5 = Ideal.logistic o := by
      show Ideal.logistic (X 10) * FloatOps.sitofp (F := Ideal) .f32 (BitVec.setWidth 32 (kVis X)) = _
      rw [vis_eq X P q s o h, hv, h.o0]
      show Ideal.logistic o * (((BitVec.setWidth 32 (1#1)).toInt : ℝ) : EReal) = _
      simp
    have e : FloatOps.uitofp (F := Ideal) .f32 (rVis P) = (1 : EReal) := by
      rw [hv]; show (((1#1).toNat : ℝ) : EReal) = 1; simp
    obtain ⟨hz, -, -⟩ := bits _ _ _ hv
    have hz := of_decide_eq_true hz
    obtain ⟨a, b, c, ha, hb, hc, ha', hb', hc'⟩ := flat R X P q s o h hq hR hv
    obtain ⟨d, hd, ed⟩ := vDet
    have hk1 : kVis X = 1#1 := (vis_eq X P q s o h).trans hv
    have sel : ∀ x : EReal, Scalar.select (kVis X) x 0 = x := fun x => by rw [hk1]; rfl
    have hdet : ∃ D : ℝ, 0 < D ∧ max ((a : EReal) * c - b * b) cDet = (D : EReal) :=
      ⟨max (a * c - b * b) d, lt_max_of_lt_right hd, by rw [ed, ← EReal.coe_mul, ← EReal.coe_mul, ← EReal.coe_sub]; exact (EReal.coe_strictMono.monotone.map_max).symm⟩
    obtain ⟨D, hD, eD⟩ := hdet
    have hI : kInv R X = ((1 / D : ℝ) : EReal) := by
      unfold kInv
      rw [ha, hb, hc, eD, Ideal.div_coe hD.ne', one_mul]
    have hrD : rDet (rC R P q s) = (D : EReal) := by unfold rDet; rw [ha', hb', hc', eD]
    have e0 : kRow R X 0 = rMu (P 0) (P 2) := by
      show Scalar.select (kVis X) (cFocal * Ideal.div (X 0) (kZ X) + cMid) 0 = _
      rw [sel]; unfold kZ; rw [h.p0, h.p2]; exact centre _ _ hz
    have e1 : kRow R X 1 = rMu (P 1) (P 2) := by
      show Scalar.select (kVis X) (cFocal * Ideal.div (X 1) (kZ X) + cMid) 0 = _
      rw [sel]; unfold kZ; rw [h.p1, h.p2]; exact centre _ _ hz
    have e2 : kRow R X 2 = Ideal.div (rC R P q s 1 1) (rDet (rC R P q s)) := by
      show Scalar.select (kVis X) (kC R X * kInv R X) 0 = _
      rw [sel, hI, hc, hc', hrD, Ideal.div_coe hD.ne']
    have e3 : kRow R X 3 = Ideal.div (-(rC R P q s 0 1)) (rDet (rC R P q s)) := by
      show Scalar.select (kVis X) ((0 - kB R X) * kInv R X) 0 = _
      rw [sel, hI, hb, hb', hrD, Ideal.div_coe hD.ne', zero_sub]
    have e4 : kRow R X 4 = Ideal.div (rC R P q s 0 0) (rDet (rC R P q s)) := by
      show Scalar.select (kVis X) (kA R X * kInv R X) 0 = _
      rw [sel, hI, ha, ha', hrD, Ideal.div_coe hD.ne']
    rw [e0, e1, e2, e3, e4, e5, e, mul_one, sig_eq, min_comm]
    show min cCap (Ideal.logistic o * Ideal.exp (rPow R P q s m)) = _
    obtain ⟨t, ht0, ht⟩ := logistic_real o
    have hexp : 0 ≤ Ideal.exp (rPow R P q s m) := by
      generalize rPow R P q s m = y
      induction y using EReal.rec with
      | bot => simp
      | top => simp
      | coe r => rw [Ideal.exp_coe]; exact_mod_cast (Real.exp_pos r).le
    rw [max_eq_right (mul_nonneg (by rw [ht]; exact_mod_cast ht0) hexp)]

omit h hq hR in
/-- It lies between nothing and the cap. -/
theorem rAlpha_mem (m : ℕ) : 0 ≤ rAlpha R P q s o m ∧ rAlpha R P q s o m ≤ cCap := by
  have hcap : (0 : EReal) ≤ cCap := by rw [vCap]; exact_mod_cast (by norm_num : (0 : ℝ) ≤ 16760439 / 16777216)
  exact ⟨le_min hcap (le_max_left _ _), min_le_left _ _⟩
end

/-- The exponential of the sum of logarithms is the product. -/
theorem through_eq (a : ℕ → EReal) (N : ℕ) (ha : ∀ i < N, 0 ≤ a i ∧ a i ≤ cCap) (k : ℕ) (hk : k ≤ N) : through a k = left a k := by
  obtain ⟨e, he, ee⟩ := vEps
  have hu : ∀ i < N, ∃ u : ℝ, 0 < u ∧ cOne - a i + cEps = (u : EReal) := by
    intro i hi
    obtain ⟨h0, h1⟩ := ha i hi
    rw [vCap] at h1
    generalize a i = y at h0 h1
    induction y using EReal.rec with
    | bot => exact absurd h0 (by simp)
    | top => exact absurd h1 (by simp)
    | coe r =>
      have h1 : r ≤ 16760439 / 16777216 := by exact_mod_cast h1
      exact ⟨1 - r + e, by have : (16760439 / 16777216 : ℝ) < 1 := by norm_num
                           linarith, by rw [vOne, ee]; norm_cast⟩
  unfold through left thru
  have key : ∀ k ≤ N, ∃ L : ℝ, (∑ i ∈ Finset.range k, Ideal.log (cOne - a i + cEps)) = (L : EReal) ∧ ((Real.exp L : ℝ) : EReal) = ∏ i ∈ Finset.range k, (cOne - a i + cEps) := by
    intro k
    induction k with
    | zero => intro _; exact ⟨0, by simp, by simp⟩
    | succ k ih =>
      intro hk
      obtain ⟨L, h1, h2⟩ := ih (by omega)
      obtain ⟨u, hu0, hu1⟩ := hu k (by omega)
      refine ⟨L + Real.log u, ?_, ?_⟩
      · rw [Finset.sum_range_succ, h1, hu1, Ideal.log_coe, if_neg (not_le.mpr hu0), EReal.coe_add]
      · rw [Finset.prod_range_succ, ← h2, hu1, Real.exp_add, Real.exp_log hu0, EReal.coe_mul]
  obtain ⟨L, h1, h2⟩ := key k hk
  by_cases h : k = 0
  · subst h; rw [if_pos rfl, vOne]; simp
  · rw [if_neg h, h1, Ideal.exp_coe, h2]

end Cert.Splat

end
-- ==== Proof.Camera.lean ====
/- The camera's rotation is real, and what the precondition says of the rotations. -/
module

public import proofs.«01_k».proof.Proof.Splat
public import proofs.«01_k».proof.Pre_proper_rotations

@[expose] public section

set_option maxRecDepth 1024

noncomputable section

namespace Cert.Camera

open Idealize.ShloMosaic Cert.Scene Cert.RefVal Cert.Splat
open Cert.ReferenceIdeal Cert.ReferenceIdeal.Gen Cert.ReferenceIdeal.Read

/-- Every element is a real number. -/
def Finite {s : Shape} (x : s.Idx → EReal) : Prop := ∀ i, ∃ r : ℝ, x i = (r : EReal)

section
variable {s : Shape} {x y : FVec Ideal s .f32} (hx : Finite x) (hy : Finite y)
include hx hy
theorem real_mulf : Finite (mulf x y) := fun i => by
  obtain ⟨a, ha⟩ := hx i
  obtain ⟨b, hb⟩ := hy i
  refine ⟨a * b, ?_⟩
  show x i * y i = _
  rw [ha, hb, EReal.coe_mul]
theorem real_addf : Finite (addf x y) := fun i => by
  obtain ⟨a, ha⟩ := hx i
  obtain ⟨b, hb⟩ := hy i
  refine ⟨a + b, ?_⟩
  show x i + y i = _
  rw [ha, hb, EReal.coe_add]
theorem real_subf : Finite (subf x y) := fun i => by
  obtain ⟨a, ha⟩ := hx i
  obtain ⟨b, hb⟩ := hy i
  refine ⟨a - b, ?_⟩
  show x i - y i = _
  rw [ha, hb, EReal.coe_sub]
end
theorem real_two : Finite (constant (F := Ideal) S_ .f32 0x40000000#32 : S_.Idx → EReal) := fun _ => ⟨2, vTwo⟩
theorem real_one : Finite (constant (F := Ideal) S_ .f32 0x3F800000#32 : S_.Idx → EReal) := fun _ => ⟨1, vOne⟩

theorem real_concat {t : Shape} (a : Fin t.rank) (xs : List ((s : Shape) × (s.Idx → EReal))) (h : Shape.Concatenates (xs.map (·.1)) t a)
    (hr : ∀ p ∈ xs, Finite p.2) : Finite (concatenate t a xs h) := fun i => hr _ (List.getElem_mem _) _

def at4 : Fin 4 ≃ S4.Idx where
  toFun k := ix1 k
  invFun i := i 0
  left_inv _ := rfl
  right_inv i := funext fun a => match a with | ⟨0, _⟩ => rfl

section
variable (x5 : (⟨S4, .f32⟩ : BufTy).Contents (Elt Ideal)) (hq : ∃ k : Fin 4, x5 (ix1 k) ≠ 0)

theorem c2' (j : Fin 4) : val_main_v2 (F := Ideal) x5 (ix1 j) = rQ (fun k => x5 (ix1 k)) j := by
  rw [val_main_v2_apply, val_main_v1_apply, val_main_v0_apply, val_main_call0_v1_apply]
  show Ideal.div _ (Ideal.sqrt (Ideal.ofBits .f32 0x00000000#32 + _)) = _
  rw [zbits, ← Equiv.sum_comp at4]
  rfl

include hq
theorem c2 : Finite (val_main_v2 (F := Ideal) x5) := fun i => by
  obtain ⟨r, hr⟩ := unit (fun k => x5 (ix1 k)) hq
  exact ⟨r (i 0), (congrArg (val_main_v2 (F := Ideal) x5) (at4.right_inv i).symm).trans ((c2' x5 (i 0)).trans (hr (i 0)).1)⟩
theorem c3 : Finite (val_main_v3 (F := Ideal) x5) := fun i => c2 x5 hq _
theorem c4 : Finite (val_main_v4 (F := Ideal) x5) := fun i => c3 x5 hq _
theorem c5 : Finite (val_main_v5 (F := Ideal) x5) := fun i => c2 x5 hq _
theorem c6 : Finite (val_main_v6 (F := Ideal) x5) := fun i => c5 x5 hq _
theorem c7 : Finite (val_main_v7 (F := Ideal) x5) := fun i => c2 x5 hq _
theorem c8 : Finite (val_main_v8 (F := Ideal) x5) := fun i => c7 x5 hq _
theorem c9 : Finite (val_main_v9 (F := Ideal) x5) := fun i => c2 x5 hq _
theorem c10 : Finite (val_main_v10 (F := Ideal) x5) := fun i => c9 x5 hq _
theorem c11 : Finite (val_main_v11 (F := Ideal) x5) := real_mulf (c8 x5 hq) (c8 x5 hq)
theorem c12 : Finite (val_main_v12 (F := Ideal) x5) := real_mulf (c10 x5 hq) (c10 x5 hq)
theorem c13 : Finite (val_main_v13 (F := Ideal) x5) := real_addf (c11 x5 hq) (c12 x5 hq)
theorem c14 : Finite (val_main_v14 (F := Ideal) x5) := real_mulf (real_two) (c13 x5 hq)
theorem c15 : Finite (val_main_v15 (F := Ideal) x5) := real_subf (real_one) (c14 x5 hq)
theorem c16 : Finite (val_main_v16 (F := Ideal) x5) := real_mulf (c6 x5 hq) (c8 x5 hq)
theorem c17 : Finite (val_main_v17 (F := Ideal) x5) := real_mulf (c4 x5 hq) (c10 x5 hq)
theorem c18 : Finite (val_main_v18 (F := Ideal) x5) := real_subf (c16 x5 hq) (c17 x5 hq)
theorem c19 : Finite (val_main_v19 (F := Ideal) x5) := real_mulf (real_two) (c18 x5 hq)
theorem c20 : Finite (val_main_v20 (F := Ideal) x5) := real_mulf (c6 x5 hq) (c10 x5 hq)
theorem c21 : Finite (val_main_v21 (F := Ideal) x5) := real_mulf (c4 x5 hq) (c8 x5 hq)
theorem c22 : Finite (val_main_v22 (F := Ideal) x5) := real_addf (c20 x5 hq) (c21 x5 hq)
theorem c23 : Finite (val_main_v23 (F := Ideal) x5) := real_mulf (real_two) (c22 x5 hq)
theorem c24 : Finite (val_main_v24 (F := Ideal) x5) := real_mulf (c6 x5 hq) (c8 x5 hq)
theorem c25 : Finite (val_main_v25 (F := Ideal) x5) := real_mulf (c4 x5 hq) (c10 x5 hq)
theorem c26 : Finite (val_main_v26 (F := Ideal) x5) := real_addf (c24 x5 hq) (c25 x5 hq)
theorem c27 : Finite (val_main_v27 (F := Ideal) x5) := real_mulf (real_two) (c26 x5 hq)
theorem c28 : Finite (val_main_v28 (F := Ideal) x5) := real_mulf (c6 x5 hq) (c6 x5 hq)
theorem c29 : Finite (val_main_v29 (F := Ideal) x5) := real_mulf (c10 x5 hq) (c10 x5 hq)
theorem c30 : Finite (val_main_v30 (F := Ideal) x5) := real_addf (c28 x5 hq) (c29 x5 hq)
theorem c31 : Finite (val_main_v31 (F := Ideal) x5) := real_mulf (real_two) (c30 x5 hq)
theorem c32 : Finite (val_main_v32 (F := Ideal) x5) := real_subf (real_one) (c31 x5 hq)
theorem c33 : Finite (val_main_v33 (F := Ideal) x5) := real_mulf (c8 x5 hq) (c10 x5 hq)
theorem c34 : Finite (val_main_v34 (F := Ideal) x5) := real_mulf (c4 x5 hq) (c6 x5 hq)
theorem c35 : Finite (val_main_v35 (F := Ideal) x5) := real_subf (c33 x5 hq) (c34 x5 hq)
theorem c36 : Finite (val_main_v36 (F := Ideal) x5) := real_mulf (real_two) (c35 x5 hq)
theorem c37 : Finite (val_main_v37 (F := Ideal) x5) := real_mulf (c6 x5 hq) (c10 x5 hq)
theorem c38 : Finite (val_main_v38 (F := Ideal) x5) := real_mulf (c4 x5 hq) (c8 x5 hq)
theorem c39 : Finite (val_main_v39 (F := Ideal) x5) := real_subf (c37 x5 hq) (c38 x5 hq)
theorem c40 : Finite (val_main_v40 (F := Ideal) x5) := real_mulf (real_two) (c39 x5 hq)
theorem c41 : Finite (val_main_v41 (F := Ideal) x5) := real_mulf (c8 x5 hq) (c10 x5 hq)
theorem c42 : Finite (val_main_v42 (F := Ideal) x5) := real_mulf (c4 x5 hq) (c6 x5 hq)
theorem c43 : Finite (val_main_v43 (F := Ideal) x5) := real_addf (c41 x5 hq) (c42 x5 hq)
theorem c44 : Finite (val_main_v44 (F := Ideal) x5) := real_mulf (real_two) (c43 x5 hq)
theorem c45 : Finite (val_main_v45 (F := Ideal) x5) := real_mulf (c6 x5 hq) (c6 x5 hq)
theorem c46 : Finite (val_main_v46 (F := Ideal) x5) := real_mulf (c8 x5 hq) (c8 x5 hq)
theorem c47 : Finite (val_main_v47 (F := Ideal) x5) := real_addf (c45 x5 hq) (c46 x5 hq)
theorem c48 : Finite (val_main_v48 (F := Ideal) x5) := real_mulf (real_two) (c47 x5 hq)
theorem c49 : Finite (val_main_v49 (F := Ideal) x5) := real_subf (real_one) (c48 x5 hq)
theorem c50 : Finite (val_main_v50 (F := Ideal) x5) := fun i => c15 x5 hq _
theorem c51 : Finite (val_main_v51 (F := Ideal) x5) := fun i => c19 x5 hq _
theorem c52 : Finite (val_main_v52 (F := Ideal) x5) := fun i => c23 x5 hq _
theorem c53 : Finite (val_main_v53 (F := Ideal) x5) := fun i => c27 x5 hq _
theorem c54 : Finite (val_main_v54 (F := Ideal) x5) := fun i => c32 x5 hq _
theorem c55 : Finite (val_main_v55 (F := Ideal) x5) := fun i => c36 x5 hq _
theorem c56 : Finite (val_main_v56 (F := Ideal) x5) := fun i => c40 x5 hq _
theorem c57 : Finite (val_main_v57 (F := Ideal) x5) := fun i => c44 x5 hq _
theorem c58 : Finite (val_main_v58 (F := Ideal) x5) := fun i => c49 x5 hq _
theorem c59 : Finite (val_main_v59 (F := Ideal) x5) := by
  unfold val_main_v59
  refine real_concat _ _ _ fun p hp => ?_
  simp only [List.mem_cons, List.not_mem_nil, or_false] at hp
  rcases hp with rfl | rfl | rfl | rfl | rfl | rfl | rfl | rfl | rfl
  exacts [c50 x5 hq, c51 x5 hq, c52 x5 hq, c53 x5 hq, c54 x5 hq, c55 x5 hq, c56 x5 hq, c57 x5 hq, c58 x5 hq]
/-- The camera's rotation, entry by entry. -/
theorem c60 : Finite (val_main_v60 (F := Ideal) x5) := fun i => by
  rw [val_main_v60_apply]
  exact c59 x5 hq _
end

theorem or_one : ∀ b c : BitVec 1, IntOp.ori b c = 1#1 → b = 1#1 ∨ c = 1#1 := by decide
/-- A fold by disjunction that comes out true met a true one. -/
theorem fold_or {α : Type} (l : List α) (x : α → BitVec 1) : ∀ b : BitVec 1, l.foldl (fun r n => IntOp.ori r (x n)) b = 1#1 → b = 1#1 ∨ ∃ n ∈ l, x n = 1#1 := by
  induction l with
  | nil => intro b h; exact Or.inl h
  | cons a l ih =>
    intro b h
    rcases ih _ h with h | ⟨n, hn, h⟩
    · rcases or_one b (x a) h with h | h
      · exact Or.inl h
      · exact Or.inr ⟨a, List.mem_cons_self .., h⟩
    · exact Or.inr ⟨n, List.mem_cons_of_mem _ hn, h⟩

theorem reduce_or {s t u : Shape} {axes : List (Fin s.rank)} (x : s.Idx → BitVec 1) (v : u.Idx → BitVec 1) (h : s.ReducesTo axes t) (hu : 0 < u.numel)
    (hv : ∀ i, v i = 0#1) (j : t.Idx) (e : Host.reduce IntOp.ori x v h hu j = 1#1) : ∃ i, h.drop i = j ∧ x i = 1#1 := by
  rcases fold_or _ _ _ e with h1 | ⟨n, hn, h1⟩
  · rw [hv] at h1; exact absurd h1 (by decide)
  · exact ⟨_, of_decide_eq_true (List.mem_filter.mp hn).2, h1⟩

section
variable [Cert.Pre_proper_rotations.Facts]
variable (x0 x1 x4 : Cert.Pre_proper_rotations.S4096x3.Idx → EReal) (x2 : Cert.Pre_proper_rotations.S4096.Idx → EReal)
variable (x3 : Cert.Pre_proper_rotations.S4096x4.Idx → EReal) (x5 : Cert.Pre_proper_rotations.S4.Idx → EReal) (x6 : Cert.Pre_proper_rotations.S3.Idx → EReal)

theorem ne_zero (a : EReal) (h : Ideal.cmp .une a (Ideal.ofBits .f32 0x00000000#32) = 1#1) : a ≠ 0 := by
  rw [zbits] at h
  exact of_decide_eq_true (bit _ h)

theorem pre_camera (h : (Cert.Pre_proper_rotations.fn (F := Ideal) x0 x1 x2 x3 x4 x5 x6).1 = fun _ => 1#1) : ∃ k : Fin 4, x5 (ix1 k) ≠ 0 := by
  unfold Cert.Pre_proper_rotations.fn at h
  dsimp only at h
  have h' := congrFun h (fun a => a.elim0)
  obtain ⟨i, -, hi⟩ := reduce_or _ _ _ _ (fun _ => rfl) _ h'
  exact ⟨i 0, fun e => ne_zero (x5 i) hi ((congrArg x5 (at4.right_inv i).symm).trans e)⟩

theorem pre_rotations (h : (Cert.Pre_proper_rotations.fn (F := Ideal) x0 x1 x2 x3 x4 x5 x6).2 = fun _ => 1#1) (n : Fin 4096) : ∃ k : Fin 4, x3 (ix2 n k) ≠ 0 := by
  unfold Cert.Pre_proper_rotations.fn at h
  dsimp only at h
  have h' := congrFun h (ix1 n)
  obtain ⟨i, hd, hi⟩ := reduce_or _ _ _ _ (fun _ => rfl) _ h'
  have h0 : (i 0).val = n.val := by
    have := congrArg (fun j : Cert.Pre_proper_rotations.S4096.Idx => (j 0).val) hd
    exact this
  have hi' : i = ix2 n (i 1) := funext fun a => match a with | ⟨0, _⟩ => Fin.ext h0 | ⟨1, _⟩ => rfl
  exact ⟨i 1, fun e => ne_zero (x3 i) hi ((congrArg x3 hi').trans e)⟩
end

end Cert.Camera

end
-- ==== Proof.Picture.lean ====
/- The picture the kernel leaves is the reference's. -/
module

public import proofs.«01_k».proof.Proof.KIWhole
public import proofs.«01_k».proof.Proof.KHostIdx
public import proofs.«01_k».proof.Proof.KIR0Sum
public import proofs.«01_k».proof.Proof.KIR1Sum
public import proofs.«01_k».proof.Proof.Camera

@[expose] public section

set_option maxRecDepth 1024

noncomputable section

namespace Cert.KernelIdeal.Whole

open Cert.KernelIdeal Idealize.ShloMosaic Idealize.ShloMosaic.TcCoe Idealize.SL.Sem Cert.KernelIdeal.Gen Cert.Scene Cert.RefVal Cert.Splat
open Cert.ReferenceIdeal.Read (val_main_v0 val_main_v60 val_main_v65 val_main_v71 val_main_v222 val_main_v336 val_main_v349)

/-- The one order both programs sort the depths into. -/
theorem order (x : S4096.Idx → EReal) : ∃ σ : Fin 4096 → Fin 4096,
    (∀ j, (Host.sort2 S4096 0 (comparator_f32_i32_d0 (F := Ideal)) x (iotaInDim S4096 32 0)).2 (ix1 j) = BitVec.ofNat 32 (σ j).val)
    ∧ ∀ j, (Host.sort2 S4096 0 (Cert.ReferenceIdeal.comparator_f32_i32_d0 (F := Ideal)) x (iotaInDim S4096 32 0)).2 (ix1 j) = BitVec.ofNat 32 (σ j).val := by
  obtain ⟨σ, h⟩ := sorted (comparator_f32_i32_d0 (F := Ideal)) x
  exact ⟨σ, h, h⟩

section
variable (m : (ℓ : Loc nD τ sig) → Buf (Elt Ideal) ℓ) (c : Dev nD)

/-- The seven arguments. -/
abbrev a0 : S4096x3.Idx → EReal := m ((c : Thread nD τ).loc main_arg0)
abbrev a1 : S4096x3.Idx → EReal := m ((c : Thread nD τ).loc main_arg1)
abbrev a2 : S4096.Idx → EReal := m ((c : Thread nD τ).loc main_arg2)
abbrev a3 : S4096x4.Idx → EReal := m ((c : Thread nD τ).loc main_arg3)
abbrev a4 : S4096x3.Idx → EReal := m ((c : Thread nD τ).loc main_arg4)
abbrev a5 : S4.Idx → EReal := m ((c : Thread nD τ).loc main_arg5)
abbrev a6 : S3.Idx → EReal := m ((c : Thread nD τ).loc main_arg6)

theorem w1_v0 : W1 m c (Proc.devRef .tc main_v0) = val_main_v0 (F := Ideal) (W1 m c (Proc.devRef .tc main_arg5)) :=
  (h_v0 (W0 m c)).trans (congrArg (val_main_v0 (F := Ideal)) (W1_args m c main_arg5 (by decide)).symm)
theorem w2_v60 : W2 m c (Proc.devRef .tc main_v60) = val_main_v60 (F := Ideal) (a5 m c) :=
  (h_v60 (W1 m c) (w1_v0 m c)).trans (by rw [W1_args m c main_arg5 (by decide)])
theorem w2_v65 : W2 m c (Proc.devRef .tc main_v65) = val_main_v65 (F := Ideal) (a0 m c) (a5 m c) (a6 m c) :=
  (h_v65 (W1 m c) (w1_v0 m c)).trans (by rw [W1_args m c main_arg0 (by decide), W1_args m c main_arg5 (by decide), W1_args m c main_arg6 (by decide)])
theorem w2_v67 : W2 m c (Proc.devRef .tc main_v67) = val_main_v71 (F := Ideal) (a0 m c) (a5 m c) (a6 m c) :=
  (h_v67 (W1 m c) (w1_v0 m c)).trans (by rw [W1_args m c main_arg0 (by decide), W1_args m c main_arg5 (by decide), W1_args m c main_arg6 (by decide)])
theorem w3_v68 : W3 m c (Proc.devRef .tc main_v68)
    = (Host.sort2 S4096 0 (comparator_f32_i32_d0 (F := Ideal)) (val_main_v71 (F := Ideal) (a0 m c) (a5 m c) (a6 m c) : S4096.Idx → EReal) (iotaInDim S4096 32 0)).2 :=
  (h_v68 (W2 m c)).trans (by rw [w2_v67])
theorem w3_v60 : W3 m c (Proc.devRef .tc main_v60) = val_main_v60 (F := Ideal) (a5 m c) := (W3_of m c main_v60 (by decide)).trans (w2_v60 m c)
theorem w3_v65 : W3 m c (Proc.devRef .tc main_v65) = val_main_v65 (F := Ideal) (a0 m c) (a5 m c) (a6 m c) := (W3_of m c main_v65 (by decide)).trans (w2_v65 m c)

theorem rcw : R0.rcwArr (V4 m) c = shapeCast S1x9 (val_main_v60 (F := Ideal) (a5 m c)) shapeCasts_S3x3_S1x9 :=
  (h_v85 (W3 m c)).trans (by rw [w3_v60])
theorem xin : R0.xinArr (V4 m) c = xinOf (val_main_v65 (F := Ideal) (a0 m c) (a5 m c) (a6 m c)) (a2 m c) (a3 m c) (a4 m c) :=
  (h_v80 (W3 m c)).trans (by rw [w3_v65, W3_args m c main_arg2 (by decide), W3_args m c main_arg3 (by decide), W3_args m c main_arg4 (by decide)])
theorem ord : R0.ordArr (V4 m) c = shapeCast S8x512 (Host.sort2 S4096 0 (comparator_f32_i32_d0 (F := Ideal)) (val_main_v71 (F := Ideal) (a0 m c) (a5 m c) (a6 m c) : S4096.Idx → EReal) (iotaInDim S4096 32 0)).2 shapeCasts_S4096_S8x512 :=
  (h_v84 (W3 m c)).trans (by rw [w3_v68])
theorem rgb : R0.rgbArr (V4 m) c = rgb8Of (a1 m c) :=
  (h_v83 (W3 m c)).trans (by rw [W3_args m c main_arg1 (by decide)])

section
variable (σ : Fin 4096 → Fin 4096)
variable (hk : ∀ j, (Host.sort2 S4096 0 (comparator_f32_i32_d0 (F := Ideal)) (val_main_v71 (F := Ideal) (a0 m c) (a5 m c) (a6 m c) : S4096.Idx → EReal) (iotaInDim S4096 32 0)).2 (ix1 j) = BitVec.ofNat 32 (σ j).val)

theorem hord (j : Fin 8) (k : Fin 512) (h : 512 * j.val + k.val < 4096) (hk : ∀ j, (Host.sort2 S4096 0 (comparator_f32_i32_d0 (F := Ideal)) (val_main_v71 (F := Ideal) (a0 m c) (a5 m c) (a6 m c) : S4096.Idx → EReal) (iotaInDim S4096 32 0)).2 (ix1 j) = BitVec.ofNat 32 (σ j).val) :
    R0.ordArr (V4 m) c (ix2 j k) = BitVec.ofNat 32 (σ ⟨512 * j.val + k.val, h⟩).val := by
  rw [ord, ord_apply _ j k h, hk]

include hk
theorem gs : R1.gArr (V5 m) c = R0.gsOut (V4 m) c σ := (W5_arr m c 4).trans (R0.final4 (V4 m) c σ fun j k h => hord m c σ j k h hk)
theorem cols : R1.rArr (V5 m) c = R0.rgbOut (V4 m) c σ := (W5_arr m c 5).trans (R0.final5 (V4 m) c σ fun j k h => hord m c σ j k h hk)

theorem col_at (q : Fin 3) (s : Fin 4096) : a1 m c (ix2 (σ s) q) = R1.rF (V5 m) c (q.castLE (by decide)) s.val := by
  unfold R1.rF
  rw [dif_pos s.isLt, cols m c σ hk]
  unfold R0.rgbOut
  rw [rgb]
  exact (rgb8_apply (σ s) (a1 m c) q).symm

omit hk in
theorem holds (n : Fin 4096) : Holds (R0.colX (R0.xinArr (V4 m) c) n) (fun j : Fin 3 => val_main_v65 (F := Ideal) (a0 m c) (a5 m c) (a6 m c) (ix2 n j))
    (fun k : Fin 4 => a3 m c (ix2 n k)) (fun k : Fin 3 => a4 m c (ix2 n k)) (a2 m c (ix1 n)) := by
  rw [xin]
  exact ⟨xin_p n _ _ _ _ 0, xin_p n _ _ _ _ 1, xin_p n _ _ _ _ 2, xin_q n _ _ _ _ 0, xin_q n _ _ _ _ 1, xin_q n _ _ _ _ 2, xin_q n _ _ _ _ 3,
    xin_s n _ _ _ _ 0, xin_s n _ _ _ _ 1, xin_s n _ _ _ _ 2, xin_o n _ _ _ _⟩

variable (h5 : ∃ k : Fin 4, a5 m c (ix1 k) ≠ 0) (h3 : ∀ n : Fin 4096, ∃ k : Fin 4, a3 m c (ix2 n k) ≠ 0)
include h5 h3

theorem op_at (n : ℕ) (s : Fin 4096) : R1.aF (V5 m) c n s.val
    = rAlpha (fun a b => val_main_v60 (F := Ideal) (a5 m c) (ix2 a b)) (fun j : Fin 3 => val_main_v65 (F := Ideal) (a0 m c) (a5 m c) (a6 m c) (ix2 (σ s) j))
      (fun k : Fin 4 => a3 m c (ix2 (σ s) k)) (fun k : Fin 3 => a4 m c (ix2 (σ s) k)) (a2 m c (ix1 (σ s))) n := by
  unfold R1.aF
  rw [dif_pos s.isLt, gs m c σ hk]
  unfold R0.gsOut
  rw [rcw, rotR_cast]
  exact alpha_eq _ _ _ _ _ _ (holds m c (σ s)) (h3 (σ s)) (fun i j => Cert.Camera.c60 (a5 m c) h5 (ix2 i j)) n

variable (hr : ∀ j : Fin 4096, val_main_v222 (F := Ideal) (a0 m c) (a5 m c) (a6 m c) (ix1 j) = BitVec.ofNat 32 (σ j).val)
include hr

theorem pixel (i : S64x64x3.Idx) (p : Fin 4096) (hp : p.val = (i 0).val * 64 + (i 1).val) (q : Fin 3) (hq : q.val = (i 2).val) :
    R1.img (V5 m) c (ix2 p (q.castLE (by decide))) = val_main_v349 (F := Ideal) (a0 m c) (a1 m c) (a2 m c) (a3 m c) (a4 m c) (a5 m c) (a6 m c) i := by
  have ha : ∀ s : Fin 4096, val_main_v336 (F := Ideal) (a0 m c) (a2 m c) (a3 m c) (a4 m c) (a5 m c) (a6 m c) (ix2 p s) = R1.aF (V5 m) c p.val s.val :=
    fun s => (r336 (a0 m c) (a2 m c) (a3 m c) (a4 m c) (a5 m c) (a6 m c) σ hr p s).trans (op_at m c σ hk h5 h3 p.val s).symm
  refine Eq.trans ?_ (r349 (a0 m c) (a1 m c) (a2 m c) (a3 m c) (a4 m c) (a5 m c) (a6 m c) σ hr p _ ha i q hq hp (R1.rF (V5 m) c (q.castLE (by decide))) (col_at m c σ hk q)).symm
  show lit (R1.aF (V5 m) c p.val) (R1.rF (V5 m) c (q.castLE (by decide))) 4096 = _
  unfold lit
  refine Finset.sum_congr rfl fun s hs => ?_
  rw [through_eq (R1.aF (V5 m) c p.val) 4096 (fun i hi => ?_) s (Finset.mem_range.mp hs).le]
  rw [show R1.aF (V5 m) c p.val i = _ from op_at m c σ hk h5 h3 p.val ⟨i, hi⟩]
  exact rAlpha_mem _ _ _ _ _ _
end

/-- The kernel's result, given that no rotation is the zero quaternion. -/
theorem picture (h5 : ∃ k : Fin 4, a5 m c (ix1 k) ≠ 0) (h3 : ∀ n : Fin 4096, ∃ k : Fin 4, a3 m c (ix2 n k) ≠ 0) :
    W7 m c (Proc.devRef .tc main_v89) = val_main_v349 (F := Ideal) (a0 m c) (a1 m c) (a2 m c) (a3 m c) (a4 m c) (a5 m c) (a6 m c) := by
  obtain ⟨σ, hk, hr⟩ := order (val_main_v71 (F := Ideal) (a0 m c) (a5 m c) (a6 m c))
  refine (h_v89 (W6 m c)).trans (funext fun i => ?_)
  have h0 : (i 0).val < 64 := (i 0).isLt
  have h1 : (i 1).val < 64 := (i 1).isLt
  have e : W6 m c (Proc.devRef .tc main_v87) = (R1.img (V5 m) c : Vec Ideal S4096x8 .f32) := (W6_arr m c 2).trans (R1.final (V5 m) c)
  rw [e]
  exact (out_apply _ i ⟨(i 0).val * 64 + (i 1).val, by omega⟩ rfl (i 2) rfl).trans (pixel m c σ hk h5 h3 hr i _ rfl (i 2) rfl)
end

end Cert.KernelIdeal.Whole

end
-- ==== Proof.lean ====
/- The claims of this certificate: the kernel's two calls compute the picture the reference computes. -/
module

public import proofs.«01_k».proof.Defs
public import proofs.«01_k».proof.Proof.KWhole
public import proofs.«01_k».proof.Proof.KIWhole
public import proofs.«01_k».proof.Proof.RefFrame
public import proofs.«01_k».proof.Proof.Picture
public import proofs.«01_k».proof.Proof.Gen.Kernel
public import proofs.«01_k».proof.Proof.Gen.KernelIdeal
public import proofs.«01_k».proof.Proof.Gen.ReferenceIdeal
public import proofs.«01_k».proof.Proof.Gen.Pre_proper_rotations
public import proofs.«01_k».proof.Proof.Gen.ReferenceIdeal.Run
public import proofs.«01_k».proof.Proof.Gen.ReferenceIdeal.Read

@[expose] public section

noncomputable section

namespace Cert.Proof

open Idealize.ShloMosaic Idealize.SL.Sem

section
open Cert.KernelIdeal Cert.KernelIdeal.Whole

/-- The kernel's run, its picture and its arguments read off at the end. -/
theorem kernel_run [Cert.Pre_proper_rotations.Facts] (m : (ℓ : Loc nD τ sig) → Buf (Elt Ideal) ℓ) (g : Dev nD → PrngReg) (hp : Cert.Pre_KernelIdeal_proper_rotations m) :
    θ_run (defs (F := Ideal)) (onTc (τ := τ) (main (F := Ideal))) ⟨m, fun _ => 0, g⟩ (fun r => ∀ c : Dev nD,
      r.2.mem ((c.tc : Thread nD τ).loc main_v89) = Cert.ReferenceIdeal.Read.val_main_v349 (F := Ideal) (a0 m c) (a1 m c) (a2 m c) (a3 m c) (a4 m c) (a5 m c) (a6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun r h c => ⟨(h.1 c _ (mem_uc main_v89 (by decide))).trans (picture m c
      (Cert.Camera.pre_camera _ _ _ _ _ _ _ (hp c).1) (Cert.Camera.pre_rotations _ _ _ _ _ _ _ (hp c).2)),
    arg_kept m (h.1 c) main_arg0 (by decide) (by decide), arg_kept m (h.1 c) main_arg1 (by decide) (by decide), arg_kept m (h.1 c) main_arg2 (by decide) (by decide), arg_kept m (h.1 c) main_arg3 (by decide) (by decide), arg_kept m (h.1 c) main_arg4 (by decide) (by decide), arg_kept m (h.1 c) main_arg5 (by decide) (by decide), arg_kept m (h.1 c) main_arg6 (by decide) (by decide)⟩) (run_all m g)
end

section
open Cert.ReferenceIdeal

set_option maxRecDepth 8192 in
/-- The reference's run, its picture as the reading's term. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v349) = Cert.ReferenceIdeal.Read.val_main_v349 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run (defs (F := Ideal)) _ _).mono ?_ (Cert.ReferenceIdeal.Value.run m g)
  intro r h c
  obtain ⟨h1, h2⟩ := h c
  refine ⟨?_, h2⟩
  refine h1.trans ?_
  have e := Cert.ReferenceIdeal.Read.val_main_v349_eq (F := Ideal) (Idealize.ShloMosaic.StableHlo.launchContents m c)
  exact e
end

/-- The two pictures, from memories that agree on the arguments. -/
theorem pictures_agree [Cert.Pre_proper_rotations.Facts] : Cert.algebraic_KernelIdeal_ReferenceIdeal_pre_proper_rotations := by
  intro m g m' g' hp he
  refine ⟨fun c => Cert.ReferenceIdeal.Read.val_main_v349 (F := Ideal) (Cert.KernelIdeal.Whole.a0 m c) (Cert.KernelIdeal.Whole.a1 m c) (Cert.KernelIdeal.Whole.a2 m c)
    (Cert.KernelIdeal.Whole.a3 m c) (Cert.KernelIdeal.Whole.a4 m c) (Cert.KernelIdeal.Whole.a5 m c) (Cert.KernelIdeal.Whole.a6 m c), kernel_run m g hp, ?_⟩
  refine (θ_run (Cert.ReferenceIdeal.defs (F := Ideal)) _ _).mono ?_ (reference_run m' g')
  intro r h c
  obtain ⟨h1, h2⟩ := h c
  refine ⟨?_, h2⟩
  obtain ⟨e0, e1, e2, e3, e4, e5, e6⟩ := he c
  rw [e0, e1, e2, e3, e4, e5, e6] at h1
  exact h1

theorem claim : Cert.Claim := ⟨Cert.Kernel.Gen.facts, Cert.KernelIdeal.Gen.facts, Cert.ReferenceIdeal.Gen.facts, Cert.Pre_proper_rotations.Gen.facts,
  fun m g _ => Cert.Kernel.Whole.frame m g,
  fun m g _ => Cert.KernelIdeal.Whole.frame m g,
  fun m g _ => Cert.KernelIdeal.Whole.frame m g,
  fun m g _ => Cert.ReferenceIdeal.Whole.frame m g,
  fun m g _ => Cert.ReferenceIdeal.Whole.frame m g,
  trivial,
  pictures_agree⟩

end Cert.Proof

end
